-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_memory [hPre_finite_memory : Cert.Pre_finite_memory.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_memory.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_memory [hPre_finite_memory : Cert.Pre_finite_memory.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_memory.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_memory [hKernel3Ideal : Cert.Kernel3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_memory m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_memory [hReference3Ideal : Cert.Reference3Ideal.Facts] [hPre_finite_memory : Cert.Pre_finite_memory.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_memory m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal_pre_finite_memory [hKernel3Ideal : Cert.Kernel3Ideal.Facts] [hReference3Ideal : Cert.Reference3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_memory m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v55_0)) (v1 : (c : Dev Cert.Kernel3Ideal.nD) → Buf (Elt Ideal) ((c.tc : Thread Cert.Kernel3Ideal.nD Cert.Kernel3Ideal.τ).loc Cert.Kernel3Ideal.main_v55_1)) (v2 : (c : Dev Cert.Kernel3Ideal.nD) → Buf (Elt Ideal) ((c.tc : Thread Cert.Kernel3Ideal.nD Cert.Kernel3Ideal.τ).loc Cert.Kernel3Ideal.main_v55_2)) (v3 : (c : Dev Cert.Kernel3Ideal.nD) → Buf (Elt Ideal) ((c.tc : Thread Cert.Kernel3Ideal.nD Cert.Kernel3Ideal.τ).loc Cert.Kernel3Ideal.main_v55_3)) (v4 : (c : Dev Cert.Kernel3Ideal.nD) → Buf (Elt Ideal) ((c.tc : Thread Cert.Kernel3Ideal.nD Cert.Kernel3Ideal.τ).loc Cert.Kernel3Ideal.main_v55_4)) (v5 : (c : Dev Cert.Kernel3Ideal.nD) → Buf (Elt Ideal) ((c.tc : Thread Cert.Kernel3Ideal.nD Cert.Kernel3Ideal.τ).loc Cert.Kernel3Ideal.main_v55_5)) (v6 : (c : Dev Cert.Kernel3Ideal.nD) → Buf (Elt Ideal) ((c.tc : Thread Cert.Kernel3Ideal.nD Cert.Kernel3Ideal.τ).loc Cert.Kernel3Ideal.main_v55_6)) (v7 : (c : Dev Cert.Kernel3Ideal.nD) → Buf (Elt Ideal) ((c.tc : Thread Cert.Kernel3Ideal.nD Cert.Kernel3Ideal.τ).loc Cert.Kernel3Ideal.main_v55_7)) (v8 : (c : Dev Cert.Kernel3Ideal.nD) → Buf (Elt Ideal) ((c.tc : Thread Cert.Kernel3Ideal.nD Cert.Kernel3Ideal.τ).loc Cert.Kernel3Ideal.main_v55_8)) (v9 : (c : Dev Cert.Kernel3Ideal.nD) → Buf (Elt Ideal) ((c.tc : Thread Cert.Kernel3Ideal.nD Cert.Kernel3Ideal.τ).loc Cert.Kernel3Ideal.main_v55_9)) (v10 : (c : Dev Cert.Kernel3Ideal.nD) → Buf (Elt Ideal) ((c.tc : Thread Cert.Kernel3Ideal.nD Cert.Kernel3Ideal.τ).loc Cert.Kernel3Ideal.main_v55_10)) (v11 : (c : Dev Cert.Kernel3Ideal.nD) → Buf (Elt Ideal) ((c.tc : Thread Cert.Kernel3Ideal.nD Cert.Kernel3Ideal.τ).loc Cert.Kernel3Ideal.main_v55_11)) (v12 : (c : Dev Cert.Kernel3Ideal.nD) → Buf (Elt Ideal) ((c.tc : Thread Cert.Kernel3Ideal.nD Cert.Kernel3Ideal.τ).loc Cert.Kernel3Ideal.main_v55_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v55_0) = v0 c
          ∧ r.2.mem ((c.tc : Thread Cert.Kernel3Ideal.nD Cert.Kernel3Ideal.τ).loc Cert.Kernel3Ideal.main_v55_1) = v1 c
          ∧ r.2.mem ((c.tc : Thread Cert.Kernel3Ideal.nD Cert.Kernel3Ideal.τ).loc Cert.Kernel3Ideal.main_v55_2) = v2 c
          ∧ r.2.mem ((c.tc : Thread Cert.Kernel3Ideal.nD Cert.Kernel3Ideal.τ).loc Cert.Kernel3Ideal.main_v55_3) = v3 c
          ∧ r.2.mem ((c.tc : Thread Cert.Kernel3Ideal.nD Cert.Kernel3Ideal.τ).loc Cert.Kernel3Ideal.main_v55_4) = v4 c
          ∧ r.2.mem ((c.tc : Thread Cert.Kernel3Ideal.nD Cert.Kernel3Ideal.τ).loc Cert.Kernel3Ideal.main_v55_5) = v5 c
          ∧ r.2.mem ((c.tc : Thread Cert.Kernel3Ideal.nD Cert.Kernel3Ideal.τ).loc Cert.Kernel3Ideal.main_v55_6) = v6 c
          ∧ r.2.mem ((c.tc : Thread Cert.Kernel3Ideal.nD Cert.Kernel3Ideal.τ).loc Cert.Kernel3Ideal.main_v55_7) = v7 c
          ∧ r.2.mem ((c.tc : Thread Cert.Kernel3Ideal.nD Cert.Kernel3Ideal.τ).loc Cert.Kernel3Ideal.main_v55_8) = v8 c
          ∧ r.2.mem ((c.tc : Thread Cert.Kernel3Ideal.nD Cert.Kernel3Ideal.τ).loc Cert.Kernel3Ideal.main_v55_9) = v9 c
          ∧ r.2.mem ((c.tc : Thread Cert.Kernel3Ideal.nD Cert.Kernel3Ideal.τ).loc Cert.Kernel3Ideal.main_v55_10) = v10 c
          ∧ r.2.mem ((c.tc : Thread Cert.Kernel3Ideal.nD Cert.Kernel3Ideal.τ).loc Cert.Kernel3Ideal.main_v55_11) = v11 c
          ∧ r.2.mem ((c.tc : Thread Cert.Kernel3Ideal.nD Cert.Kernel3Ideal.τ).loc Cert.Kernel3Ideal.main_v55_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v142) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v144) = v3 c
          ∧ r.2.mem ((c.tc : Thread Cert.Reference3Ideal.nD Cert.Reference3Ideal.τ).loc Cert.Reference3Ideal.main_v146) = v4 c
          ∧ r.2.mem ((c.tc : Thread Cert.Reference3Ideal.nD Cert.Reference3Ideal.τ).loc Cert.Reference3Ideal.main_v147) = v5 c
          ∧ r.2.mem ((c.tc : Thread Cert.Reference3Ideal.nD Cert.Reference3Ideal.τ).loc Cert.Reference3Ideal.main_v148) = v6 c
          ∧ r.2.mem ((c.tc : Thread Cert.Reference3Ideal.nD Cert.Reference3Ideal.τ).loc Cert.Reference3Ideal.main_v149) = v7 c
          ∧ r.2.mem ((c.tc : Thread Cert.Reference3Ideal.nD Cert.Reference3Ideal.τ).loc Cert.Reference3Ideal.main_v150) = v8 c
          ∧ r.2.mem ((c.tc : Thread Cert.Reference3Ideal.nD Cert.Reference3Ideal.τ).loc Cert.Reference3Ideal.main_v151) = v9 c
          ∧ r.2.mem ((c.tc : Thread Cert.Reference3Ideal.nD Cert.Reference3Ideal.τ).loc Cert.Reference3Ideal.main_v152) = v10 c
          ∧ r.2.mem ((c.tc : Thread Cert.Reference3Ideal.nD Cert.Reference3Ideal.τ).loc Cert.Reference3Ideal.main_v154) = v11 c
          ∧ r.2.mem ((c.tc : Thread Cert.Reference3Ideal.nD Cert.Reference3Ideal.τ).loc Cert.Reference3Ideal.main_v156) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_memory : Cert.Pre_finite_memory.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_memory (hKernel3Ideal := hKernel3Ideal) (hPre_finite_memory := hPre_finite_memory)
    ∧ quiescent_Reference3Ideal (hReference3Ideal := hReference3Ideal)
    ∧ quiescent_Reference3Ideal_pre_finite_memory (hReference3Ideal := hReference3Ideal) (hPre_finite_memory := hPre_finite_memory)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_memory (hKernel3Ideal := hKernel3Ideal) (hReference3Ideal := hReference3Ideal) (hPre_finite_memory := hPre_finite_memory)
-- ==== Pre_finite_memory.lean ====
abbrev S16384x1024 : Shape := ⟨2, ![16384, 1024]⟩
abbrev S1024x9952 : Shape := ⟨2, ![1024, 9952]⟩
abbrev S384 : Shape := ⟨1, ![384]⟩
abbrev S384x8x192 : Shape := ⟨3, ![384, 8, 192]⟩
abbrev S256 : Shape := ⟨1, ![256]⟩
abbrev S256x8x128 : Shape := ⟨3, ![256, 8, 128]⟩
abbrev S3072 : Shape := ⟨1, ![3072]⟩
abbrev S2048x1024 : Shape := ⟨2, ![2048, 1024]⟩
abbrev S1024x1024 : Shape := ⟨2, ![1024, 1024]⟩
abbrev S19456x1024 : Shape := ⟨2, ![19456, 1024]⟩
abbrev S_ : Shape := ⟨0, ![]⟩

class Facts : Prop where
  slices_S1024x9952_S1024x1024_0_5856 : S1024x9952.Slices ![0, 5856] S1024x1024
  transposes_S1024x1024_S1024x1024_1_0 : S1024x1024.Transposes [1, 0] S1024x1024
  concatenates_S16384x1024_S2048x1024_S1024x1024_S19456x1024_d0 : Shape.Concatenates [S16384x1024, S2048x1024, S1024x1024] S19456x1024 0
  bcast_S_S19456x1024 : S_.BroadcastsInDim S19456x1024 (![] : Fin 0 → Fin S19456x1024.rank)

variable [Facts]

def fn {F : FTy → Type} [FloatOps F] (main_arg0 : FVec F S16384x1024 .f32) (main_arg1 : FVec F S1024x9952 .f32) (main_arg2 : FVec F S384 .f32) (main_arg3 : FVec F S384x8x192 .f32) (main_arg4 : FVec F S256 .f32) (main_arg5 : FVec F S256x8x128 .f32) (main_arg6 : FVec F S256x8x128 .f32) (main_arg7 : FVec F S3072 .f32) (main_arg8 : FVec F S2048x1024 .f32) (main_arg9 : FVec F S2048x1024 .f32) : IVec S19456x1024 1 :=
  let main_v0 : FVec F S1024x1024 .f32 := (extractStridedSlice S1024x1024 ![0, 5856] · slices_S1024x9952_S1024x1024_0_5856) main_arg1
  let main_v1 : FVec F S1024x1024 .f32 := (transpose S1024x1024 [1, 0] · transposes_S1024x1024_S1024x1024_1_0) main_v0
  let main_v2 : FVec F S19456x1024 .f32 := concatenate S19456x1024 0 [⟨S16384x1024, main_arg0⟩, ⟨S2048x1024, main_arg8⟩, ⟨S1024x1024, main_v1⟩] concatenates_S16384x1024_S2048x1024_S1024x1024_S19456x1024_d0
  let main_v3 : FVec F S19456x1024 .f32 := Host.absf main_v2
  let main_cst : FVec F S_ .f32 := constant S_ .f32 0x7F800000#32
  let main_v4 : FVec F S19456x1024 .f32 := broadcastInDim S19456x1024 ![] bcast_S_S19456x1024 main_cst
  let main_v5 : IVec S19456x1024 1 := cmpf .olt main_v3 main_v4
  main_v5
-- ==== Pre_finite_scores.lean ====
abbrev S8x256x16384 : Shape := ⟨3, ![8, 256, 16384]⟩
abbrev S8x16384x256 : Shape := ⟨3, ![8, 16384, 256]⟩
abbrev S8x64x128x256 : Shape := ⟨4, ![8, 64, 128, 256]⟩
abbrev S_ : Shape := ⟨0, ![]⟩

class Facts : Prop where
  bitsLt_bf16_f32 : FTy.bits .bf16 < FTy.bits .f32
  bcast_S_S8x256x16384 : S_.BroadcastsInDim S8x256x16384 (![] : Fin 0 → Fin S8x256x16384.rank)
  bcast_S_S8x16384x256 : S_.BroadcastsInDim S8x16384x256 (![] : Fin 0 → Fin S8x16384x256.rank)
  transposes_S8x16384x256_S8x256x16384_0_2_1 : S8x16384x256.Transposes [0, 2, 1] S8x256x16384

variable [Facts]

def fn {F : FTy → Type} [FloatOps F] (main_arg0 : FVec F S8x256x16384 .bf16) (main_arg1 : FVec F S8x16384x256 .bf16) (main_arg2 : FVec F S8x64x128x256 .bf16) : IVec S8x256x16384 1 :=
  let main_v0 : FVec F S8x256x16384 .f32 := (extf .f32 · bitsLt_bf16_f32) main_arg0
  let main_v1 : FVec F S8x256x16384 .f32 := Host.absf main_v0
  let main_cst : FVec F S_ .f32 := constant S_ .f32 0x7F800000#32
  let main_v2 : FVec F S8x256x16384 .f32 := broadcastInDim S8x256x16384 ![] bcast_S_S8x256x16384 main_cst
  let main_v3 : IVec S8x256x16384 1 := cmpf .olt main_v1 main_v2
  let main_v4 : FVec F S8x16384x256 .f32 := (extf .f32 · bitsLt_bf16_f32) main_arg1
  let main_v5 : FVec F S8x16384x256 .f32 := Host.absf main_v4
  let main_cst_0 : FVec F S_ .f32 := constant S_ .f32 0x7F800000#32
  let main_v6 : FVec F S8x16384x256 .f32 := broadcastInDim S8x16384x256 ![] bcast_S_S8x16384x256 main_cst_0
  let main_v7 : IVec S8x16384x256 1 := cmpf .olt main_v5 main_v6
  let main_v8 : IVec S8x256x16384 1 := (transpose S8x256x16384 [0, 2, 1] · transposes_S8x16384x256_S8x256x16384_0_2_1) main_v7
  let main_v9 : IVec S8x256x16384 1 := andi main_v3 main_v8
  main_v9
-- ==== Kernel.lean ====
abbrev S8x256x16384 : Shape := ⟨3, ![8, 256, 16384]⟩
abbrev S8x16384x256 : Shape := ⟨3, ![8, 16384, 256]⟩
abbrev S8x64x128x256 : Shape := ⟨4, ![8, 64, 128, 256]⟩
abbrev S16384x1024 : Shape := ⟨2, ![16384, 1024]⟩
abbrev S8x256x256 : Shape := ⟨3, ![8, 256, 256]⟩
abbrev S8x2048x256 : Shape := ⟨3, ![8, 2048, 256]⟩
abbrev S8x8x128x256 : Shape := ⟨4, ![8, 8, 128, 256]⟩
abbrev S256x1024 : Shape := ⟨2, ![256, 1024]⟩
abbrev S8x256 : Shape := ⟨2, ![8, 256]⟩
abbrev S8x128x256 : Shape := ⟨3, ![8, 128, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x1x128x256 : Shape := ⟨4, ![1, 1, 128, 256]⟩
abbrev S256x128 : Shape := ⟨2, ![256, 128]⟩

abbrev nBuf : Space → Nat
  | .hbm => 4
  | .vmem => 11
  | .smem => 0
  | _ => 0

abbrev bufTy : (tb : Table) → Fin (tcTables nBuf tb) → BufTy
  | .hbm, ⟨0, _⟩ => ⟨S8x256x16384, .bf16⟩
  | .hbm, ⟨1, _⟩ => ⟨S8x16384x256, .bf16⟩
  | .hbm, ⟨2, _⟩ => ⟨S8x64x128x256, .bf16⟩
  | .hbm, ⟨3, _⟩ => ⟨S16384x1024, .bf16⟩
  | .local _ .vmem, ⟨0, _⟩ => ⟨S8x256x256, .bf16⟩
  | .local _ .vmem, ⟨1, _⟩ => ⟨S8x256x256, .bf16⟩
  | .local _ .vmem, ⟨2, _⟩ => ⟨S8x2048x256, .bf16⟩
  | .local _ .vmem, ⟨3, _⟩ => ⟨S8x2048x256, .bf16⟩
  | .local _ .vmem, ⟨4, _⟩ => ⟨S8x8x128x256, .bf16⟩
  | .local _ .vmem, ⟨5, _⟩ => ⟨S8x8x128x256, .bf16⟩
  | .local _ .vmem, ⟨6, _⟩ => ⟨S256x1024, .bf16⟩
  | .local _ .vmem, ⟨7, _⟩ => ⟨S256x1024, .bf16⟩
  | .local _ .vmem, ⟨8, _⟩ => ⟨S8x256, .f32⟩
  | .local _ .vmem, ⟨9, _⟩ => ⟨S8x256, .f32⟩
  | .local _ .vmem, ⟨10, _⟩ => ⟨S8x128x256, .f32⟩
  | _, _ => ⟨S8x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_15 : BitVec 32 := 1#32
  ⟨c0_i32_13, v33, c1_i32_15⟩
def k0_mult1 (i : grid0.Coords) (k0_t1 : Fin (k0_t1_loop i).trips) : BitVec 32 :=
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  v445
def k0_off1 (i : grid0.Coords) (k0_t1 : Fin (k0_t1_loop i).trips) : Fin 3 → Nat :=
  let c0_285 : Index := 0#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v447 : Index := Scalar.indexCast v446
  let c0_286 : Index := 0#32
  ![0, v447.toNat, 0]
def k0_off2 (i : grid0.Coords) (k0_t1 : Fin (k0_t1_loop i).trips) : Fin 3 → Nat :=
  let c1_291 : Index := 1#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v453 : Index := Scalar.indexCast v446
  let c0_292 : Index := 0#32
  ![1, v453.toNat, 0]
def k0_off3 (i : grid0.Coords) (k0_t1 : Fin (k0_t1_loop i).trips) : Fin 3 → Nat :=
  let c2_297 : Index := 2#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v459 : Index := Scalar.indexCast v446
  let c0_298 : Index := 0#32
  ![2, v459.toNat, 0]
def k0_off4 (i : grid0.Coords) (k0_t1 : Fin (k0_t1_loop i).trips) : Fin 3 → Nat :=
  let c3_303 : Index := 3#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v465 : Index := Scalar.indexCast v446
  let c0_304 : Index := 0#32
  ![3, v465.toNat, 0]
def k0_off5 (i : grid0.Coords) (k0_t1 : Fin (k0_t1_loop i).trips) : Fin 3 → Nat :=
  let c4_309 : Index := 4#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v471 : Index := Scalar.indexCast v446
  let c0_310 : Index := 0#32
  ![4, v471.toNat, 0]
def k0_off6 (i : grid0.Coords) (k0_t1 : Fin (k0_t1_loop i).trips) : Fin 3 → Nat :=
  let c5_315 : Index := 5#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v477 : Index := Scalar.indexCast v446
  let c0_316 : Index := 0#32
  ![5, v477.toNat, 0]
def k0_off7 (i : grid0.Coords) (k0_t1 : Fin (k0_t1_loop i).trips) : Fin 3 → Nat :=
  let c6_321 : Index := 6#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v483 : Index := Scalar.indexCast v446
  let c0_322 : Index := 0#32
  ![6, v483.toNat, 0]
def k0_off8 (i : grid0.Coords) (k0_t1 : Fin (k0_t1_loop i).trips) : Fin 3 → Nat :=
  let c7_327 : Index := 7#32
  let c2_i32_283 : BitVec 32 := 2#32
  let c0_i32_13 : BitVec 32 := 0#32
  let c1_i32_15 : BitVec 32 := 1#32
  let arg9 : BitVec 32 := Scf.iv c0_i32_13 c1_i32_15 k0_t1
  let v444 : BitVec 32 := Scalar.muli c2_i32_283 arg9
  let c256_i32_284 : BitVec 32 := 256#32
  let v445 : BitVec 32 := Scalar.muli v444 c256_i32_284
  let v446 : BitVec 32 := v445
  let v489 : Index := Scalar.indexCast v446
  let c0_328 : Index := 0#32
  ![7, v489.toNat, 0]
def k0_mult2 (i : grid0.Coords) (k0_t1 : Fin (k0_t1_loop i).trips) : BitVec 32 :=
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  v497
def k0_off9 (i : grid0.Coords) (k0_t1 : Fin (k0_t1_loop i).trips) : Fin 3 → Nat :=
  let c0_336 : Index := 0#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v499 : Index := Scalar.indexCast v498
  let c0_337 : Index := 0#32
  ![0, v499.toNat, 0]
def k0_off10 (i : grid0.Coords) (k0_t1 : Fin (k0_t1_loop i).trips) : Fin 3 → Nat :=
  let c1_342 : Index := 1#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v505 : Index := Scalar.indexCast v498
  let c0_343 : Index := 0#32
  ![1, v505.toNat, 0]
def k0_off11 (i : grid0.Coords) (k0_t1 : Fin (k0_t1_loop i).trips) : Fin 3 → Nat :=
  let c2_348 : Index := 2#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v511 : Index := Scalar.indexCast v498
  let c0_349 : Index := 0#32
  ![2, v511.toNat, 0]
def k0_off12 (i : grid0.Coords) (k0_t1 : Fin (k0_t1_loop i).trips) : Fin 3 → Nat :=
  let c3_354 : Index := 3#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v517 : Index := Scalar.indexCast v498
  let c0_355 : Index := 0#32
  ![3, v517.toNat, 0]
def k0_off13 (i : grid0.Coords) (k0_t1 : Fin (k0_t1_loop i).trips) : Fin 3 → Nat :=
  let c4_360 : Index := 4#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v523 : Index := Scalar.indexCast v498
  let c0_361 : Index := 0#32
  ![4, v523.toNat, 0]
def k0_off14 (i : grid0.Coords) (k0_t1 : Fin (k0_t1_loop i).trips) : Fin 3 → Nat :=
  let c5_366 : Index := 5#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v529 : Index := Scalar.indexCast v498
  let c0_367 : Index := 0#32
  ![5, v529.toNat, 0]
def k0_off15 (i : grid0.Coords) (k0_t1 : Fin (k0_t1_loop i).trips) : Fin 3 → Nat :=
  let c6_372 : Index := 6#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v535 : Index := Scalar.indexCast v498
  let c0_373 : Index := 0#32
  ![6, v535.toNat, 0]
def k0_off16 (i : grid0.Coords) (k0_t1 : Fin (k0_t1_loop i).trips) : Fin 3 → Nat :=
  let c7_378 : Index := 7#32
  let c2_i32_333 : BitVec 32 := 2#32
  let c0_i32_13 : BitVec 32 := 0#32
  let c1_i32_15 : BitVec 32 := 1#32
  let arg9 : BitVec 32 := Scf.iv c0_i32_13 c1_i32_15 k0_t1
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v541 : Index := Scalar.indexCast v498
  let c0_379 : Index := 0#32
  ![7, v541.toNat, 0]
def k0_off17 (i : grid0.Coords) (k0_t1 : Fin (k0_t1_loop i).trips) : Fin 4 → Nat :=
  let c0_398 : Index := 0#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v572 : Index := Scalar.indexCast v547
  let c0_399 : Index := 0#32
  let c0_400 : Index := 0#32
  ![0, v572.toNat, 0, 0]
def k0_off18 (i : grid0.Coords) (k0_t1 : Fin (k0_t1_loop i).trips) : Fin 4 → Nat :=
  let c1_418 : Index := 1#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v605 : Index := Scalar.indexCast v547
  let c0_419 : Index := 0#32
  let c0_420 : Index := 0#32
  ![1, v605.toNat, 0, 0]
def k0_off19 (i : grid0.Coords) (k0_t1 : Fin (k0_t1_loop i).trips) : Fin 4 → Nat :=
  let c2_438 : Index := 2#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v638 : Index := Scalar.indexCast v547
  let c0_439 : Index := 0#32
  let c0_440 : Index := 0#32
  ![2, v638.toNat, 0, 0]
def k0_off20 (i : grid0.Coords) (k0_t1 : Fin (k0_t1_loop i).trips) : Fin 4 → Nat :=
  let c3_458 : Index := 3#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v671 : Index := Scalar.indexCast v547
  let c0_459 : Index := 0#32
  let c0_460 : Index := 0#32
  ![3, v671.toNat, 0, 0]
def k0_off21 (i : grid0.Coords) (k0_t1 : Fin (k0_t1_loop i).trips) : Fin 4 → Nat :=
  let c4_478 : Index := 4#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v704 : Index := Scalar.indexCast v547
  let c0_479 : Index := 0#32
  let c0_480 : Index := 0#32
  ![4, v704.toNat, 0, 0]
def k0_off22 (i : grid0.Coords) (k0_t1 : Fin (k0_t1_loop i).trips) : Fin 4 → Nat :=
  let c5_498 : Index := 5#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v737 : Index := Scalar.indexCast v547
  let c0_499 : Index := 0#32
  let c0_500 : Index := 0#32
  ![5, v737.toNat, 0, 0]
def k0_off23 (i : grid0.Coords) (k0_t1 : Fin (k0_t1_loop i).trips) : Fin 4 → Nat :=
  let c6_518 : Index := 6#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v770 : Index := Scalar.indexCast v547
  let c0_519 : Index := 0#32
  let c0_520 : Index := 0#32
  ![6, v770.toNat, 0, 0]
def k0_off24 (i : grid0.Coords) (k0_t1 : Fin (k0_t1_loop i).trips) : Fin 4 → Nat :=
  let c7_538 : Index := 7#32
  let c2_i32_384 : BitVec 32 := 2#32
  let c0_i32_13 : BitVec 32 := 0#32
  let c1_i32_15 : BitVec 32 := 1#32
  let arg9 : BitVec 32 := Scf.iv c0_i32_13 c1_i32_15 k0_t1
  let v547 : BitVec 32 := Scalar.muli c2_i32_384 arg9
  let v803 : Index := Scalar.indexCast v547
  let c0_539 : Index := 0#32
  let c0_540 : Index := 0#32
  ![7, v803.toNat, 0, 0]
def k0_off25 (i : grid0.Coords) (k0_t1 : Fin (k0_t1_loop i).trips) : Fin 4 → Nat :=
  let c0_560 : Index := 0#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v838 : Index := Scalar.indexCast v813
  let c0_561 : Index := 0#32
  let c0_562 : Index := 0#32
  ![0, v838.toNat, 0, 0]
def k0_off26 (i : grid0.Coords) (k0_t1 : Fin (k0_t1_loop i).trips) : Fin 4 → Nat :=
  let c1_580 : Index := 1#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v871 : Index := Scalar.indexCast v813
  let c0_581 : Index := 0#32
  let c0_582 : Index := 0#32
  ![1, v871.toNat, 0, 0]
def k0_off27 (i : grid0.Coords) (k0_t1 : Fin (k0_t1_loop i).trips) : Fin 4 → Nat :=
  let c2_600 : Index := 2#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v904 : Index := Scalar.indexCast v813
  let c0_601 : Index := 0#32
  let c0_602 : Index := 0#32
  ![2, v904.toNat, 0, 0]
def k0_off28 (i : grid0.Coords) (k0_t1 : Fin (k0_t1_loop i).trips) : Fin 4 → Nat :=
  let c3_620 : Index := 3#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v937 : Index := Scalar.indexCast v813
  let c0_621 : Index := 0#32
  let c0_622 : Index := 0#32
  ![3, v937.toNat, 0, 0]
def k0_off29 (i : grid0.Coords) (k0_t1 : Fin (k0_t1_loop i).trips) : Fin 4 → Nat :=
  let c4_640 : Index := 4#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v970 : Index := Scalar.indexCast v813
  let c0_641 : Index := 0#32
  let c0_642 : Index := 0#32
  ![4, v970.toNat, 0, 0]
def k0_off30 (i : grid0.Coords) (k0_t1 : Fin (k0_t1_loop i).trips) : Fin 4 → Nat :=
  let c5_660 : Index := 5#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v1003 : Index := Scalar.indexCast v813
  let c0_661 : Index := 0#32
  let c0_662 : Index := 0#32
  ![5, v1003.toNat, 0, 0]
def k0_off31 (i : grid0.Coords) (k0_t1 : Fin (k0_t1_loop i).trips) : Fin 4 → Nat :=
  let c6_680 : Index := 6#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v1036 : Index := Scalar.indexCast v813
  let c0_681 : Index := 0#32
  let c0_682 : Index := 0#32
  ![6, v1036.toNat, 0, 0]
def k0_off32 (i : grid0.Coords) (k0_t1 : Fin (k0_t1_loop i).trips) : Fin 4 → Nat :=
  let c7_700 : Index := 7#32
  let c2_i32_545 : BitVec 32 := 2#32
  let c0_i32_13 : BitVec 32 := 0#32
  let c1_i32_15 : BitVec 32 := 1#32
  let arg9 : BitVec 32 := Scf.iv c0_i32_13 c1_i32_15 k0_t1
  let v812 : BitVec 32 := Scalar.muli c2_i32_545 arg9
  let c1_i32_546 : BitVec 32 := 1#32
  let v813 : BitVec 32 := Scalar.addi v812 c1_i32_546
  let v1069 : Index := Scalar.indexCast v813
  let c0_701 : Index := 0#32
  let c0_702 : Index := 0#32
  ![7, v1069.toNat, 0, 0]
@[reducible] def k0_t2_loop (i : grid0.Coords) : Scf.Loop 32 :=
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let v30 : BitVec 32 := Scalar.addi c0_i32_13 v29
  let c1_i32_16 : BitVec 32 := 1#32
  ⟨v33, v30, c1_i32_16⟩
def k0_mult3 (i : grid0.Coords) (k0_t2 : Fin (k0_t2_loop i).trips) : BitVec 32 :=
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  v445
def k0_off33 (i : grid0.Coords) (k0_t2 : Fin (k0_t2_loop i).trips) : Fin 3 → Nat :=
  let c0_285 : Index := 0#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v447 : Index := Scalar.indexCast v446
  let c0_286 : Index := 0#32
  ![0, v447.toNat, 0]
def k0_off34 (i : grid0.Coords) (k0_t2 : Fin (k0_t2_loop i).trips) : Fin 3 → Nat :=
  let c1_291 : Index := 1#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v453 : Index := Scalar.indexCast v446
  let c0_292 : Index := 0#32
  ![1, v453.toNat, 0]
def k0_off35 (i : grid0.Coords) (k0_t2 : Fin (k0_t2_loop i).trips) : Fin 3 → Nat :=
  let c2_297 : Index := 2#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v459 : Index := Scalar.indexCast v446
  let c0_298 : Index := 0#32
  ![2, v459.toNat, 0]
def k0_off36 (i : grid0.Coords) (k0_t2 : Fin (k0_t2_loop i).trips) : Fin 3 → Nat :=
  let c3_303 : Index := 3#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v465 : Index := Scalar.indexCast v446
  let c0_304 : Index := 0#32
  ![3, v465.toNat, 0]
def k0_off37 (i : grid0.Coords) (k0_t2 : Fin (k0_t2_loop i).trips) : Fin 3 → Nat :=
  let c4_309 : Index := 4#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v471 : Index := Scalar.indexCast v446
  let c0_310 : Index := 0#32
  ![4, v471.toNat, 0]
def k0_off38 (i : grid0.Coords) (k0_t2 : Fin (k0_t2_loop i).trips) : Fin 3 → Nat :=
  let c5_315 : Index := 5#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v477 : Index := Scalar.indexCast v446
  let c0_316 : Index := 0#32
  ![5, v477.toNat, 0]
def k0_off39 (i : grid0.Coords) (k0_t2 : Fin (k0_t2_loop i).trips) : Fin 3 → Nat :=
  let c6_321 : Index := 6#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v483 : Index := Scalar.indexCast v446
  let c0_322 : Index := 0#32
  ![6, v483.toNat, 0]
def k0_off40 (i : grid0.Coords) (k0_t2 : Fin (k0_t2_loop i).trips) : Fin 3 → Nat :=
  let c7_327 : Index := 7#32
  let c2_i32_283 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v444 : BitVec 32 := Scalar.muli c2_i32_283 arg9
  let c256_i32_284 : BitVec 32 := 256#32
  let v445 : BitVec 32 := Scalar.muli v444 c256_i32_284
  let v446 : BitVec 32 := v445
  let v489 : Index := Scalar.indexCast v446
  let c0_328 : Index := 0#32
  ![7, v489.toNat, 0]
def k0_mult4 (i : grid0.Coords) (k0_t2 : Fin (k0_t2_loop i).trips) : BitVec 32 :=
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  v497
def k0_off41 (i : grid0.Coords) (k0_t2 : Fin (k0_t2_loop i).trips) : Fin 3 → Nat :=
  let c0_336 : Index := 0#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v499 : Index := Scalar.indexCast v498
  let c0_337 : Index := 0#32
  ![0, v499.toNat, 0]
def k0_off42 (i : grid0.Coords) (k0_t2 : Fin (k0_t2_loop i).trips) : Fin 3 → Nat :=
  let c1_342 : Index := 1#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v505 : Index := Scalar.indexCast v498
  let c0_343 : Index := 0#32
  ![1, v505.toNat, 0]
def k0_off43 (i : grid0.Coords) (k0_t2 : Fin (k0_t2_loop i).trips) : Fin 3 → Nat :=
  let c2_348 : Index := 2#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v511 : Index := Scalar.indexCast v498
  let c0_349 : Index := 0#32
  ![2, v511.toNat, 0]
def k0_off44 (i : grid0.Coords) (k0_t2 : Fin (k0_t2_loop i).trips) : Fin 3 → Nat :=
  let c3_354 : Index := 3#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v517 : Index := Scalar.indexCast v498
  let c0_355 : Index := 0#32
  ![3, v517.toNat, 0]
def k0_off45 (i : grid0.Coords) (k0_t2 : Fin (k0_t2_loop i).trips) : Fin 3 → Nat :=
  let c4_360 : Index := 4#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v523 : Index := Scalar.indexCast v498
  let c0_361 : Index := 0#32
  ![4, v523.toNat, 0]
def k0_off46 (i : grid0.Coords) (k0_t2 : Fin (k0_t2_loop i).trips) : Fin 3 → Nat :=
  let c5_366 : Index := 5#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v529 : Index := Scalar.indexCast v498
  let c0_367 : Index := 0#32
  ![5, v529.toNat, 0]
def k0_off47 (i : grid0.Coords) (k0_t2 : Fin (k0_t2_loop i).trips) : Fin 3 → Nat :=
  let c6_372 : Index := 6#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v535 : Index := Scalar.indexCast v498
  let c0_373 : Index := 0#32
  ![6, v535.toNat, 0]
def k0_off48 (i : grid0.Coords) (k0_t2 : Fin (k0_t2_loop i).trips) : Fin 3 → Nat :=
  let c7_378 : Index := 7#32
  let c2_i32_333 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v495 : BitVec 32 := Scalar.muli c2_i32_333 arg9
  let c1_i32_334 : BitVec 32 := 1#32
  let v496 : BitVec 32 := Scalar.addi v495 c1_i32_334
  let c256_i32_335 : BitVec 32 := 256#32
  let v497 : BitVec 32 := Scalar.muli v496 c256_i32_335
  let v498 : BitVec 32 := v497
  let v541 : Index := Scalar.indexCast v498
  let c0_379 : Index := 0#32
  ![7, v541.toNat, 0]
def k0_off49 (i : grid0.Coords) (k0_t2 : Fin (k0_t2_loop i).trips) : Fin 4 → Nat :=
  let c0_398 : Index := 0#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v572 : Index := Scalar.indexCast v547
  let c0_399 : Index := 0#32
  let c0_400 : Index := 0#32
  ![0, v572.toNat, 0, 0]
def k0_off50 (i : grid0.Coords) (k0_t2 : Fin (k0_t2_loop i).trips) : Fin 4 → Nat :=
  let c1_418 : Index := 1#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v605 : Index := Scalar.indexCast v547
  let c0_419 : Index := 0#32
  let c0_420 : Index := 0#32
  ![1, v605.toNat, 0, 0]
def k0_off51 (i : grid0.Coords) (k0_t2 : Fin (k0_t2_loop i).trips) : Fin 4 → Nat :=
  let c2_438 : Index := 2#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v638 : Index := Scalar.indexCast v547
  let c0_439 : Index := 0#32
  let c0_440 : Index := 0#32
  ![2, v638.toNat, 0, 0]
def k0_off52 (i : grid0.Coords) (k0_t2 : Fin (k0_t2_loop i).trips) : Fin 4 → Nat :=
  let c3_458 : Index := 3#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v671 : Index := Scalar.indexCast v547
  let c0_459 : Index := 0#32
  let c0_460 : Index := 0#32
  ![3, v671.toNat, 0, 0]
def k0_off53 (i : grid0.Coords) (k0_t2 : Fin (k0_t2_loop i).trips) : Fin 4 → Nat :=
  let c4_478 : Index := 4#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v704 : Index := Scalar.indexCast v547
  let c0_479 : Index := 0#32
  let c0_480 : Index := 0#32
  ![4, v704.toNat, 0, 0]
def k0_off54 (i : grid0.Coords) (k0_t2 : Fin (k0_t2_loop i).trips) : Fin 4 → Nat :=
  let c5_498 : Index := 5#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v737 : Index := Scalar.indexCast v547
  let c0_499 : Index := 0#32
  let c0_500 : Index := 0#32
  ![5, v737.toNat, 0, 0]
def k0_off55 (i : grid0.Coords) (k0_t2 : Fin (k0_t2_loop i).trips) : Fin 4 → Nat :=
  let c6_518 : Index := 6#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v770 : Index := Scalar.indexCast v547
  let c0_519 : Index := 0#32
  let c0_520 : Index := 0#32
  ![6, v770.toNat, 0, 0]
def k0_off56 (i : grid0.Coords) (k0_t2 : Fin (k0_t2_loop i).trips) : Fin 4 → Nat :=
  let c7_538 : Index := 7#32
  let c2_i32_384 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v547 : BitVec 32 := Scalar.muli c2_i32_384 arg9
  let v803 : Index := Scalar.indexCast v547
  let c0_539 : Index := 0#32
  let c0_540 : Index := 0#32
  ![7, v803.toNat, 0, 0]
def k0_off57 (i : grid0.Coords) (k0_t2 : Fin (k0_t2_loop i).trips) : Fin 4 → Nat :=
  let c0_560 : Index := 0#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v838 : Index := Scalar.indexCast v813
  let c0_561 : Index := 0#32
  let c0_562 : Index := 0#32
  ![0, v838.toNat, 0, 0]
def k0_off58 (i : grid0.Coords) (k0_t2 : Fin (k0_t2_loop i).trips) : Fin 4 → Nat :=
  let c1_580 : Index := 1#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v871 : Index := Scalar.indexCast v813
  let c0_581 : Index := 0#32
  let c0_582 : Index := 0#32
  ![1, v871.toNat, 0, 0]
def k0_off59 (i : grid0.Coords) (k0_t2 : Fin (k0_t2_loop i).trips) : Fin 4 → Nat :=
  let c2_600 : Index := 2#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v904 : Index := Scalar.indexCast v813
  let c0_601 : Index := 0#32
  let c0_602 : Index := 0#32
  ![2, v904.toNat, 0, 0]
def k0_off60 (i : grid0.Coords) (k0_t2 : Fin (k0_t2_loop i).trips) : Fin 4 → Nat :=
  let c3_620 : Index := 3#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v937 : Index := Scalar.indexCast v813
  let c0_621 : Index := 0#32
  let c0_622 : Index := 0#32
  ![3, v937.toNat, 0, 0]
def k0_off61 (i : grid0.Coords) (k0_t2 : Fin (k0_t2_loop i).trips) : Fin 4 → Nat :=
  let c4_640 : Index := 4#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v970 : Index := Scalar.indexCast v813
  let c0_641 : Index := 0#32
  let c0_642 : Index := 0#32
  ![4, v970.toNat, 0, 0]
def k0_off62 (i : grid0.Coords) (k0_t2 : Fin (k0_t2_loop i).trips) : Fin 4 → Nat :=
  let c5_660 : Index := 5#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v1003 : Index := Scalar.indexCast v813
  let c0_661 : Index := 0#32
  let c0_662 : Index := 0#32
  ![5, v1003.toNat, 0, 0]
def k0_off63 (i : grid0.Coords) (k0_t2 : Fin (k0_t2_loop i).trips) : Fin 4 → Nat :=
  let c6_680 : Index := 6#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v1036 : Index := Scalar.indexCast v813
  let c0_681 : Index := 0#32
  let c0_682 : Index := 0#32
  ![6, v1036.toNat, 0, 0]
def k0_off64 (i : grid0.Coords) (k0_t2 : Fin (k0_t2_loop i).trips) : Fin 4 → Nat :=
  let c7_700 : Index := 7#32
  let c2_i32_545 : BitVec 32 := 2#32
  let c0_i32_13 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let v29 : BitVec 32 := Scalar.subi v28 c0_i32_13
  let c1_i32_14 : BitVec 32 := 1#32
  let v31 : BitVec 32 := Scalar.divsi v29 c1_i32_14
  let v32 : BitVec 32 := Scalar.muli v31 c1_i32_14
  let v33 : BitVec 32 := Scalar.addi c0_i32_13 v32
  let c1_i32_16 : BitVec 32 := 1#32
  let arg9 : BitVec 32 := Scf.iv v33 c1_i32_16 k0_t2
  let v812 : BitVec 32 := Scalar.muli c2_i32_545 arg9
  let c1_i32_546 : BitVec 32 := 1#32
  let v813 : BitVec 32 := Scalar.addi v812 c1_i32_546
  let v1069 : Index := Scalar.indexCast v813
  let c0_701 : Index := 0#32
  let c0_702 : Index := 0#32
  ![7, v1069.toNat, 0, 0]
def k0_cond1 (i : grid0.Coords) : BitVec 1 :=
  let arg1 : BitVec 32 := BitVec.ofNat 32 (i 1).val
  let c2_i32_17 : BitVec 32 := 2#32
  let c0_i32_18 : BitVec 32 := 0#32
  let v34 : BitVec 1 := Scalar.cmpi .eq c2_i32_17 c0_i32_18
  let c1_i32_19 : BitVec 32 := 1#32
  let v35 : BitVec 32 := Scalar.select v34 c1_i32_19 c2_i32_17
  let v36 : BitVec 32 := Scalar.remsi arg1 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c1_i32_23 : BitVec 32 := 1#32
  let v44 : BitVec 1 := Scalar.cmpi .eq v43 c1_i32_23
  let v45 : BitVec 32 := Scalar.extui v44
  let c0_i32_24 : BitVec 32 := 0#32
  let v46 : BitVec 1 := Scalar.cmpi .ne v45 c0_i32_24
  v46

def k0_mult5 (i : grid0.Coords) : BitVec 32 :=
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  v446
def k0_off65 (i : grid0.Coords) : Fin 3 → Nat :=
  let c0_286 : Index := 0#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v448 : Index := Scalar.indexCast v447
  let c0_287 : Index := 0#32
  ![0, v448.toNat, 0]
def k0_off66 (i : grid0.Coords) : Fin 3 → Nat :=
  let c1_292 : Index := 1#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v454 : Index := Scalar.indexCast v447
  let c0_293 : Index := 0#32
  ![1, v454.toNat, 0]
def k0_off67 (i : grid0.Coords) : Fin 3 → Nat :=
  let c2_298 : Index := 2#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v460 : Index := Scalar.indexCast v447
  let c0_299 : Index := 0#32
  ![2, v460.toNat, 0]
def k0_off68 (i : grid0.Coords) : Fin 3 → Nat :=
  let c3_304 : Index := 3#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v466 : Index := Scalar.indexCast v447
  let c0_305 : Index := 0#32
  ![3, v466.toNat, 0]
def k0_off69 (i : grid0.Coords) : Fin 3 → Nat :=
  let c4_310 : Index := 4#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v472 : Index := Scalar.indexCast v447
  let c0_311 : Index := 0#32
  ![4, v472.toNat, 0]
def k0_off70 (i : grid0.Coords) : Fin 3 → Nat :=
  let c5_316 : Index := 5#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v478 : Index := Scalar.indexCast v447
  let c0_317 : Index := 0#32
  ![5, v478.toNat, 0]
def k0_off71 (i : grid0.Coords) : Fin 3 → Nat :=
  let c6_322 : Index := 6#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v484 : Index := Scalar.indexCast v447
  let c0_323 : Index := 0#32
  ![6, v484.toNat, 0]
def k0_off72 (i : grid0.Coords) : Fin 3 → Nat :=
  let c7_328 : Index := 7#32
  let arg1 : BitVec 32 := BitVec.ofNat 32 (i 1).val
  let c1_i32_284 : BitVec 32 := 1#32
  let v445 : BitVec 32 := Scalar.subi arg1 c1_i32_284
  let c256_i32_285 : BitVec 32 := 256#32
  let v446 : BitVec 32 := Scalar.muli v445 c256_i32_285
  let v447 : BitVec 32 := v446
  let v490 : Index := Scalar.indexCast v447
  let c0_329 : Index := 0#32
  ![7, v490.toNat, 0]
def k0_off73 (i : grid0.Coords) : Fin 4 → Nat :=
  let c0_347 : Index := 0#32
  let arg1 : BitVec 32 := BitVec.ofNat 32 (i 1).val
  let c1_i32_283 : BitVec 32 := 1#32
  let v444 : BitVec 32 := Scalar.subi arg1 c1_i32_283
  let v520 : Index := Scalar.indexCast v444
  let c0_348 : Index := 0#32
  let c0_349 : Index := 0#32
  ![0, v520.toNat, 0, 0]
def k0_off74 (i : grid0.Coords) : Fin 4 → Nat :=
  let c1_367 : Index := 1#32
  let arg1 : BitVec 32 := BitVec.ofNat 32 (i 1).val
  let c1_i32_283 : BitVec 32 := 1#32
  let v444 : BitVec 32 := Scalar.subi arg1 c1_i32_283
  let v553 : Index := Scalar.indexCast v444
  let c0_368 : Index := 0#32
  let c0_369 : Index := 0#32
  ![1, v553.toNat, 0, 0]
def k0_off75 (i : grid0.Coords) : Fin 4 → Nat :=
  let c2_387 : Index := 2#32
  let arg1 : BitVec 32 := BitVec.ofNat 32 (i 1).val
  let c1_i32_283 : BitVec 32 := 1#32
  let v444 : BitVec 32 := Scalar.subi arg1 c1_i32_283
  let v586 : Index := Scalar.indexCast v444
  let c0_388 : Index := 0#32
  let c0_389 : Index := 0#32
  ![2, v586.toNat, 0, 0]
def k0_off76 (i : grid0.Coords) : Fin 4 → Nat :=
  let c3_407 : Index := 3#32
  let arg1 : BitVec 32 := BitVec.ofNat 32 (i 1).val
  let c1_i32_283 : BitVec 32 := 1#32
  let v444 : BitVec 32 := Scalar.subi arg1 c1_i32_283
  let v619 : Index := Scalar.indexCast v444
  let c0_408 : Index := 0#32
  let c0_409 : Index := 0#32
  ![3, v619.toNat, 0, 0]
def k0_off77 (i : grid0.Coords) : Fin 4 → Nat :=
  let c4_427 : Index := 4#32
  let arg1 : BitVec 32 := BitVec.ofNat 32 (i 1).val
  let c1_i32_283 : BitVec 32 := 1#32
  let v444 : BitVec 32 := Scalar.subi arg1 c1_i32_283
  let v652 : Index := Scalar.indexCast v444
  let c0_428 : Index := 0#32
  let c0_429 : Index := 0#32
  ![4, v652.toNat, 0, 0]
def k0_off78 (i : grid0.Coords) : Fin 4 → Nat :=
  let c5_447 : Index := 5#32
  let arg1 : BitVec 32 := BitVec.ofNat 32 (i 1).val
  let c1_i32_283 : BitVec 32 := 1#32
  let v444 : BitVec 32 := Scalar.subi arg1 c1_i32_283
  let v685 : Index := Scalar.indexCast v444
  let c0_448 : Index := 0#32
  let c0_449 : Index := 0#32
  ![5, v685.toNat, 0, 0]
def k0_off79 (i : grid0.Coords) : Fin 4 → Nat :=
  let c6_467 : Index := 6#32
  let arg1 : BitVec 32 := BitVec.ofNat 32 (i 1).val
  let c1_i32_283 : BitVec 32 := 1#32
  let v444 : BitVec 32 := Scalar.subi arg1 c1_i32_283
  let v718 : Index := Scalar.indexCast v444
  let c0_468 : Index := 0#32
  let c0_469 : Index := 0#32
  ![6, v718.toNat, 0, 0]
def k0_off80 (i : grid0.Coords) : Fin 4 → Nat :=
  let c7_487 : Index := 7#32
  let arg1 : BitVec 32 := BitVec.ofNat 32 (i 1).val
  let c1_i32_283 : BitVec 32 := 1#32
  let v444 : BitVec 32 := Scalar.subi arg1 c1_i32_283
  let v751 : Index := Scalar.indexCast v444
  let c0_488 : Index := 0#32
  let c0_489 : Index := 0#32
  ![7, v751.toNat, 0, 0]
def k0_mult6 (i : grid0.Coords) : BitVec 32 :=
  let arg1 : BitVec 32 := BitVec.ofNat 32 (i 1).val
  let c256_i32 : BitVec 32 := 256#32
  let v47 : BitVec 32 := Scalar.muli arg1 c256_i32
  v47
def k0_off81 (i : grid0.Coords) : Fin 3 → Nat :=
  let c0_25 : Index := 0#32
  let arg1 : BitVec 32 := BitVec.ofNat 32 (i 1).val
  let c256_i32 : BitVec 32 := 256#32
  let v47 : BitVec 32 := Scalar.muli arg1 c256_i32
  let v48 : BitVec 32 := v47
  let v49 : Index := Scalar.indexCast v48
  let c0_26 : Index := 0#32
  ![0, v49.toNat, 0]
def k0_off82 (i : grid0.Coords) : Fin 3 → Nat :=
  let c1 : Index := 1#32
  let arg1 : BitVec 32 := BitVec.ofNat 32 (i 1).val
  let c256_i32 : BitVec 32 := 256#32
  let v47 : BitVec 32 := Scalar.muli arg1 c256_i32
  let v48 : BitVec 32 := v47
  let v55 : Index := Scalar.indexCast v48
  let c0_31 : Index := 0#32
  ![1, v55.toNat, 0]
def k0_off83 (i : grid0.Coords) : Fin 3 → Nat :=
  let c2 : Index := 2#32
  let arg1 : BitVec 32 := BitVec.ofNat 32 (i 1).val
  let c256_i32 : BitVec 32 := 256#32
  let v47 : BitVec 32 := Scalar.muli arg1 c256_i32
  let v48 : BitVec 32 := v47
  let v61 : Index := Scalar.indexCast v48
  let c0_36 : Index := 0#32
  ![2, v61.toNat, 0]
def k0_off84 (i : grid0.Coords) : Fin 3 → Nat :=
  let c3 : Index := 3#32
  let arg1 : BitVec 32 := BitVec.ofNat 32 (i 1).val
  let c256_i32 : BitVec 32 := 256#32
  let v47 : BitVec 32 := Scalar.muli arg1 c256_i32
  let v48 : BitVec 32 := v47
  let v67 : Index := Scalar.indexCast v48
  let c0_41 : Index := 0#32
  ![3, v67.toNat, 0]
def k0_off85 (i : grid0.Coords) : Fin 3 → Nat :=
  let c4 : Index := 4#32
  let arg1 : BitVec 32 := BitVec.ofNat 32 (i 1).val
  let c256_i32 : BitVec 32 := 256#32
  let v47 : BitVec 32 := Scalar.muli arg1 c256_i32
  let v48 : BitVec 32 := v47
  let v73 : Index := Scalar.indexCast v48
  let c0_46 : Index := 0#32
  ![4, v73.toNat, 0]
def k0_off86 (i : grid0.Coords) : Fin 3 → Nat :=
  let c5 : Index := 5#32
  let arg1 : BitVec 32 := BitVec.ofNat 32 (i 1).val
  let c256_i32 : BitVec 32 := 256#32
  let v47 : BitVec 32 := Scalar.muli arg1 c256_i32
  let v48 : BitVec 32 := v47
  let v79 : Index := Scalar.indexCast v48
  let c0_51 : Index := 0#32
  ![5, v79.toNat, 0]
def k0_off87 (i : grid0.Coords) : Fin 3 → Nat :=
  let c6 : Index := 6#32
  let arg1 : BitVec 32 := BitVec.ofNat 32 (i 1).val
  let c256_i32 : BitVec 32 := 256#32
  let v47 : BitVec 32 := Scalar.muli arg1 c256_i32
  let v48 : BitVec 32 := v47
  let v85 : Index := Scalar.indexCast v48
  let c0_56 : Index := 0#32
  ![6, v85.toNat, 0]
def k0_off88 (i : grid0.Coords) : Fin 3 → Nat :=
  let c7 : Index := 7#32
  let arg1 : BitVec 32 := BitVec.ofNat 32 (i 1).val
  let c256_i32 : BitVec 32 := 256#32
  let v47 : BitVec 32 := Scalar.muli arg1 c256_i32
  let v48 : BitVec 32 := v47
  let v91 : Index := Scalar.indexCast v48
  let c0_61 : Index := 0#32
  ![7, v91.toNat, 0]
def k0_off89 (i : grid0.Coords) : Fin 4 → Nat :=
  let c0_80 : Index := 0#32
  let arg1 : BitVec 32 := BitVec.ofNat 32 (i 1).val
  let v126 : Index := Scalar.indexCast arg1
  let c0_81 : Index := 0#32
  let c0_82 : Index := 0#32
  ![0, v126.toNat, 0, 0]
def k0_off90 (i : grid0.Coords) : Fin 4 → Nat :=
  let c1_101 : Index := 1#32
  let arg1 : BitVec 32 := BitVec.ofNat 32 (i 1).val
  let v161 : Index := Scalar.indexCast arg1
  let c0_102 : Index := 0#32
  let c0_103 : Index := 0#32
  ![1, v161.toNat, 0, 0]
def k0_off91 (i : grid0.Coords) : Fin 4 → Nat :=
  let c2_122 : Index := 2#32
  let arg1 : BitVec 32 := BitVec.ofNat 32 (i 1).val
  let v196 : Index := Scalar.indexCast arg1
  let c0_123 : Index := 0#32
  let c0_124 : Index := 0#32
  ![2, v196.toNat, 0, 0]
def k0_off92 (i : grid0.Coords) : Fin 4 → Nat :=
  let c3_143 : Index := 3#32
  let arg1 : BitVec 32 := BitVec.ofNat 32 (i 1).val
  let v231 : Index := Scalar.indexCast arg1
  let c0_144 : Index := 0#32
  let c0_145 : Index := 0#32
  ![3, v231.toNat, 0, 0]
def k0_off93 (i : grid0.Coords) : Fin 4 → Nat :=
  let c4_164 : Index := 4#32
  let arg1 : BitVec 32 := BitVec.ofNat 32 (i 1).val
  let v266 : Index := Scalar.indexCast arg1
  let c0_165 : Index := 0#32
  let c0_166 : Index := 0#32
  ![4, v266.toNat, 0, 0]
def k0_off94 (i : grid0.Coords) : Fin 4 → Nat :=
  let c5_185 : Index := 5#32
  let arg1 : BitVec 32 := BitVec.ofNat 32 (i 1).val
  let v301 : Index := Scalar.indexCast arg1
  let c0_186 : Index := 0#32
  let c0_187 : Index := 0#32
  ![5, v301.toNat, 0, 0]
def k0_off95 (i : grid0.Coords) : Fin 4 → Nat :=
  let c6_206 : Index := 6#32
  let arg1 : BitVec 32 := BitVec.ofNat 32 (i 1).val
  let v336 : Index := Scalar.indexCast arg1
  let c0_207 : Index := 0#32
  let c0_208 : Index := 0#32
  ![6, v336.toNat, 0, 0]
def k0_off96 (i : grid0.Coords) : Fin 4 → Nat :=
  let c7_227 : Index := 7#32
  let arg1 : BitVec 32 := BitVec.ofNat 32 (i 1).val
  let v371 : Index := Scalar.indexCast arg1
  let c0_228 : Index := 0#32
  let c0_229 : Index := 0#32
  ![7, v371.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x256x16384 : Shape := ⟨3, ![8, 256, 16384]⟩
abbrev S8x16384x256 : Shape := ⟨3, ![8, 16384, 256]⟩
abbrev S8x64x128x256 : Shape := ⟨4, ![8, 64, 128, 256]⟩
abbrev S8x256x8x2048 : Shape := ⟨4, ![8, 256, 8, 2048]⟩
abbrev S8x8x2048x256 : Shape := ⟨4, ![8, 8, 2048, 256]⟩
abbrev S8x8x8x128x256 : Shape := ⟨5, ![8, 8, 8, 128, 256]⟩
abbrev S8x8x8x256x128 : Shape := ⟨5, ![8, 8, 8, 256, 128]⟩
abbrev S8x8x2048x128 : Shape := ⟨4, ![8, 8, 2048, 128]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x2048x8x128 : Shape := ⟨4, ![8, 2048, 8, 128]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x256x16384, .bf16⟩
  | .hbm, ⟨1, _⟩ => ⟨S8x16384x256, .bf16⟩
  | .hbm, ⟨2, _⟩ => ⟨S8x64x128x256, .bf16⟩
  | .hbm, ⟨3, _⟩ => ⟨S8x256x8x2048, .bf16⟩
  | .hbm, ⟨4, _⟩ => ⟨S8x8x2048x256, .bf16⟩
  | .hbm, ⟨5, _⟩ => ⟨S8x8x2048x256, .bf16⟩
  | .hbm, ⟨6, _⟩ => ⟨S8x8x2048x256, .bf16⟩
  | .hbm, ⟨7, _⟩ => ⟨S8x8x8x128x256, .bf16⟩
  | .hbm, ⟨8, _⟩ => ⟨S8x8x8x256x128, .bf16⟩
  | .hbm, ⟨9, _⟩ => ⟨S8x8x2048x128, .bf16⟩
  | .hbm, ⟨10, _⟩ => ⟨S8x8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S8x8x2048x2048, .i1⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S8x8x2048, .f32⟩
  | .hbm, ⟨24, _⟩ => ⟨S_, .f32⟩
  | .hbm, ⟨25, _⟩ => ⟨S8x8x2048, .f32⟩
  | .hbm, ⟨26, _⟩ => ⟨S8x8x2048, .f32⟩
  | .hbm, ⟨27, _⟩ => ⟨S8x8x2048x1, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S_, .f32⟩
  | .hbm, ⟨32, _⟩ => ⟨S8x8x2048, .f32⟩
  | .hbm, ⟨33, _⟩ => ⟨S8x8x2048x1, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .bf16⟩
  | .hbm, ⟨37, _⟩ => ⟨S8x8x128x2048, .f32⟩
  | .hbm, ⟨38, _⟩ => ⟨S8x2048x8x128, .f32⟩
  | .hbm, ⟨39, _⟩ => ⟨S16384x1024, .f32⟩
  | .hbm, ⟨40, _⟩ => ⟨S16384x1024, .bf16⟩
  | _, _ => ⟨S8x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel2.lean ====
abbrev S16384x1024 : Shape := ⟨2, ![16384, 1024]⟩
abbrev S16384x2048 : Shape := ⟨2, ![16384, 2048]⟩
abbrev S16384x3072 : Shape := ⟨2, ![16384, 3072]⟩
abbrev S1024x1024 : Shape := ⟨2, ![1024, 1024]⟩
abbrev S2048x1024 : Shape := ⟨2, ![2048, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S256x1024 : Shape := ⟨2, ![256, 1024]⟩
abbrev S256x2048 : Shape := ⟨2, ![256, 2048]⟩
abbrev S256x3072 : Shape := ⟨2, ![256, 3072]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S128x4096 : Shape := ⟨2, ![128, 4096]⟩

abbrev nBuf : Space → Nat
  | .hbm => 18
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x2048, .bf16⟩
  | .hbm, ⟨3, _⟩ => ⟨S16384x1024, .bf16⟩
  | .hbm, ⟨4, _⟩ => ⟨S16384x3072, .bf16⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x4096, .bf16⟩
  | .hbm, ⟨12, _⟩ => ⟨S1x4096, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x3072, .bf16⟩
  | .local _ .vmem, ⟨9, _⟩ => ⟨S256x3072, .bf16⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x4096, .bf16⟩
  | .local _ .vmem, ⟨17, _⟩ => ⟨S1x4096, .f32⟩
  | .local _ .vmem, ⟨18, _⟩ => ⟨S4096x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S16384x1024 : Shape := ⟨2, ![16384, 1024]⟩
abbrev S16384x2048 : Shape := ⟨2, ![16384, 2048]⟩
abbrev S16384x3072 : Shape := ⟨2, ![16384, 3072]⟩
abbrev S1024x1024 : Shape := ⟨2, ![1024, 1024]⟩
abbrev S2048x1024 : Shape := ⟨2, ![2048, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 105
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x2048, .bf16⟩
  | .hbm, ⟨3, _⟩ => ⟨S16384x1024, .bf16⟩
  | .hbm, ⟨4, _⟩ => ⟨S16384x3072, .bf16⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1024x4096, .bf16⟩
  | .hbm, ⟨12, _⟩ => ⟨S1x4096, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x3072, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .bf16⟩
  | .hbm, ⟨63, _⟩ => ⟨S16384x4096, .f32⟩
  | .hbm, ⟨64, _⟩ => ⟨S16384x4096, .f32⟩
  | .hbm, ⟨65, _⟩ => ⟨S16384x4096, .f32⟩
  | .hbm, ⟨66, _⟩ => ⟨S_, .f32⟩
  | .hbm, ⟨67, _⟩ => ⟨S16384x4096, .f32⟩
  | .hbm, ⟨68, _⟩ => ⟨S16384x4096, .f32⟩
  | .hbm, ⟨69, _⟩ => ⟨S16384x4096, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x4096, .bf16⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call0_cst : Ref sig .tc := ⟨.hbm, 66, rfl⟩
abbrev main_call0_v0 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Kernel3.lean ====
abbrev S16384x1024 : Shape := ⟨2, ![16384, 1024]⟩
abbrev S1024x9952 : Shape := ⟨2, ![1024, 9952]⟩
abbrev S384 : Shape := ⟨1, ![384]⟩
abbrev S384x8x192 : Shape := ⟨3, ![384, 8, 192]⟩
abbrev S256 : Shape := ⟨1, ![256]⟩
abbrev S256x8x128 : Shape := ⟨3, ![256, 8, 128]⟩
abbrev S3072 : Shape := ⟨1, ![3072]⟩
abbrev S2048x1024 : Shape := ⟨2, ![2048, 1024]⟩
abbrev S1024x64 : Shape := ⟨2, ![1024, 64]⟩
abbrev S1024x256 : Shape := ⟨2, ![1024, 256]⟩
abbrev S1024x32 : Shape := ⟨2, ![1024, 32]⟩
abbrev S_ : Shape := ⟨0, ![]⟩
abbrev S1024x96 : Shape := ⟨2, ![1024, 96]⟩
abbrev S1024x512 : Shape := ⟨2, ![1024, 512]⟩
abbrev S1024x384 : Shape := ⟨2, ![1024, 384]⟩
abbrev S1024x2048 : Shape := ⟨2, ![1024, 2048]⟩
abbrev S1024x3072 : Shape := ⟨2, ![1024, 3072]⟩
abbrev S1024x1024 : Shape := ⟨2, ![1024, 1024]⟩
abbrev S384x8x128 : Shape := ⟨3, ![384, 8, 128]⟩
abbrev S384x1024 : Shape := ⟨2, ![384, 1024]⟩
abbrev S384x8x64 : Shape := ⟨3, ![384, 8, 64]⟩
abbrev S384x8x32 : Shape := ⟨3, ![384, 8, 32]⟩
abbrev S384x4x128 : Shape := ⟨3, ![384, 4, 128]⟩
abbrev S384x4x256 : Shape := ⟨3, ![384, 4, 256]⟩
abbrev S384x2048 : Shape := ⟨2, ![384, 2048]⟩
abbrev S256x4x256 : Shape := ⟨3, ![256, 4, 256]⟩
abbrev S4x256x256 : Shape := ⟨3, ![4, 256, 256]⟩
abbrev S8x128x256 : Shape := ⟨3, ![8, 128, 256]⟩
abbrev S1x384 : Shape := ⟨2, ![1, 384]⟩
abbrev S1x256 : Shape := ⟨2, ![1, 256]⟩
abbrev S1x3072 : Shape := ⟨2, ![1, 3072]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x256 : Shape := ⟨2, ![2048, 256]⟩
abbrev S16384x384 : Shape := ⟨2, ![16384, 384]⟩
abbrev S16384x256 : Shape := ⟨2, ![16384, 256]⟩
abbrev S16384x64 : Shape := ⟨2, ![16384, 64]⟩
abbrev S16384x320 : Shape := ⟨2, ![16384, 320]⟩
abbrev S16384x128 : Shape := ⟨2, ![16384, 128]⟩
abbrev S32x16384 : Shape := ⟨2, ![32, 16384]⟩
abbrev S16384x2048 : Shape := ⟨2, ![16384, 2048]⟩
abbrev S16384x3072 : Shape := ⟨2, ![16384, 3072]⟩
abbrev S8x16384x256 : Shape := ⟨3, ![8, 16384, 256]⟩
abbrev S8x64x128x256 : Shape := ⟨4, ![8, 64, 128, 256]⟩
abbrev S8x256x16384 : Shape := ⟨3, ![8, 256, 16384]⟩
abbrev S256x1024 : Shape := ⟨2, ![256, 1024]⟩
abbrev S256x256 : Shape := ⟨2, ![256, 256]⟩
abbrev S256x384 : Shape := ⟨2, ![256, 384]⟩
abbrev S256x64 : Shape := ⟨2, ![256, 64]⟩
abbrev S256x320 : Shape := ⟨2, ![256, 320]⟩
abbrev S256x128 : Shape := ⟨2, ![256, 128]⟩
abbrev S32x256 : Shape := ⟨2, ![32, 256]⟩
abbrev S256x2048 : Shape := ⟨2, ![256, 2048]⟩
abbrev S256x3072 : Shape := ⟨2, ![256, 3072]⟩
abbrev S8x256x256 : Shape := ⟨3, ![8, 256, 256]⟩
abbrev S8x1x128x256 : Shape := ⟨4, ![8, 1, 128, 256]⟩
abbrev S256x1 : Shape := ⟨2, ![256, 1]⟩
abbrev S256x512 : Shape := ⟨2, ![256, 512]⟩
abbrev S384x128 : Shape := ⟨2, ![384, 128]⟩
abbrev S128x256 : Shape := ⟨2, ![128, 256]⟩
abbrev S1x128x256 : Shape := ⟨3, ![1, 128, 256]⟩
abbrev S64x256 : Shape := ⟨2, ![64, 256]⟩
abbrev S1x64x256 : Shape := ⟨3, ![1, 64, 256]⟩
abbrev S384x256 : Shape := ⟨2, ![384, 256]⟩
abbrev S1x256x256 : Shape := ⟨3, ![1, 256, 256]⟩
abbrev S1x256x128 : Shape := ⟨3, ![1, 256, 128]⟩
abbrev S1x1x128x256 : Shape := ⟨4, ![1, 1, 128, 256]⟩
abbrev S1x1024 : Shape := ⟨2, ![1, 1024]⟩

abbrev nBuf : Space → Nat
  | .hbm => 81
  | .vmem => 46
  | .smem => 0
  | _ => 0

abbrev bufTy : (tb : Table) → Fin (tcTables nBuf tb) → BufTy
  | .hbm, ⟨0, _⟩ => ⟨S16384x1024, .f32⟩
  | .hbm, ⟨1, _⟩ => ⟨S1024x9952, .f32⟩
  | .hbm, ⟨2, _⟩ => ⟨S384, .f32⟩
  | .hbm, ⟨3, _⟩ => ⟨S384x8x192, .f32⟩
  | .hbm, ⟨4, _⟩ => ⟨S256, .f32⟩
  | .hbm, ⟨5, _⟩ => ⟨S256x8x128, .f32⟩
  | .hbm, ⟨6, _⟩ => ⟨S256x8x128, .f32⟩
  | .hbm, ⟨7, _⟩ => ⟨S3072, .f32⟩
  | .hbm, ⟨8, _⟩ => ⟨S2048x1024, .f32⟩
  | .hbm, ⟨9, _⟩ => ⟨S2048x1024, .f32⟩
  | .hbm, ⟨10, _⟩ => ⟨S1024x64, .f32⟩
  | .hbm, ⟨11, _⟩ => ⟨S1024x256, .f32⟩
  | .hbm, ⟨12, _⟩ => ⟨S1024x32, .f32⟩
  | .hbm, ⟨13, _⟩ => ⟨S_, .f32⟩
  | .hbm, ⟨14, _⟩ => ⟨S1024x96, .f32⟩
  | .hbm, ⟨15, _⟩ => ⟨S1024x512, .f32⟩
  | .hbm, ⟨16, _⟩ => ⟨S1024x384, .f32⟩
  | .hbm, ⟨17, _⟩ => ⟨S1024x2048, .f32⟩
  | .hbm, ⟨18, _⟩ => ⟨S1024x3072, .f32⟩
  | .hbm, ⟨19, _⟩ => ⟨S1024x1024, .f32⟩
  | .hbm, ⟨20, _⟩ => ⟨S1024x3072, .f32⟩
  | .hbm, ⟨21, _⟩ => ⟨S1024x384, .bf16⟩
  | .hbm, ⟨22, _⟩ => ⟨S1024x512, .bf16⟩
  | .hbm, ⟨23, _⟩ => ⟨S1024x2048, .bf16⟩
  | .hbm, ⟨24, _⟩ => ⟨S1024x3072, .bf16⟩
  | .hbm, ⟨25, _⟩ => ⟨S1024x1024, .bf16⟩
  | .hbm, ⟨26, _⟩ => ⟨S1024x3072, .bf16⟩
  | .hbm, ⟨27, _⟩ => ⟨S384x8x128, .f32⟩
  | .hbm, ⟨28, _⟩ => ⟨S384x1024, .f32⟩
  | .hbm, ⟨29, _⟩ => ⟨S384x8x64, .f32⟩
  | .hbm, ⟨30, _⟩ => ⟨S384x8x32, .f32⟩
  | .hbm, ⟨31, _⟩ => ⟨S384x8x32, .f32⟩
  | .hbm, ⟨32, _⟩ => ⟨S384x8x64, .f32⟩
  | .hbm, ⟨33, _⟩ => ⟨S384x4x128, .f32⟩
  | .hbm, ⟨34, _⟩ => ⟨S384x4x128, .f32⟩
  | .hbm, ⟨35, _⟩ => ⟨S384x4x256, .f32⟩
  | .hbm, ⟨36, _⟩ => ⟨S384x1024, .f32⟩
  | .hbm, ⟨37, _⟩ => ⟨S384x2048, .f32⟩
  | .hbm, ⟨38, _⟩ => ⟨S384x2048, .bf16⟩
  | .hbm, ⟨39, _⟩ => ⟨S256x4x256, .f32⟩
  | .hbm, ⟨40, _⟩ => ⟨S4x256x256, .f32⟩
  | .hbm, ⟨41, _⟩ => ⟨S4x256x256, .bf16⟩
  | .hbm, ⟨42, _⟩ => ⟨S8x128x256, .f32⟩
  | .hbm, ⟨43, _⟩ => ⟨S8x128x256, .bf16⟩
  | .hbm, ⟨44, _⟩ => ⟨S1x384, .f32⟩
  | .hbm, ⟨45, _⟩ => ⟨S1x256, .f32⟩
  | .hbm, ⟨46, _⟩ => ⟨S1x3072, .f32⟩
  | .hbm, ⟨47, _⟩ => ⟨S2048, .i32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S2048, .f32⟩
  | .hbm, ⟨57, _⟩ => ⟨S2048x1, .f32⟩
  | .hbm, ⟨58, _⟩ => ⟨S1x32, .f32⟩
  | .hbm, ⟨59, _⟩ => ⟨S2048x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2048x256, .f32⟩
  | .hbm, ⟨67, _⟩ => ⟨S4x256x256, .bf16⟩
  | .hbm, ⟨68, _⟩ => ⟨S16384x384, .bf16⟩
  | .hbm, ⟨69, _⟩ => ⟨S16384x256, .f32⟩
  | .hbm, ⟨70, _⟩ => ⟨S16384x64, .f32⟩
  | .hbm, ⟨71, _⟩ => ⟨S16384x320, .bf16⟩
  | .hbm, ⟨72, _⟩ => ⟨S16384x128, .f32⟩
  | .hbm, ⟨73, _⟩ => ⟨S32x16384, .f32⟩
  | .hbm, ⟨74, _⟩ => ⟨S16384x2048, .bf16⟩
  | .hbm, ⟨75, _⟩ => ⟨S16384x3072, .bf16⟩
  | .hbm, ⟨76, _⟩ => ⟨S16384x1024, .bf16⟩
  | .hbm, ⟨77, _⟩ => ⟨S16384x3072, .bf16⟩
  | .hbm, ⟨78, _⟩ => ⟨S8x16384x256, .bf16⟩
  | .hbm, ⟨79, _⟩ => ⟨S8x64x128x256, .bf16⟩
  | .hbm, ⟨80, _⟩ => ⟨S8x256x16384, .bf16⟩
  | .local _ .vmem, ⟨0, _⟩ => ⟨S256x1024, .f32⟩
  | .local _ .vmem, ⟨1, _⟩ => ⟨S256x1024, .f32⟩
  | .local _ .vmem, ⟨2, _⟩ => ⟨S1024x384, .bf16⟩
  | .local _ .vmem, ⟨3, _⟩ => ⟨S1024x512, .bf16⟩
  | .local _ .vmem, ⟨4, _⟩ => ⟨S1024x2048, .bf16⟩
  | .local _ .vmem, ⟨5, _⟩ => ⟨S1024x3072, .bf16⟩
  | .local _ .vmem, ⟨6, _⟩ => ⟨S1024x1024, .bf16⟩
  | .local _ .vmem, ⟨7, _⟩ => ⟨S1024x3072, .bf16⟩
  | .local _ .vmem, ⟨8, _⟩ => ⟨S256x256, .f32⟩
  | .local _ .vmem, ⟨9, _⟩ => ⟨S256x256, .f32⟩
  | .local _ .vmem, ⟨10, _⟩ => ⟨S1x384, .f32⟩
  | .local _ .vmem, ⟨11, _⟩ => ⟨S1x256, .f32⟩
  | .local _ .vmem, ⟨12, _⟩ => ⟨S1x3072, .f32⟩
  | .local _ .vmem, ⟨13, _⟩ => ⟨S4x256x256, .bf16⟩
  | .local _ .vmem, ⟨14, _⟩ => ⟨S4x256x256, .bf16⟩
  | .local _ .vmem, ⟨15, _⟩ => ⟨S384x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x384, .bf16⟩
  | .local _ .vmem, ⟨21, _⟩ => ⟨S256x384, .bf16⟩
  | .local _ .vmem, ⟨22, _⟩ => ⟨S256x256, .f32⟩
  | .local _ .vmem, ⟨23, _⟩ => ⟨S256x256, .f32⟩
  | .local _ .vmem, ⟨24, _⟩ => ⟨S256x64, .f32⟩
  | .local _ .vmem, ⟨25, _⟩ => ⟨S256x64, .f32⟩
  | .local _ .vmem, ⟨26, _⟩ => ⟨S256x320, .bf16⟩
  | .local _ .vmem, ⟨27, _⟩ => ⟨S256x320, .bf16⟩
  | .local _ .vmem, ⟨28, _⟩ => ⟨S256x128, .f32⟩
  | .local _ .vmem, ⟨29, _⟩ => ⟨S256x128, .f32⟩
  | .local _ .vmem, ⟨30, _⟩ => ⟨S32x256, .f32⟩
  | .local _ .vmem, ⟨31, _⟩ => ⟨S32x256, .f32⟩
  | .local _ .vmem, ⟨32, _⟩ => ⟨S256x2048, .bf16⟩
  | .local _ .vmem, ⟨33, _⟩ => ⟨S256x2048, .bf16⟩
  | .local _ .vmem, ⟨34, _⟩ => ⟨S256x3072, .bf16⟩
  | .local _ .vmem, ⟨35, _⟩ => ⟨S256x3072, .bf16⟩
  | .local _ .vmem, ⟨36, _⟩ => ⟨S256x1024, .bf16⟩
  | .local _ .vmem, ⟨37, _⟩ => ⟨S256x1024, .bf16⟩
  | .local _ .vmem, ⟨38, _⟩ => ⟨S256x3072, .bf16⟩
  | .local _ .vmem, ⟨39, _⟩ => ⟨S256x3072, .bf16⟩
  | .local _ .vmem, ⟨40, _⟩ => ⟨S8x256x256, .bf16⟩
  | .local _ .vmem, ⟨41, _⟩ => ⟨S8x256x256, .bf16⟩
  | .local _ .vmem, ⟨42, _⟩ => ⟨S8x1x128x256, .bf16⟩
  | .local _ .vmem, ⟨43, _⟩ => ⟨S8x1x128x256, .bf16⟩
  | .local _ .vmem, ⟨44, _⟩ => ⟨S8x256x256, .bf16⟩
  | .local _ .vmem, ⟨45, _⟩ => ⟨S8x256x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55_0 : Ref sig .tc := ⟨.hbm, 68, rfl⟩
abbrev main_v55_1 : Ref sig .tc := ⟨.hbm, 69, rfl⟩
abbrev main_v55_2 : Ref sig .tc := ⟨.hbm, 70, rfl⟩
abbrev main_v55_3 : Ref sig .tc := ⟨.hbm, 71, rfl⟩
abbrev main_v55_4 : Ref sig .tc := ⟨.hbm, 72, rfl⟩
abbrev main_v55_5 : Ref sig .tc := ⟨.hbm, 73, rfl⟩
abbrev main_v55_6 : Ref sig .tc := ⟨.hbm, 74, rfl⟩
abbrev main_v55_7 : Ref sig .tc := ⟨.hbm, 75, rfl⟩
abbrev main_v55_8 : Ref sig .tc := ⟨.hbm, 76, rfl⟩
abbrev main_v55_9 : Ref sig .tc := ⟨.hbm, 77, rfl⟩
abbrev main_v55_10 : Ref sig .tc := ⟨.hbm, 78, rfl⟩
abbrev main_v55_11 : Ref sig .tc := ⟨.hbm, 79, rfl⟩
abbrev main_v55_12 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_stg27_0 : Ref sig .tc := ⟨.vmem, 42, rfl⟩
abbrev cc0_stg27_1 : Ref sig .tc := ⟨.vmem, 43, rfl⟩
abbrev cc0_stg28_0 : Ref sig .tc := ⟨.vmem, 44, rfl⟩
abbrev cc0_stg28_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem27_1 : DmaSem sig := 43
abbrev cc0_sem28_0 : DmaSem sig := 44
abbrev cc0_sem28_1 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x320 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x3072 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x3072 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x256x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S8x1x128x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S8x256x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Reference3Ideal.lean ====
abbrev S16384x1024 : Shape := ⟨2, ![16384, 1024]⟩
abbrev S1024x9952 : Shape := ⟨2, ![1024, 9952]⟩
abbrev S384 : Shape := ⟨1, ![384]⟩
abbrev S384x8x192 : Shape := ⟨3, ![384, 8, 192]⟩
abbrev S256 : Shape := ⟨1, ![256]⟩
abbrev S256x8x128 : Shape := ⟨3, ![256, 8, 128]⟩
abbrev S3072 : Shape := ⟨1, ![3072]⟩
abbrev S2048x1024 : Shape := ⟨2, ![2048, 1024]⟩
abbrev S16384x9952 : Shape := ⟨2, ![16384, 9952]⟩
abbrev S16384x384 : Shape := ⟨2, ![16384, 384]⟩
abbrev S16384x256 : Shape := ⟨2, ![16384, 256]⟩
abbrev S16384x64 : Shape := ⟨2, ![16384, 64]⟩
abbrev S16384x2048 : Shape := ⟨2, ![16384, 2048]⟩
abbrev S16384x3072 : Shape := ⟨2, ![16384, 3072]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S1x384 : Shape := ⟨2, ![1, 384]⟩
abbrev S1x256 : Shape := ⟨2, ![1, 256]⟩
abbrev S8x2048x1x64 : Shape := ⟨4, ![8, 2048, 1, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x1x32 : Shape := ⟨4, ![8, 2048, 1, 32]⟩
abbrev S1x3072 : Shape := ⟨2, ![1, 3072]⟩
abbrev S16384x8x192 : Shape := ⟨3, ![16384, 8, 192]⟩
abbrev S16384x8x64 : Shape := ⟨3, ![16384, 8, 64]⟩
abbrev S8x2048x8x64 : Shape := ⟨4, ![8, 2048, 8, 64]⟩
abbrev S8x2048x8x32 : Shape := ⟨4, ![8, 2048, 8, 32]⟩
abbrev S16384x8x128 : Shape := ⟨3, ![16384, 8, 128]⟩
abbrev S16384x8x256 : Shape := ⟨3, ![16384, 8, 256]⟩
abbrev S8x128x16384 : Shape := ⟨3, ![8, 128, 16384]⟩
abbrev S8x16384x128 : Shape := ⟨3, ![8, 16384, 128]⟩
abbrev S1x16384x64 : Shape := ⟨3, ![1, 16384, 64]⟩
abbrev S8x16384x64 : Shape := ⟨3, ![8, 16384, 64]⟩
abbrev S8x16384x256 : Shape := ⟨3, ![8, 16384, 256]⟩
abbrev S64x256x8x128 : Shape := ⟨4, ![64, 256, 8, 128]⟩
abbrev S8x2048x4x256 : Shape := ⟨4, ![8, 2048, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S16384x320 : Shape := ⟨2, ![16384, 320]⟩
abbrev S16384x96 : Shape := ⟨2, ![16384, 96]⟩
abbrev S16384x128 : Shape := ⟨2, ![16384, 128]⟩
abbrev S32x16384 : Shape := ⟨2, ![32, 16384]⟩
abbrev S8x64x128x256 : Shape := ⟨4, ![8, 64, 128, 256]⟩
abbrev S8x256x16384 : Shape := ⟨3, ![8, 256, 16384]⟩

abbrev nBuf : Space → Nat
  | .hbm => 187
  | .vmem => 0
  | .smem => 0
  | _ => 0

abbrev hbmTy0_0 (i : Nat) : BufTy := match i % 128 with
  | 0 => ⟨S16384x1024, .f32⟩
  | 1 => ⟨S1024x9952, .f32⟩
  | 2 => ⟨S384, .f32⟩
  | 3 => ⟨S384x8x192, .f32⟩
  | 4 => ⟨S256, .f32⟩
  | 5 => ⟨S256x8x128, .f32⟩
  | 6 => ⟨S256x8x128, .f32⟩
  | 7 => ⟨S3072, .f32⟩
  | 8 => ⟨S2048x1024, .f32⟩
  | 9 => ⟨S2048x1024, .f32⟩
  | 10 => ⟨S16384x9952, .f32⟩
  | 11 => ⟨S16384x384, .f32⟩
  | 12 => ⟨S16384x256, .f32⟩
  | 13 => ⟨S16384x64, .f32⟩
  | 14 => ⟨S16384x2048, .f32⟩
  | 15 => ⟨S16384x3072, .f32⟩
  | 16 => ⟨S16384x32, .f32⟩
  | 17 => ⟨S16384x1024, .f32⟩
  | 18 => ⟨S16384x3072, .f32⟩
  | 19 => ⟨S16384x384, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S16384x1, .f32⟩
  | 30 => ⟨S16384x384, .f32⟩
  | 31 => ⟨S16384x384, .f32⟩
  | 32 => ⟨S1x384, .f32⟩
  | 33 => ⟨S16384x384, .f32⟩
  | 34 => ⟨S16384x384, .f32⟩
  | 35 => ⟨S16384x256, .f32⟩
  | 36 => ⟨S_, .f32⟩
  | 37 => ⟨S16384, .f32⟩
  | 38 => ⟨S16384x1, .f32⟩
  | 39 => ⟨S_, .f32⟩
  | 40 => ⟨S16384x1, .f32⟩
  | 41 => ⟨S16384x1, .f32⟩
  | 42 => ⟨S_, .f32⟩
  | 43 => ⟨S16384x1, .f32⟩
  | 44 => ⟨S16384x1, .f32⟩
  | 45 => ⟨S16384x1, .f32⟩
  | 46 => ⟨S16384x256, .f32⟩
  | 47 => ⟨S16384x256, .f32⟩
  | 48 => ⟨S1x256, .f32⟩
  | 49 => ⟨S16384x256, .f32⟩
  | 50 => ⟨S16384x256, .f32⟩
  | 51 => ⟨S8x2048x1x64, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S2048, .i32⟩
  | 61 => ⟨S2048, .f32⟩
  | 62 => ⟨S2048x1, .f32⟩
  | 63 => ⟨S1x32, .f32⟩
  | 64 => ⟨S2048x32, .f32⟩
  | 65 => ⟨S2048x32, .f32⟩
  | 66 => ⟨S2048x32, .f32⟩
  | 67 => ⟨S1x2048x1x32, .f32⟩
  | 68 => ⟨S1x2048x1x32, .f32⟩
  | 69 => ⟨S1x2048x1x32, .f32⟩
  | 70 => ⟨S8x2048x1x32, .f32⟩
  | 71 => ⟨S8x2048x1x32, .f32⟩
  | 72 => ⟨S8x2048x1x32, .f32⟩
  | 73 => ⟨S8x2048x1x32, .f32⟩
  | 74 => ⟨S8x2048x1x32, .f32⟩
  | 75 => ⟨S8x2048x1x32, .f32⟩
  | 76 => ⟨S8x2048x1x32, .f32⟩
  | 77 => ⟨S8x2048x1x32, .f32⟩
  | 78 => ⟨S8x2048x1x32, .f32⟩
  | 79 => ⟨S8x2048x1x32, .f32⟩
  | 80 => ⟨S8x2048x1x32, .f32⟩
  | 81 => ⟨S8x2048x1x32, .f32⟩
  | 82 => ⟨S8x2048x1x64, .f32⟩
  | 83 => ⟨S16384x64, .f32⟩
  | 84 => ⟨S1x3072, .f32⟩
  | 85 => ⟨S16384x3072, .f32⟩
  | 86 => ⟨S16384x3072, .f32⟩
  | 87 => ⟨S16384x3072, .f32⟩
  | 88 => ⟨S16384x3072, .f32⟩
  | 89 => ⟨S_, .f32⟩
  | 90 => ⟨S16384x3072, .f32⟩
  | 91 => ⟨S16384x3072, .f32⟩
  | 92 => ⟨S_, .f32⟩
  | 93 => ⟨S16384x3072, .f32⟩
  | 94 => ⟨S16384x3072, .f32⟩
  | 95 => ⟨S16384x8x192, .f32⟩
  | 96 => ⟨S16384x8x64, .f32⟩
  | 97 => ⟨S8x2048x8x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S2048, .i32⟩
  | 107 => ⟨S2048, .f32⟩
  | 108 => ⟨S2048x1, .f32⟩
  | 109 => ⟨S1x32, .f32⟩
  | 110 => ⟨S2048x32, .f32⟩
  | 111 => ⟨S2048x32, .f32⟩
  | 112 => ⟨S2048x32, .f32⟩
  | 113 => ⟨S1x2048x1x32, .f32⟩
  | 114 => ⟨S1x2048x1x32, .f32⟩
  | 115 => ⟨S1x2048x1x32, .f32⟩
  | 116 => ⟨S8x2048x8x32, .f32⟩
  | 117 => ⟨S8x2048x8x32, .f32⟩
  | 118 => ⟨S8x2048x8x32, .f32⟩
  | 119 => ⟨S8x2048x8x32, .f32⟩
  | 120 => ⟨S8x2048x8x32, .f32⟩
  | 121 => ⟨S8x2048x8x32, .f32⟩
  | 122 => ⟨S8x2048x8x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S16384x1024, .f32⟩

abbrev hbmTy0_1 (i : Nat) : BufTy := match i % 128 with
  | 0 => ⟨S8x2048x8x64, .f32⟩
  | 1 => ⟨S16384x8x64, .f32⟩
  | 2 => ⟨S16384x8x128, .f32⟩
  | 3 => ⟨S16384x8x192, .f32⟩
  | 4 => ⟨S_, .f32⟩
  | 5 => ⟨S16384x8x192, .f32⟩
  | 6 => ⟨S16384x8x192, .f32⟩
  | 7 => ⟨S_, .f32⟩
  | 8 => ⟨S16384x8x64, .f32⟩
  | 9 => ⟨S16384x8x256, .f32⟩
  | 10 => ⟨S8x128x16384, .f32⟩
  | 11 => ⟨S8x16384x128, .f32⟩
  | 12 => ⟨S1x16384x64, .f32⟩
  | 13 => ⟨S8x16384x64, .f32⟩
  | 14 => ⟨S_, .f32⟩
  | 15 => ⟨S8x16384x64, .f32⟩
  | 16 => ⟨S8x16384x256, .f32⟩
  | 17 => ⟨S16384x8x128, .f32⟩
  | 18 => ⟨S64x256x8x128, .f32⟩
  | 19 => ⟨S8x2048x4x256, .f32⟩
  | 20 => ⟨S8x256x4x256, .f32⟩
  | 21 => ⟨S8x4x2048x256, .f32⟩
  | 22 => ⟨S_, .f32⟩
  | 23 => ⟨S8x4x2048x256, .f32⟩
  | 24 => ⟨S8x4x2048x256, .f32⟩
  | 25 => ⟨S_, .f32⟩
  | 26 => ⟨S8x4x2048, .f32⟩
  | 27 => ⟨S_, .f32⟩
  | 28 => ⟨S8x4x2048, .f32⟩
  | 29 => ⟨S8x4x2048, .f32⟩
  | 30 => ⟨S8x4x2048x1, .f32⟩
  | 31 => ⟨S8x4x2048x256, .f32⟩
  | 32 => ⟨S8x4x2048x256, .f32⟩
  | 33 => ⟨S8x4x2048x256, .f32⟩
  | 34 => ⟨S_, .f32⟩
  | 35 => ⟨S8x4x2048, .f32⟩
  | 36 => ⟨S8x4x2048x1, .f32⟩
  | 37 => ⟨S8x4x2048x256, .f32⟩
  | 38 => ⟨S8x4x2048x256, .f32⟩
  | 39 => ⟨S8x256x4x256, .f32⟩
  | 40 => ⟨S8x4x256x2048, .f32⟩
  | 41 => ⟨S8x2048x4x256, .f32⟩
  | 42 => ⟨S16384x1024, .f32⟩
  | 43 => ⟨S16384x384, .bf16⟩
  | 44 => ⟨S16384x320, .f32⟩
  | 45 => ⟨S16384x320, .bf16⟩
  | 46 => ⟨S_, .f32⟩
  | 47 => ⟨S16384x96, .f32⟩
  | 48 => ⟨S16384x128, .f32⟩
  | 49 => ⟨S32x16384, .f32⟩
  | 50 => ⟨S16384x2048, .bf16⟩
  | 51 => ⟨S16384x3072, .bf16⟩
  | 52 => ⟨S16384x1024, .bf16⟩
  | 53 => ⟨S16384x3072, .bf16⟩
  | 54 => ⟨S8x16384x256, .bf16⟩
  | 55 => ⟨S8x64x128x256, .f32⟩
  | 56 => ⟨S8x64x128x256, .bf16⟩
  | 57 => ⟨S8x256x16384, .f32⟩
  | 58 => ⟨S8x256x16384, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_7 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_9 : Ref sig .tc := ⟨.hbm, 100, rfl⟩
abbrev main_v80 : Ref sig .tc := ⟨.hbm, 101, rfl⟩
abbrev main_v81 : Ref sig .tc := ⟨.hbm, 102, rfl⟩
abbrev main_cst_10 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_11 : Ref sig .tc := ⟨.hbm, 132, rfl⟩
abbrev main_v110 : Ref sig .tc := ⟨.hbm, 133, rfl⟩
abbrev main_v111 : Ref sig .tc := ⟨.hbm, 134, rfl⟩
abbrev main_cst_12 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_13 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_14 : Ref sig .tc := ⟨.hbm, 150, rfl⟩
abbrev main_v125 : Ref sig .tc := ⟨.hbm, 151, rfl⟩
abbrev main_v126 : Ref sig .tc := ⟨.hbm, 152, rfl⟩
abbrev main_cst_15 : Ref sig .tc := ⟨.hbm, 153, rfl⟩
abbrev main_v127 : Ref sig .tc := ⟨.hbm, 154, rfl⟩
abbrev main_cst_16 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_17 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_18 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩

abbrev nD : Nat := 1
abbrev τ : Topo := Topo.v7x

variable {F : FTy → Type} [FloatOps F]
-- ==== Proof.Rows.lean ====
/-
  Buffers written row by row. A buffer with `n` windows apart from one another ("rows") is written one row after the
  other: `rows` lists stores whose payloads are given, `thread` lists stores each of which is computed from what the
  row held before it. Read back, a row holds its own payload (`readAt_rows`), or its own step of what was there
  (`readAt_thread`); rows not yet written hold what was there.
-/
module

public import Idealize.ShloMosaic.Lib.VecWindow

@[expose] public section

noncomputable section

open Idealize.ShloMosaic

namespace Cert.Rows

variable {sig : RefSig} {κ : Kind} {sp : Space} {s : Shape} {e : EltTy} {Val : EltTy → Type}
variable (v : View sig κ sp s e) {n : ℕ} [NeZero n]
variable (off : Fin n → Fin s.rank → ℕ) (size : Fin s.rank → ℕ) (inb : ∀ h a, off h a + size a ≤ s.size a)

/-- The stores of the first `j` rows, last first, row `h` getting `w h`. -/
def rows (w : Fin n → ((a : Fin s.rank) → Fin (size a)) → Val e) : ℕ → List (View.Piece Val s e)
  | 0 => []
  | j + 1 => ⟨Rect.unit (off (Fin.ofNat n j)) size (inb _), w (Fin.ofNat n j)⟩ :: rows w j

/-- The stores of the first `j` rows after `L`, last first, row `h` getting `step h` of what it holds by then. -/
def thread [∀ e, Nonempty (Val e)]
    (step : Fin n → (((a : Fin s.rank) → Fin (size a)) → Val e) → ((a : Fin s.rank) → Fin (size a)) → Val e)
    (L : List (View.Piece Val s e)) : ℕ → List (View.Piece Val s e)
  | 0 => L
  | j + 1 => ⟨Rect.unit (off (Fin.ofNat n j)) size (inb _),
      step (Fin.ofNat n j) (v.readCov (thread step L j) (Rect.unit (off (Fin.ofNat n j)) size (inb _)).toLoadRect)⟩
        :: thread step L j

variable {off size}

theorem ofNat_val (h : Fin n) : Fin.ofNat n h.val = h := Fin.ext (Nat.mod_eq_of_lt h.isLt)

theorem ofNat_ne {h : Fin n} {j : ℕ} (hj : j < n) (hne : h.val ≠ j) : h ≠ Fin.ofNat n j := fun e =>
  hne (by rw [e]; exact Nat.mod_eq_of_lt hj)

theorem readAt_cons_same (f : v.ty.Contents Val) (h : Fin n) (w : ((a : Fin s.rank) → Fin (size a)) → Val e)
    (L : List (View.Piece Val s e)) :
    v.readAt Val (Rect.unit (off h) size (inb h)).toLoadRect (v.writes Val f (⟨Rect.unit (off h) size (inb h), w⟩ :: L)) = w := by
  rw [v.readAt_unit _ (inb h) rfl (inb h), v.read_writes_cons_put f (inb h) w L rfl, VecWindow.window_put_same]

theorem readAt_cons_eq (f : v.ty.Contents Val) {g h : Fin n} (hgh : g = h) (w : ((a : Fin s.rank) → Fin (size a)) → Val e)
    (L : List (View.Piece Val s e)) :
    v.readAt Val (Rect.unit (off h) size (inb h)).toLoadRect (v.writes Val f (⟨Rect.unit (off g) size (inb g), w⟩ :: L)) = w := by
  subst hgh
  exact readAt_cons_same v inb f g w L

variable (apart : ∀ g h : Fin n, g ≠ h → ∃ a, off g a + size a ≤ off h a ∨ off h a + size a ≤ off g a)
include apart

theorem readAt_cons_ne (f : v.ty.Contents Val) {g h : Fin n} (hne : g ≠ h) (w : ((a : Fin s.rank) → Fin (size a)) → Val e)
    (L : List (View.Piece Val s e)) :
    v.readAt Val (Rect.unit (off g) size (inb g)).toLoadRect (v.writes Val f (⟨Rect.unit (off h) size (inb h), w⟩ :: L))
      = v.readAt Val (Rect.unit (off g) size (inb g)).toLoadRect (v.writes Val f L) := by
  obtain ⟨a, ha⟩ := apart g h hne
  rw [v.readAt_unit _ (inb g) rfl (inb g), v.read_writes_cons_put f (inb h) w L rfl,
    VecWindow.window_put_of_disjoint _ _ _ _ _ _ _ a ha, v.readAt_unit _ (inb g) rfl (inb g)]

theorem readAt_rows (f : v.ty.Contents Val) (w : Fin n → ((a : Fin s.rank) → Fin (size a)) → Val e) (h : Fin n) :
    ∀ j, h.val < j → j ≤ n →
      v.readAt Val (Rect.unit (off h) size (inb h)).toLoadRect (v.writes Val f (rows off size inb w j)) = w h
  | 0, hj, _ => absurd hj (Nat.not_lt_zero _)
  | j + 1, hj, hn => by
    by_cases e : h.val = j
    · subst e
      exact (readAt_cons_eq v inb f (ofNat_val h) _ _).trans (congrArg w (ofNat_val h))
    · rw [rows, readAt_cons_ne v inb apart f (ofNat_ne (by omega) e)]
      exact readAt_rows f w h j (by omega) (by omega)

variable [∀ e, Nonempty (Val e)]

theorem readAt_thread_ge (f : v.ty.Contents Val)
    (step : Fin n → (((a : Fin s.rank) → Fin (size a)) → Val e) → ((a : Fin s.rank) → Fin (size a)) → Val e)
    (L : List (View.Piece Val s e)) (h : Fin n) : ∀ j, j ≤ h.val →
      v.readAt Val (Rect.unit (off h) size (inb h)).toLoadRect (v.writes Val f (thread v off size inb step L j))
        = v.readAt Val (Rect.unit (off h) size (inb h)).toLoadRect (v.writes Val f L)
  | 0, _ => rfl
  | j + 1, hj => by
    rw [thread, readAt_cons_ne v inb apart f (ofNat_ne (by have := h.isLt; omega) (by omega))]
    exact readAt_thread_ge f step L h j (by omega)

theorem readAt_thread (f : v.ty.Contents Val)
    (step : Fin n → (((a : Fin s.rank) → Fin (size a)) → Val e) → ((a : Fin s.rank) → Fin (size a)) → Val e)
    (L : List (View.Piece Val s e)) (h : Fin n) : ∀ j, h.val < j → j ≤ n →
      v.readAt Val (Rect.unit (off h) size (inb h)).toLoadRect (v.writes Val f (thread v off size inb step L j))
        = step h (v.readCov L (Rect.unit (off h) size (inb h)).toLoadRect)
  | 0, hj, _ => absurd hj (Nat.not_lt_zero _)
  | j + 1, hj, hn => by
    by_cases e : h.val = j
    · subst e
      refine (readAt_cons_eq v inb f (ofNat_val h) _ _).trans ((congrArg (step _) (readAt_thread_ge v inb apart _ step L _ _ ?_)).trans
        (congrArg (fun g => step g (v.readCov L (Rect.unit (off g) size (inb g)).toLoadRect)) (ofNat_val h)))
      rw [ofNat_val]
    · rw [thread, readAt_cons_ne v inb apart f (ofNat_ne (by omega) e)]
      exact readAt_thread f step L h j (by omega) (by omega)

end Cert.Rows

end
-- ==== Proof.Step.lean ====
/-
  One step of the kernel's running softmax, for one head: 256 more keys against the 256 queries of the block. From the
  scores of the new keys, the running maximum, the running sum and the running weighted sum it makes the new ones, as
  the vectors the kernel stores.
-/
module

public import proofs.«01_k».proof.Proof.Rows
public import proofs.«01_k».proof.Proof.Gen.KernelIdeal.Value

@[expose] public section

set_option maxRecDepth 16384

noncomputable section

open Idealize.ShloMosaic Cert.KernelIdeal Cert.KernelIdeal.Gen

namespace Cert.Step

variable {F : FTy → Type} [FloatOps F] [Named F]

/-- The scores of 256 keys against 256 queries, a key to a row. -/
def score (k q : FVec F S1x256x256 .bf16) : FVec F S256x256 .f32 :=
  matmul dot_S256x256_S256x256_S256x256_1_0_0_1_n_n none (shapeCast S256x256 k shapeCasts_S1x256x256_S256x256)
    (shapeCast S256x256 q shapeCasts_S1x256x256_S256x256) (constant S256x256 .f32 0x00000000#32)

/-- The scores on the diagonal: a key after its query counts as minus infinity. -/
def masked (s : FVec F S256x256 .f32) : FVec F S256x256 .f32 :=
  select (cmpi .sle (iota .tc S256x256 32 [0] iota_S256x256_d0_w32) (iota .tc S256x256 32 [1] iota_S256x256_d1_w32)) s
    (broadcast S256x256 (Named.named κ "mask" 0xF149F2CA#32))

/-- The new running maximum. -/
def newMax (s : FVec F S256x256 .f32) (m : FVec F S1x256 .f32) : FVec F S1x256 .f32 :=
  maximumf m (shapeCast S1x256
    (multiReduction .maximumf [0] S256 s 0xFF800000#32 reduces_S256x256_S256 (.inl rfl) rfl) shapeCasts_S256_S1x256)

/-- What the old sums are multiplied by. -/
def scale (s : FVec F S256x256 .f32) (m : FVec F S1x256 .f32) : FVec F S1x256 .f32 := exp (subf m (newMax s m))

/-- The weights of the new keys. -/
def weights (s : FVec F S256x256 .f32) (m : FVec F S1x256 .f32) : FVec F S256x256 .f32 :=
  exp (subf s (broadcastTo S256x256 (newMax s m) broadcasts_S1x256_S256x256))

def putMax (s : FVec F S256x256 .f32) (m : FVec F S1x256 .f32) : FVec F S1x256 .f32 :=
  shapeCast S1x256 (newMax s m) shapeCasts_S1x256_S1x256

def putSum (s : FVec F S256x256 .f32) (m l : FVec F S1x256 .f32) : FVec F S1x256 .f32 :=
  shapeCast S1x256 (addf (mulf (scale s m) l) (shapeCast S1x256
    (multiReduction .add [0] S256 (weights s m) 0x00000000#32 reduces_S256x256_S256 (.inl rfl) rfl) shapeCasts_S256_S1x256))
    shapeCasts_S1x256_S1x256

def putAcc (s : FVec F S256x256 .f32) (m : FVec F S1x256 .f32) (v : FVec F S1x1x128x256 .bf16)
    (a : FVec F S1x128x256 .f32) : FVec F S1x128x256 .f32 :=
  shapeCast S1x128x256 (addf
    (mulf (broadcastTo S128x256 (scale s m) broadcasts_S1x256_S128x256) (shapeCast S128x256 a shapeCasts_S1x128x256_S128x256))
    (matmul dot_S128x256_S256x256_S128x256_1_0_0_1_n_n none (shapeCast S128x256 v shapeCasts_S1x1x128x256_S128x256)
      (truncf .bf16 (weights s m) bitsLt_bf16_f32) (constant S128x256 .f32 0x00000000#32)))
    shapeCasts_S128x256_S1x128x256

/-- The head's output: the weighted sum divided by the sum, a query to a row. -/
def result (a : FVec F S1x128x256 .f32) (l : FVec F S1x256 .f32) : FVec F S256x128 .bf16 :=
  truncf .bf16 (transpose S256x128 [1, 0] (divf (shapeCast S128x256 a shapeCasts_S1x128x256_S128x256)
    (broadcastTo S128x256 l broadcasts_S1x256_S128x256)) transposes_S128x256_p1_0_S256x128) bitsLt_bf16_f32

end Cert.Step

end
-- ==== Proof.Online.lean ====
/-
  Softmax taken in pieces, over the extended reals. For a sequence of scores `s` and of values `v`, `peak s n` is the
  greatest of the first `n` scores, `mass s n` the sum of the exponentials of the first `n` scores less that greatest
  one, and `blend s v n` the sum of the values weighed by them. Taking `t` more scores rescales what was there by the
  exponential of the old greatest score less the new one (`mass_step`, `blend_step`); scores of minus infinity change
  nothing (`peak_tail`, `mass_tail`, `blend_tail`); and dividing the blend by the mass at the end is the same as dividing
  every weight by it first (`blend_div`), as long as the mass is not zero. Infinite scores are allowed throughout.
-/
module

public import Idealize.ShloMosaic.PureOps.Ideal

@[expose] public section

noncomputable section

open Idealize.ShloMosaic

namespace Cert.Online

/-- The greatest of the first `n` scores, minus infinity when `n = 0`. -/
def peak (s : ℕ → EReal) (n : ℕ) : EReal := (Finset.range n).sup s

/-- The sum of the exponentials of the first `n` scores less their greatest. -/
def mass (s : ℕ → EReal) (n : ℕ) : EReal := ∑ k ∈ Finset.range n, Ideal.exp (s k - peak s n)

/-- The sum of the values weighed by the same exponentials. -/
def blend (s v : ℕ → EReal) (n : ℕ) : EReal := ∑ k ∈ Finset.range n, v k * Ideal.exp (s k - peak s n)

theorem exp_nonneg (x : EReal) : 0 ≤ Ideal.exp x := by
  induction x with
  | bot => exact le_refl _
  | top => exact le_top
  | coe r => exact EReal.coe_nonneg.2 (Real.exp_pos r).le

theorem exp_bot_sub (m : EReal) : Ideal.exp (⊥ - m) = 0 := by
  rw [EReal.bot_sub]; rfl

/-- The exponential of a difference that is not above zero is finite. -/
theorem exp_sub_ne_top {a b : EReal} (h : a ≤ b) : Ideal.exp (a - b) ≠ ⊤ := by
  induction a with
  | bot => rw [exp_bot_sub]; exact EReal.zero_ne_top
  | top =>
    obtain rfl := top_le_iff.1 h
    rw [EReal.sub_top]; exact EReal.zero_ne_top
  | coe r =>
    induction b with
    | bot => exact absurd h (by simp)
    | top => rw [EReal.sub_top]; exact EReal.zero_ne_top
    | coe r' => rw [← EReal.coe_sub]; exact EReal.coe_ne_top _

/-- Rescaling: from the old greatest score to the new one. -/
theorem exp_rescale {x a b : EReal} (hx : x ≤ a) (h : a ≤ b) :
    Ideal.exp (a - b) * Ideal.exp (x - a) = Ideal.exp (x - b) := by
  induction b with
  | bot =>
    obtain rfl := le_bot_iff.1 h
    obtain rfl := le_bot_iff.1 hx
    rw [exp_bot_sub]; simp
  | top => rw [EReal.sub_top, EReal.sub_top]; exact zero_mul _
  | coe rb =>
    induction a with
    | bot =>
      obtain rfl := le_bot_iff.1 hx
      rw [exp_bot_sub, exp_bot_sub, zero_mul]
    | top => exact absurd h (by simp)
    | coe ra =>
      induction x with
      | bot => rw [exp_bot_sub, exp_bot_sub, mul_zero]
      | top => exact absurd hx (by simp)
      | coe rx =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

/-- A finite factor that is not negative goes into a sum. -/
theorem mul_sum {ι : Type} (S : Finset ι) {a : EReal} (h0 : 0 ≤ a) (ht : a ≠ ⊤) (f : ι → EReal) :
    a * ∑ k ∈ S, f k = ∑ k ∈ S, a * f k := by
  classical
  induction S using Finset.induction_on with
  | empty => simp
  | insert k S hk ih => rw [Finset.sum_insert hk, Finset.sum_insert hk, EReal.left_distrib_of_nonneg_of_ne_top h0 ht, ih]

theorem peak_mono (s : ℕ → EReal) {n n' : ℕ} (h : n ≤ n') : peak s n ≤ peak s n' :=
  Finset.sup_mono (Finset.range_subset_range.2 h)

theorem le_peak (s : ℕ → EReal) {k n : ℕ} (h : k < n) : s k ≤ peak s n :=
  Finset.le_sup (f := s) (Finset.mem_range.2 h)

theorem peak_step (s : ℕ → EReal) (n t : ℕ) :
    max (peak s n) (Finset.univ.sup fun k : Fin t => s (n + k.val)) = peak s (n + t) := by
  apply le_antisymm
  · refine max_le (peak_mono s (Nat.le_add_right n t)) (Finset.sup_le fun k _ => le_peak s ?_)
    have := k.isLt; omega
  · refine Finset.sup_le fun k hk => ?_
    have hk := Finset.mem_range.1 hk
    by_cases h : k < n
    · exact le_max_of_le_left (le_peak s h)
    · refine le_max_of_le_right ?_
      have e : s k = (fun k : Fin t => s (n + k.val)) ⟨k - n, by omega⟩ := by
        show s k = s (n + (k - n)); congr 1; omega
      rw [e]; exact Finset.le_sup (f := fun k : Fin t => s (n + k.val)) (Finset.mem_univ _)

theorem mass_step (s : ℕ → EReal) (n t : ℕ) :
    Ideal.exp (peak s n - peak s (n + t)) * mass s n + ∑ k : Fin t, Ideal.exp (s (n + k.val) - peak s (n + t))
      = mass s (n + t) := by
  have hm := peak_mono s (Nat.le_add_right n t)
  unfold mass
  rw [mul_sum _ (exp_nonneg _) (exp_sub_ne_top hm), Finset.sum_range_add,
    Finset.sum_range (f := fun x => Ideal.exp (s (n + x) - peak s (n + t)))]
  congr 1
  exact Finset.sum_congr rfl fun k hk => exp_rescale (le_peak s (Finset.mem_range.1 hk)) hm

theorem blend_step (s v : ℕ → EReal) (n t : ℕ) :
    Ideal.exp (peak s n - peak s (n + t)) * blend s v n
        + ∑ k : Fin t, v (n + k.val) * Ideal.exp (s (n + k.val) - peak s (n + t))
      = blend s v (n + t) := by
  have hm := peak_mono s (Nat.le_add_right n t)
  unfold blend
  rw [mul_sum _ (exp_nonneg _) (exp_sub_ne_top hm), Finset.sum_range_add,
    Finset.sum_range (f := fun x => v (n + x) * Ideal.exp (s (n + x) - peak s (n + t)))]
  congr 1
  refine Finset.sum_congr rfl fun k hk => ?_
  rw [mul_left_comm, exp_rescale (le_peak s (Finset.mem_range.1 hk)) hm]

theorem peak_tail (s : ℕ → EReal) (n t : ℕ) (h : ∀ k, n ≤ k → k < n + t → s k = ⊥) : peak s (n + t) = peak s n := by
  rw [← peak_step]
  refine max_eq_left (Finset.sup_le fun k _ => ?_)
  have := k.isLt
  rw [h _ (by omega) (by omega)]; exact bot_le

theorem mass_tail (s : ℕ → EReal) (n t : ℕ) (h : ∀ k, n ≤ k → k < n + t → s k = ⊥) : mass s (n + t) = mass s n := by
  unfold mass
  rw [Finset.sum_range_add, peak_tail s n t h, Finset.sum_eq_zero (s := Finset.range t), add_zero]
  intro k hk
  have := Finset.mem_range.1 hk
  rw [h _ (by omega) (by omega), exp_bot_sub]

theorem blend_tail (s v : ℕ → EReal) (n t : ℕ) (h : ∀ k, n ≤ k → k < n + t → s k = ⊥) :
    blend s v (n + t) = blend s v n := by
  unfold blend
  rw [Finset.sum_range_add, peak_tail s n t h, Finset.sum_eq_zero (s := Finset.range t), add_zero]
  intro k hk
  have := Finset.mem_range.1 hk
  rw [h _ (by omega) (by omega), exp_bot_sub, mul_zero]

/-- The mass is not zero when the greatest score is a real number. -/
theorem mass_ne_zero (s : ℕ → EReal) (n k : ℕ) (hk : k < n) (hb : s k ≠ ⊥) (ht : ∀ k < n, s k ≠ ⊤) : mass s n ≠ 0 := by
  have hfin : peak s n ≠ ⊤ := by
    refine ne_of_lt ((Finset.sup_lt_iff (a := (⊤ : EReal)) bot_lt_top).2 fun k hk => ?_)
    exact lt_top_iff_ne_top.2 (ht k (Finset.mem_range.1 hk))
  have hlow : peak s n ≠ ⊥ := fun e => hb (le_bot_iff.1 (e ▸ le_peak s hk))
  have hpos : 0 < Ideal.exp (s k - peak s n) := by
    lift peak s n to ℝ using ⟨hfin, hlow⟩ with m
    have hkt := ht k hk
    lift s k to ℝ using ⟨hkt, hb⟩ with r
    rw [← EReal.coe_sub]
    exact EReal.coe_pos.2 (Real.exp_pos _)
  refine ne_of_gt (lt_of_lt_of_le hpos ?_)
  exact Finset.single_le_sum (f := fun k => Ideal.exp (s k - peak s n)) (fun k _ => exp_nonneg _) (Finset.mem_range.2 hk)

/-- Dividing at the end is dividing every weight. -/
theorem blend_div (s v : ℕ → EReal) (n : ℕ) (h : mass s n ≠ 0) :
    Ideal.div (blend s v n) (mass s n)
      = ∑ k ∈ Finset.range n, v k * Ideal.div (Ideal.exp (s k - peak s n)) (mass s n) := by
  have hd : ∀ x, Ideal.div x (mass s n) = (mass s n)⁻¹ * x := fun x => by rw [Ideal.div, if_neg h, mul_comm]
  have h0 : 0 ≤ mass s n := Finset.sum_nonneg fun k _ => exp_nonneg _
  have hi : (mass s n)⁻¹ ≠ ⊤ := by
    generalize mass s n = x at h
    induction x with
    | bot => simp
    | top => simp
    | coe r => rw [← EReal.coe_inv]; exact EReal.coe_ne_top _
  rw [hd]
  unfold blend
  rw [mul_sum _ (EReal.inv_nonneg_of_nonneg h0) hi]
  refine Finset.sum_congr rfl fun k _ => ?_
  rw [hd, mul_left_comm]

end Cert.Online

end
-- ==== Proof.Reads.lean ====
/-
  A head's step, read at an index over the extended reals: it carries the running maximum, sum and weighted sum of the
  first `n` keys to those of the first `n + 256` (`Held.step`).
-/
module

public import proofs.«01_k».proof.Proof.Step
public import proofs.«01_k».proof.Proof.Online
public import Idealize.ShloMosaic.Lib.Pointwise
public import Idealize.ShloMosaic.Lib.WordCmp

@[expose] public section

set_option maxRecDepth 16384

noncomputable section

open Idealize.ShloMosaic Cert.KernelIdeal Cert.KernelIdeal.Gen Cert.Online

namespace Cert.Step

theorem score_apply (k q : FVec Ideal S1x256x256 .bf16) (a r : Fin 256) :
    score k q (ix2 a r) = ∑ d : Fin 256, k (ix3 0 a d) * q (ix3 0 d r) := by
  pointwise [score]

theorem minusInfinity : Ideal.ofBits .f32 0xFF800000#32 = ⊥ := by
  simp [Ideal.ofBits, Ideal.ieee]

theorem mask_value : Named.named (F := Ideal) κ "mask" (φ := .f32) 0xF149F2CA#32 = ⊥ := rfl

theorem newMax_apply (s : FVec Ideal S256x256 .f32) (m : FVec Ideal S1x256 .f32) (r : Fin 256) :
    newMax s m (ix2 0 r) = max (m (ix2 0 r)) (Finset.univ.sup fun a : Fin 256 => s (ix2 a r)) := by
  pointwise [newMax]
  rw [minusInfinity]
  rfl

theorem scale_apply (s : FVec Ideal S256x256 .f32) (m : FVec Ideal S1x256 .f32) (r : Fin 256) :
    scale s m (ix2 0 r) = Ideal.exp (m (ix2 0 r) - newMax s m (ix2 0 r)) := by
  pointwise [scale]

theorem weights_apply (s : FVec Ideal S256x256 .f32) (m : FVec Ideal S1x256 .f32) (a r : Fin 256) :
    weights s m (ix2 a r) = Ideal.exp (s (ix2 a r) - newMax s m (ix2 0 r)) := by
  pointwise [weights]

theorem putMax_apply (s : FVec Ideal S256x256 .f32) (m : FVec Ideal S1x256 .f32) (r : Fin 256) :
    putMax s m (ix2 0 r) = newMax s m (ix2 0 r) := by
  pointwise [putMax]

theorem putSum_apply (s : FVec Ideal S256x256 .f32) (m l : FVec Ideal S1x256 .f32) (r : Fin 256) :
    putSum s m l (ix2 0 r) = scale s m (ix2 0 r) * l (ix2 0 r) + ∑ a : Fin 256, weights s m (ix2 a r) := by
  pointwise [putSum]

theorem putAcc_apply (s : FVec Ideal S256x256 .f32) (m : FVec Ideal S1x256 .f32) (v : FVec Ideal S1x1x128x256 .bf16)
    (a : FVec Ideal S1x128x256 .f32) (d : Fin 128) (r : Fin 256) :
    putAcc s m v a (ix3 0 d r)
      = scale s m (ix2 0 r) * a (ix3 0 d r) + ∑ k : Fin 256, v (ix4 0 0 d k) * weights s m (ix2 k r) := by
  pointwise [putAcc]

theorem result_apply (a : FVec Ideal S1x128x256 .f32) (l : FVec Ideal S1x256 .f32) (r : Fin 256) (d : Fin 128) :
    result a l (ix2 r d) = Ideal.div (a (ix3 0 d r)) (l (ix2 0 r)) := by
  pointwise [result]

theorem masked_apply (s : FVec Ideal S256x256 .f32) (a r : Fin 256) :
    masked s (ix2 a r) = if a.val ≤ r.val then s (ix2 a r) else ⊥ := by
  pointwise [masked]
  rw [WordCmp.cmpi_sle_ofNat (by have := a.isLt; omega) (by have := r.isLt; omega), mask_value]
  by_cases h : a.val ≤ r.val <;> simp [h, Scalar.select]

/-- A head's running values after the first `n` keys: for every query (a column), of the scores `s` and the values `v`. -/
structure Held (s : Fin 256 → ℕ → EReal) (v : Fin 128 → ℕ → EReal) (n : ℕ) (m l : FVec Ideal S1x256 .f32)
    (a : FVec Ideal S1x128x256 .f32) : Prop where
  max : ∀ r, m (ix2 0 r) = peak (s r) n
  sum : ∀ r, l (ix2 0 r) = mass (s r) n
  acc : ∀ d r, a (ix3 0 d r) = blend (s r) (v d) n

variable {s : Fin 256 → ℕ → EReal} {v : Fin 128 → ℕ → EReal} {n : ℕ} {m l : FVec Ideal S1x256 .f32}
variable {a : FVec Ideal S1x128x256 .f32}

theorem Held.newMax (H : Held s v n m l a) {t : FVec Ideal S256x256 .f32}
    (ht : ∀ k r : Fin 256, t (ix2 k r) = s r (n + k.val)) (r : Fin 256) : Step.newMax t m (ix2 0 r) = peak (s r) (n + 256) := by
  rw [newMax_apply, H.max, ← peak_step]
  simp only [ht]

theorem Held.step (H : Held s v n m l a) {t : FVec Ideal S256x256 .f32} {w : FVec Ideal S1x1x128x256 .bf16}
    (ht : ∀ k r : Fin 256, t (ix2 k r) = s r (n + k.val)) (hw : ∀ (k : Fin 256) (d : Fin 128), w (ix4 0 0 d k) = v d (n + k.val)) :
    Held s v (n + 256) (putMax t m) (putSum t m l) (putAcc t m w a) where
  max r := by rw [putMax_apply, H.newMax ht]
  sum r := by
    rw [putSum_apply, scale_apply, H.newMax ht, H.max, H.sum, ← mass_step]
    simp only [weights_apply, H.newMax ht, ht]
  acc d r := by
    rw [putAcc_apply, scale_apply, H.newMax ht, H.max, H.acc, ← blend_step]
    simp only [weights_apply, H.newMax ht, ht, hw]

end Cert.Step

end
-- ==== Proof.Offsets.lean ====
/-
  Where the kernel's loads and stores lie, head by head: the closed forms of the offsets it computes.
-/
module

public import proofs.«01_k».proof.Proof.Gen.KernelIdeal.Value

@[expose] public section

set_option maxRecDepth 16384

noncomputable section

open Idealize.ShloMosaic Cert.KernelIdeal Cert.KernelIdeal.Gen

namespace Cert.Trip

/-- Where head `h`'s row begins in the buffers of running maxima and sums, and in that of weighted sums. -/
def off2 (h : Fin 8) : Fin 2 → ℕ := ![h.val, 0]
def off3 (h : Fin 8) : Fin 3 → ℕ := ![h.val, 0, 0]

theorem inb2 : ∀ h a, off2 h a + S1x256.size a ≤ S8x256.size a := by decide +kernel
theorem inb3 : ∀ h a, off3 h a + S1x128x256.size a ≤ S8x128x256.size a := by decide +kernel
theorem inbQ : ∀ h a, off3 h a + S1x256x256.size a ≤ S8x256x256.size a := by decide +kernel

theorem apart2 : ∀ g h : Fin 8, g ≠ h → ∃ a, off2 g a + S1x256.size a ≤ off2 h a ∨ off2 h a + S1x256.size a ≤ off2 g a := by
  decide +kernel
theorem apart3 : ∀ g h : Fin 8, g ≠ h → ∃ a, off3 g a + S1x128x256.size a ≤ off3 h a ∨ off3 h a + S1x128x256.size a ≤ off3 g a := by
  decide +kernel

section Offsets

variable (i : grid0.Coords) (k : Fin (k0_t1_loop i).trips)

/-- Where a trip's first and second 256 keys begin, head by head, and their values. -/
def keyOff1 : Fin 8 → Fin 3 → ℕ :=
  ![k0_off1 i k, k0_off2 i k, k0_off3 i k, k0_off4 i k, k0_off5 i k, k0_off6 i k, k0_off7 i k, k0_off8 i k]
def keyOff2 : Fin 8 → Fin 3 → ℕ :=
  ![k0_off9 i k, k0_off10 i k, k0_off11 i k, k0_off12 i k, k0_off13 i k, k0_off14 i k, k0_off15 i k, k0_off16 i k]
def valOff1 : Fin 8 → Fin 4 → ℕ :=
  ![k0_off17 i k, k0_off18 i k, k0_off19 i k, k0_off20 i k, k0_off21 i k, k0_off22 i k, k0_off23 i k, k0_off24 i k]
def valOff2 : Fin 8 → Fin 4 → ℕ :=
  ![k0_off25 i k, k0_off26 i k, k0_off27 i k, k0_off28 i k, k0_off29 i k, k0_off30 i k, k0_off31 i k, k0_off32 i k]

end Offsets

/-- Where the block before the diagonal one and the diagonal block begin, head by head, and their values. -/
def keyOffOdd (i : grid0.Coords) : Fin 8 → Fin 3 → ℕ :=
  ![k0_off65 i, k0_off66 i, k0_off67 i, k0_off68 i, k0_off69 i, k0_off70 i, k0_off71 i, k0_off72 i]
def keyOffDiag (i : grid0.Coords) : Fin 8 → Fin 3 → ℕ :=
  ![k0_off81 i, k0_off82 i, k0_off83 i, k0_off84 i, k0_off85 i, k0_off86 i, k0_off87 i, k0_off88 i]
def valOffOdd (i : grid0.Coords) : Fin 8 → Fin 4 → ℕ :=
  ![k0_off73 i, k0_off74 i, k0_off75 i, k0_off76 i, k0_off77 i, k0_off78 i, k0_off79 i, k0_off80 i]
def valOffDiag (i : grid0.Coords) : Fin 8 → Fin 4 → ℕ :=
  ![k0_off89 i, k0_off90 i, k0_off91 i, k0_off92 i, k0_off93 i, k0_off94 i, k0_off95 i, k0_off96 i]

/-- Where a head's output columns begin. -/
def offO (h : Fin 8) : Fin 2 → ℕ := ![0, 128 * h.val]

theorem inbO : ∀ h a, offO h a + S256x128.size a ≤ S256x1024.size a := by decide +kernel
theorem apartO : ∀ g h : Fin 8, g ≠ h → ∃ a, offO g a + S256x128.size a ≤ offO h a ∨ offO h a + S256x128.size a ≤ offO g a := by
  decide +kernel

theorem keyOffOdd_eq : ∀ i : grid0.Coords, k0_cond1 i = 1#1 → ∀ h : Fin 8,
    keyOffOdd i h = ![h.val, 256 * ((i 1).val - 1), 0] := by decide +kernel
theorem valOffOdd_eq : ∀ i : grid0.Coords, k0_cond1 i = 1#1 → ∀ h : Fin 8,
    valOffOdd i h = ![h.val, (i 1).val - 1, 0, 0] := by decide +kernel
theorem keyOffDiag_eq : ∀ (i : grid0.Coords) (h : Fin 8), keyOffDiag i h = ![h.val, 256 * (i 1).val, 0] := by decide +kernel
theorem valOffDiag_eq : ∀ (i : grid0.Coords) (h : Fin 8), valOffDiag i h = ![h.val, (i 1).val, 0, 0] := by decide +kernel

theorem keyOffOdd_inb : ∀ i : grid0.Coords, k0_cond1 i = 1#1 → ∀ (h : Fin 8) (a : Fin 3),
    keyOffOdd i h a + S1x256x256.size a ≤ S8x2048x256.size a := by decide +kernel
theorem valOffOdd_inb : ∀ i : grid0.Coords, k0_cond1 i = 1#1 → ∀ (h : Fin 8) (a : Fin 4),
    valOffOdd i h a + S1x1x128x256.size a ≤ S8x8x128x256.size a := by decide +kernel
theorem keyOffDiag_inb : ∀ (i : grid0.Coords) (h : Fin 8) (a : Fin 3),
    keyOffDiag i h a + S1x256x256.size a ≤ S8x2048x256.size a := by decide +kernel
theorem valOffDiag_inb : ∀ (i : grid0.Coords) (h : Fin 8) (a : Fin 4),
    valOffDiag i h a + S1x1x128x256.size a ≤ S8x8x128x256.size a := by decide +kernel

/-- The first loop takes half as many trips as there are whole blocks before the diagonal one; the second none. -/
theorem trips1 : ∀ i : grid0.Coords, (k0_t1_loop i).trips = (i 1).val / 2 := by decide +kernel
theorem trips2 : ∀ i : grid0.Coords, (k0_t2_loop i).trips = 0 := by decide +kernel
theorem cond_iff : ∀ i : grid0.Coords, k0_cond1 i = 1#1 ↔ (i 1).val % 2 = 1 := by decide +kernel

theorem keyOff1_eq : ∀ (i : grid0.Coords) (k : Fin (k0_t1_loop i).trips) (h : Fin 8),
    keyOff1 i k h = ![h.val, 512 * k.val, 0] := by decide +kernel
theorem keyOff2_eq : ∀ (i : grid0.Coords) (k : Fin (k0_t1_loop i).trips) (h : Fin 8),
    keyOff2 i k h = ![h.val, 512 * k.val + 256, 0] := by decide +kernel
theorem valOff1_eq : ∀ (i : grid0.Coords) (k : Fin (k0_t1_loop i).trips) (h : Fin 8),
    valOff1 i k h = ![h.val, 2 * k.val, 0, 0] := by decide +kernel
theorem valOff2_eq : ∀ (i : grid0.Coords) (k : Fin (k0_t1_loop i).trips) (h : Fin 8),
    valOff2 i k h = ![h.val, 2 * k.val + 1, 0, 0] := by decide +kernel

theorem keyOff1_inb : ∀ (i : grid0.Coords) (k : Fin (k0_t1_loop i).trips) (h : Fin 8) (a : Fin 3),
    keyOff1 i k h a + S1x256x256.size a ≤ S8x2048x256.size a := by decide +kernel
theorem keyOff2_inb : ∀ (i : grid0.Coords) (k : Fin (k0_t1_loop i).trips) (h : Fin 8) (a : Fin 3),
    keyOff2 i k h a + S1x256x256.size a ≤ S8x2048x256.size a := by decide +kernel
theorem valOff1_inb : ∀ (i : grid0.Coords) (k : Fin (k0_t1_loop i).trips) (h : Fin 8) (a : Fin 4),
    valOff1 i k h a + S1x1x128x256.size a ≤ S8x8x128x256.size a := by decide +kernel
theorem valOff2_inb : ∀ (i : grid0.Coords) (k : Fin (k0_t1_loop i).trips) (h : Fin 8) (a : Fin 4),
    valOff2 i k h a + S1x1x128x256.size a ≤ S8x8x128x256.size a := by decide +kernel

end Cert.Trip

end
-- ==== Proof.Trip.lean ====
/-
  One trip of the kernel's loop over key blocks, in terms of the heads' steps: 256 keys, then 256 more, for each of the
  eight heads, the running values of a head held in its own row of three buffers.
-/
module

public import proofs.«01_k».proof.Proof.Step
public import proofs.«01_k».proof.Proof.Offsets

@[expose] public section

set_option maxRecDepth 16384
set_option maxHeartbeats 4000000

noncomputable section

open Idealize.ShloMosaic Cert.KernelIdeal Cert.KernelIdeal.Gen Cert.Rows Cert.Step

namespace Cert.Trip

variable {F : FTy → Type} [FloatOps F] [Named F]

section Loads

variable (arg2 : Memref sig .tc .vmem S8x256x256 .bf16) (arg3 : Memref sig .tc .vmem S8x2048x256 .bf16)
variable (arg4 : Memref sig .tc .vmem S8x8x128x256 .bf16) (arg6 arg7 : Memref sig .tc .vmem S8x256 .f32)
variable (arg8 : Memref sig .tc .vmem S8x128x256 .f32)

/-- The scores of head `h`, its keys loaded from offset `off h`. -/
def scoreAt (off : Fin 8 → Fin 3 → ℕ) (inb : ∀ h a, off h a + S1x256x256.size a ≤ S8x2048x256.size a)
    (X2 : arg2.view.ty.Contents (Elt F)) (X3 : arg3.view.ty.Contents (Elt F)) (h : Fin 8) : FVec F S256x256 .f32 :=
  score (arg3.view.readAt (Elt F) (Rect.unit (s := S8x2048x256) (off h) S1x256x256.size (inb h)).toLoadRect X3)
    (arg2.view.readAt (Elt F) (Rect.unit (s := S8x256x256) (off3 h) S1x256x256.size (inbQ h)).toLoadRect X2)

/-- The values of head `h`, loaded from offset `off h`. -/
def valueAt (off : Fin 8 → Fin 4 → ℕ) (inb : ∀ h a, off h a + S1x1x128x256.size a ≤ S8x8x128x256.size a)
    (X4 : arg4.view.ty.Contents (Elt F)) (h : Fin 8) : FVec F S1x1x128x256 .bf16 :=
  arg4.view.readAt (Elt F) (Rect.unit (s := S8x8x128x256) (off h) S1x1x128x256.size (inb h)).toLoadRect X4

/-- Head `h`'s row of a buffer. -/
def row2 (f : arg6.view.ty.Contents (Elt F)) (h : Fin 8) : FVec F S1x256 .f32 :=
  arg6.view.readAt (Elt F) (Rect.unit (s := S8x256) (off2 h) S1x256.size (inb2 h)).toLoadRect f
def row3 (f : arg8.view.ty.Contents (Elt F)) (h : Fin 8) : FVec F S1x128x256 .f32 :=
  arg8.view.readAt (Elt F) (Rect.unit (s := S8x128x256) (off3 h) S1x128x256.size (inb3 h)).toLoadRect f

/-- The stores of a step that follows stores `L6`, `L7`, `L8` to the three buffers. -/
def thread6 (sc : Fin 8 → FVec F S256x256 .f32) (L6 : List (View.Piece (Elt F) S8x256 .f32)) : ℕ → List (View.Piece (Elt F) S8x256 .f32) :=
  thread arg6.view off2 S1x256.size inb2 (fun h => putMax (sc h)) L6
def thread7 (sc : Fin 8 → FVec F S256x256 .f32) (L6 L7 : List (View.Piece (Elt F) S8x256 .f32)) : ℕ → List (View.Piece (Elt F) S8x256 .f32) :=
  thread arg7.view off2 S1x256.size inb2
    (fun h => putSum (sc h) (row2 arg6 (arg6.view.writes (Elt F) arg6.view.junk (thread6 arg6 sc L6 h.val)) h)) L7
def thread8 (sc : Fin 8 → FVec F S256x256 .f32) (vs : Fin 8 → FVec F S1x1x128x256 .bf16)
    (L6 : List (View.Piece (Elt F) S8x256 .f32)) (L8 : List (View.Piece (Elt F) S8x128x256 .f32)) : ℕ → List (View.Piece (Elt F) S8x128x256 .f32) :=
  thread arg8.view off3 S1x128x256.size inb3
    (fun h => putAcc (sc h) (row2 arg6 (arg6.view.writes (Elt F) arg6.view.junk (thread6 arg6 sc L6 h.val)) h) (vs h)) L8

variable {arg6 arg7 arg8}

theorem row2_thread6 (f : arg6.view.ty.Contents (Elt F)) (sc : Fin 8 → FVec F S256x256 .f32) (L6) (h : Fin 8) :
    row2 arg6 (arg6.view.writes (Elt F) f (thread6 arg6 sc L6 8)) h
      = putMax (sc h) (row2 arg6 (arg6.view.writes (Elt F) arg6.view.junk L6) h) :=
  readAt_thread arg6.view inb2 apart2 f _ L6 h 8 h.isLt le_rfl

theorem row2_before (sc : Fin 8 → FVec F S256x256 .f32) (L6) (h : Fin 8) :
    row2 arg6 (arg6.view.writes (Elt F) arg6.view.junk (thread6 arg6 sc L6 h.val)) h
      = row2 arg6 (arg6.view.writes (Elt F) arg6.view.junk L6) h :=
  readAt_thread_ge arg6.view inb2 apart2 _ _ L6 h h.val le_rfl

theorem row2_thread7 (f : arg7.view.ty.Contents (Elt F)) (sc : Fin 8 → FVec F S256x256 .f32) (L6 L7) (h : Fin 8) :
    row2 arg7 (arg7.view.writes (Elt F) f (thread7 arg6 arg7 sc L6 L7 8)) h
      = putSum (sc h) (row2 arg6 (arg6.view.writes (Elt F) arg6.view.junk L6) h)
          (row2 arg7 (arg7.view.writes (Elt F) arg7.view.junk L7) h) := by
  rw [← row2_before (arg6 := arg6) sc L6 h]
  exact readAt_thread arg7.view inb2 apart2 f _ L7 h 8 h.isLt le_rfl

theorem row3_thread8 (f : arg8.view.ty.Contents (Elt F)) (sc : Fin 8 → FVec F S256x256 .f32) (vs) (L6 L8) (h : Fin 8) :
    row3 arg8 (arg8.view.writes (Elt F) f (thread8 arg6 arg8 sc vs L6 L8 8)) h
      = putAcc (sc h) (row2 arg6 (arg6.view.writes (Elt F) arg6.view.junk L6) h) (vs h)
          (row3 arg8 (arg8.view.writes (Elt F) arg8.view.junk L8) h) := by
  rw [← row2_before (arg6 := arg6) sc L6 h]
  exact readAt_thread arg8.view inb3 apart3 f _ L8 h 8 h.isLt le_rfl

end Loads

section Pieces

variable (c : Dev nD) (i : grid0.Coords)
variable (arg2 : Memref sig .tc .vmem S8x256x256 .bf16) (harg2 : arg2.IsWhole)
variable (arg3 : Memref sig .tc .vmem S8x2048x256 .bf16) (harg3 : arg3.IsWhole)
variable (arg4 : Memref sig .tc .vmem S8x8x128x256 .bf16) (harg4 : arg4.IsWhole)
variable (arg5 : Memref sig .tc .vmem S256x1024 .bf16) (harg5 : arg5.IsWhole)
variable (arg6 : Memref sig .tc .vmem S8x256 .f32) (harg6 : arg6.IsWhole)
variable (arg7 : Memref sig .tc .vmem S8x256 .f32) (harg7 : arg7.IsWhole)
variable (arg8 : Memref sig .tc .vmem S8x128x256 .f32) (harg8 : arg8.IsWhole)
variable (arg1 c0 v33 c1 : BitVec 32)
variable (X2 : arg2.view.ty.Contents (Elt F)) (X3 : arg3.view.ty.Contents (Elt F)) (X4 : arg4.view.ty.Contents (Elt F))
variable (k : Fin (k0_t1_loop i).trips)
variable (f6 : arg6.view.ty.Contents (Elt F)) (f7 : arg7.view.ty.Contents (Elt F)) (f8 : arg8.view.ty.Contents (Elt F))

/-- The scores and values of the trip. -/
def sc1 : Fin 8 → FVec F S256x256 .f32 := scoreAt arg2 arg3 (keyOff1 i k) (keyOff1_inb i k) X2 X3
def sc2 : Fin 8 → FVec F S256x256 .f32 := scoreAt arg2 arg3 (keyOff2 i k) (keyOff2_inb i k) X2 X3
def vs1 : Fin 8 → FVec F S1x1x128x256 .bf16 := valueAt arg4 (valOff1 i k) (valOff1_inb i k) X4
def vs2 : Fin 8 → FVec F S1x1x128x256 .bf16 := valueAt arg4 (valOff2 i k) (valOff2_inb i k) X4

/-- The stores of the trip's first 256 keys. -/
def first6 : List (View.Piece (Elt F) S8x256 .f32) :=
  rows off2 S1x256.size inb2 (fun h => putMax (sc1 i arg2 arg3 X2 X3 k h) (row2 arg6 f6 h)) 8
def first7 : List (View.Piece (Elt F) S8x256 .f32) :=
  rows off2 S1x256.size inb2 (fun h => putSum (sc1 i arg2 arg3 X2 X3 k h) (row2 arg6 f6 h) (row2 arg7 f7 h)) 8
def first8 : List (View.Piece (Elt F) S8x128x256 .f32) :=
  rows off3 S1x128x256.size inb3 (fun h => putAcc (sc1 i arg2 arg3 X2 X3 k h) (row2 arg6 f6 h) (vs1 i arg4 X4 k h) (row3 arg8 f8 h)) 8

/-- The trip's stores to the three buffers. -/
theorem trip6 : (trip_k0_t1 (F := F) Variants.none c none i arg2 harg2 arg3 harg3 arg4 harg4 arg5 harg5 arg6 harg6 arg7 harg7 arg8 harg8
      arg1 c0 v33 c1 X2 X3 X4 k).1 f6 f7 f8
    = thread6 arg6 (sc2 i arg2 arg3 X2 X3 k) (first6 i arg2 arg3 arg6 X2 X3 k f6) 8 := by
  unfold trip_k0_t1
  rfl

theorem trip7 : (trip_k0_t1 (F := F) Variants.none c none i arg2 harg2 arg3 harg3 arg4 harg4 arg5 harg5 arg6 harg6 arg7 harg7 arg8 harg8
      arg1 c0 v33 c1 X2 X3 X4 k).2.1 f6 f7 f8
    = thread7 arg6 arg7 (sc2 i arg2 arg3 X2 X3 k) (first6 i arg2 arg3 arg6 X2 X3 k f6)
        (first7 i arg2 arg3 arg6 arg7 X2 X3 k f6 f7) 8 := by
  unfold trip_k0_t1
  rfl

theorem trip8 : (trip_k0_t1 (F := F) Variants.none c none i arg2 harg2 arg3 harg3 arg4 harg4 arg5 harg5 arg6 harg6 arg7 harg7 arg8 harg8
      arg1 c0 v33 c1 X2 X3 X4 k).2.2.1 f6 f7 f8
    = thread8 arg6 arg8 (sc2 i arg2 arg3 X2 X3 k) (vs2 i arg4 X4 k) (first6 i arg2 arg3 arg6 X2 X3 k f6)
        (first8 i arg2 arg3 arg4 arg6 arg8 X2 X3 X4 k f6 f8) 8 := by
  unfold trip_k0_t1
  rfl

variable (h : Fin 8)

/-- What a head's rows hold after the trip. -/
theorem trip_max : row2 arg6 (arg6.view.writes (Elt F) f6 ((trip_k0_t1 (F := F) Variants.none c none i arg2 harg2 arg3 harg3 arg4 harg4 arg5 harg5 arg6 harg6 arg7 harg7 arg8 harg8
      arg1 c0 v33 c1 X2 X3 X4 k).1 f6 f7 f8)) h
    = putMax (sc2 i arg2 arg3 X2 X3 k h) (putMax (sc1 i arg2 arg3 X2 X3 k h) (row2 arg6 f6 h)) := by
  rw [trip6, row2_thread6]
  exact congrArg _ (readAt_rows arg6.view inb2 apart2 _ _ h 8 h.isLt le_rfl)

theorem trip_sum : row2 arg7 (arg7.view.writes (Elt F) f7 ((trip_k0_t1 (F := F) Variants.none c none i arg2 harg2 arg3 harg3 arg4 harg4 arg5 harg5 arg6 harg6 arg7 harg7 arg8 harg8
      arg1 c0 v33 c1 X2 X3 X4 k).2.1 f6 f7 f8)) h
    = putSum (sc2 i arg2 arg3 X2 X3 k h) (putMax (sc1 i arg2 arg3 X2 X3 k h) (row2 arg6 f6 h))
        (putSum (sc1 i arg2 arg3 X2 X3 k h) (row2 arg6 f6 h) (row2 arg7 f7 h)) := by
  rw [trip7, row2_thread7]
  exact congrArg₂ _ (readAt_rows arg6.view inb2 apart2 _ _ h 8 h.isLt le_rfl) (readAt_rows arg7.view inb2 apart2 _ _ h 8 h.isLt le_rfl)

theorem trip_acc : row3 arg8 (arg8.view.writes (Elt F) f8 ((trip_k0_t1 (F := F) Variants.none c none i arg2 harg2 arg3 harg3 arg4 harg4 arg5 harg5 arg6 harg6 arg7 harg7 arg8 harg8
      arg1 c0 v33 c1 X2 X3 X4 k).2.2.1 f6 f7 f8)) h
    = putAcc (sc2 i arg2 arg3 X2 X3 k h) (putMax (sc1 i arg2 arg3 X2 X3 k h) (row2 arg6 f6 h)) (vs2 i arg4 X4 k h)
        (putAcc (sc1 i arg2 arg3 X2 X3 k h) (row2 arg6 f6 h) (vs1 i arg4 X4 k h) (row3 arg8 f8 h)) := by
  rw [trip8, row3_thread8]
  exact congrArg₂ (fun m a => putAcc (sc2 i arg2 arg3 X2 X3 k h) m (vs2 i arg4 X4 k h) a)
    (readAt_rows arg6.view inb2 apart2 _ _ h 8 h.isLt le_rfl) (readAt_rows arg8.view inb3 apart3 _ _ h 8 h.isLt le_rfl)

end Pieces

end Cert.Trip

end
-- ==== Proof.Run.lean ====
/-
  A grid point's run in terms of the heads' steps: the buffers filled, the loop over pairs of key blocks, the block
  before the diagonal one when the number of blocks is odd, the masked diagonal block, and the division at the end.
-/
module

public import proofs.«01_k».proof.Proof.Trip

@[expose] public section

set_option maxRecDepth 16384
set_option maxHeartbeats 2000000

noncomputable section

open Idealize.ShloMosaic Cert.KernelIdeal Cert.KernelIdeal.Gen Cert.Rows Cert.Step Cert.Trip

namespace Cert.Run

variable {F : FTy → Type} [FloatOps F] [Named F]

variable (c : Dev nD) (i : grid0.Coords)
variable (arg2 : Memref sig .tc .vmem S8x256x256 .bf16) (harg2 : arg2.IsWhole)
variable (arg3 : Memref sig .tc .vmem S8x2048x256 .bf16) (harg3 : arg3.IsWhole)
variable (arg4 : Memref sig .tc .vmem S8x8x128x256 .bf16) (harg4 : arg4.IsWhole)
variable (arg5 : Memref sig .tc .vmem S256x1024 .bf16) (harg5 : arg5.IsWhole)
variable (arg6 : Memref sig .tc .vmem S8x256 .f32) (harg6 : arg6.IsWhole)
variable (arg7 : Memref sig .tc .vmem S8x256 .f32) (harg7 : arg7.IsWhole)
variable (arg8 : Memref sig .tc .vmem S8x128x256 .f32) (harg8 : arg8.IsWhole)
variable (v33 : BitVec 32) (e6 e7 : List (View.Piece (Elt F) S8x256 .f32)) (e8 : List (View.Piece (Elt F) S8x128x256 .f32))
variable (x0 : Vec F S8x256x256 .bf16) (x1 : Vec F S8x2048x256 .bf16) (x2 : Vec F S8x8x128x256 .bf16)

/-- The stores of the first loop's first `n` trips, and of the second loop's, after stores `e6`, `e7`, `e8`. -/
def loop1 (n : ℕ) : List (View.Piece (Elt F) S8x256 .f32) × List (View.Piece (Elt F) S8x256 .f32) × List (View.Piece (Elt F) S8x128x256 .f32) :=
  pb_k0_t1 Variants.none c none i arg2 harg2 arg3 harg3 arg4 harg4 arg5 harg5 arg6 harg6 arg7 harg7 arg8 harg8
    (BitVec.ofNat 32 (i 1).val) 0#32 v33 1#32 (harg2.unread x0) (harg3.unread x1) (harg4.unread x2)
    (arg6.view.writes (Elt F) arg6.view.junk e6) (arg7.view.writes (Elt F) arg7.view.junk e7)
    (arg8.view.writes (Elt F) arg8.view.junk e8) n
def loop2 : List (View.Piece (Elt F) S8x256 .f32) × List (View.Piece (Elt F) S8x256 .f32) × List (View.Piece (Elt F) S8x128x256 .f32) :=
  let L := loop1 c i arg2 harg2 arg3 harg3 arg4 harg4 arg5 harg5 arg6 harg6 arg7 harg7 arg8 harg8 v33 e6 e7 e8 x0 x1 x2 (Scf.trips (k0_t1_loop i).lb (k0_t1_loop i).ub (k0_t1_loop i).st)
  pb_k0_t2 Variants.none c none i arg2 harg2 arg3 harg3 arg4 harg4 arg5 harg5 arg6 harg6 arg7 harg7 arg8 harg8
    (BitVec.ofNat 32 (i 1).val) 0#32 v33 1#32 (harg2.unread x0) (harg3.unread x1) (harg4.unread x2)
    (arg6.view.writes (Elt F) arg6.view.junk (L.1 ++ e6)) (arg7.view.writes (Elt F) arg7.view.junk (L.2.1 ++ e7))
    (arg8.view.writes (Elt F) arg8.view.junk (L.2.2 ++ e8)) (Scf.trips (k0_t2_loop i).lb (k0_t2_loop i).ub (k0_t2_loop i).st)

/-- All the stores up to the end of the loops. -/
def base6 : List (View.Piece (Elt F) S8x256 .f32) :=
  (loop2 c i arg2 harg2 arg3 harg3 arg4 harg4 arg5 harg5 arg6 harg6 arg7 harg7 arg8 harg8 v33 e6 e7 e8 x0 x1 x2).1
    ++ ((loop1 c i arg2 harg2 arg3 harg3 arg4 harg4 arg5 harg5 arg6 harg6 arg7 harg7 arg8 harg8 v33 e6 e7 e8 x0 x1 x2 (Scf.trips (k0_t1_loop i).lb (k0_t1_loop i).ub (k0_t1_loop i).st)).1 ++ e6)
def base7 : List (View.Piece (Elt F) S8x256 .f32) :=
  (loop2 c i arg2 harg2 arg3 harg3 arg4 harg4 arg5 harg5 arg6 harg6 arg7 harg7 arg8 harg8 v33 e6 e7 e8 x0 x1 x2).2.1
    ++ ((loop1 c i arg2 harg2 arg3 harg3 arg4 harg4 arg5 harg5 arg6 harg6 arg7 harg7 arg8 harg8 v33 e6 e7 e8 x0 x1 x2 (Scf.trips (k0_t1_loop i).lb (k0_t1_loop i).ub (k0_t1_loop i).st)).2.1 ++ e7)
def base8 : List (View.Piece (Elt F) S8x128x256 .f32) :=
  (loop2 c i arg2 harg2 arg3 harg3 arg4 harg4 arg5 harg5 arg6 harg6 arg7 harg7 arg8 harg8 v33 e6 e7 e8 x0 x1 x2).2.2
    ++ ((loop1 c i arg2 harg2 arg3 harg3 arg4 harg4 arg5 harg5 arg6 harg6 arg7 harg7 arg8 harg8 v33 e6 e7 e8 x0 x1 x2 (Scf.trips (k0_t1_loop i).lb (k0_t1_loop i).ub (k0_t1_loop i).st)).2.2 ++ e8)

/-- The scores and values of the block before the diagonal one, and of the diagonal block. -/
def scOdd (hc : k0_cond1 i = 1#1) : Fin 8 → FVec F S256x256 .f32 :=
  scoreAt arg2 arg3 (keyOffOdd i) (keyOffOdd_inb i hc) (harg2.unread x0) (harg3.unread x1)
def vsOdd (hc : k0_cond1 i = 1#1) : Fin 8 → FVec F S1x1x128x256 .bf16 :=
  valueAt arg4 (valOffOdd i) (valOffOdd_inb i hc) (harg4.unread x2)
def scDiag (h : Fin 8) : FVec F S256x256 .f32 :=
  masked (scoreAt arg2 arg3 (keyOffDiag i) (keyOffDiag_inb i) (harg2.unread x0) (harg3.unread x1) h)
def vsDiag : Fin 8 → FVec F S1x1x128x256 .bf16 :=
  valueAt arg4 (valOffDiag i) (valOffDiag_inb i) (harg4.unread x2)

/-- The output's stores, after stores `L7` and `L8`. -/
def finish (L7 : List (View.Piece (Elt F) S8x256 .f32)) (L8 : List (View.Piece (Elt F) S8x128x256 .f32)) :
    List (View.Piece (Elt F) S256x1024 .bf16) :=
  rows offO S256x128.size inbO (fun h => result (row3 arg8 (arg8.view.writes (Elt F) arg8.view.junk L8) h)
    (row2 arg7 (arg7.view.writes (Elt F) arg7.view.junk L7) h)) 8

section Steps

variable {arg6 arg7 arg8}
variable {sc : Fin 8 → FVec F S256x256 .f32} {vs : Fin 8 → FVec F S1x1x128x256 .bf16}
variable {L L' L6 L7 M : List (View.Piece (Elt F) S8x256 .f32)} {K K' L8 : List (View.Piece (Elt F) S8x128x256 .f32)}
variable {p : View.Piece (Elt F) S8x256 .f32} {q : View.Piece (Elt F) S8x128x256 .f32} {j : ℕ}

/-- A list of stores that is one head's store more than a step's first `j` is the step's first `j + 1`. -/
theorem zero6 (h : L = L6) : L = thread6 arg6 sc L6 0 := h
theorem zero7 (h : L = L7) : L = thread7 arg6 arg7 sc L6 L7 0 := h
theorem zero8 (h : K = L8) : K = thread8 arg6 arg8 sc vs L6 L8 0 := h

theorem succ6 (hL : L = p :: L')
    (hp : p = ⟨Rect.unit (s := S8x256) (off2 (Fin.ofNat 8 j)) S1x256.size (inb2 _),
      putMax (sc (Fin.ofNat 8 j)) (row2 arg6 (arg6.view.writes (Elt F) arg6.view.junk L') (Fin.ofNat 8 j))⟩)
    (h : L' = thread6 arg6 sc L6 j) : L = thread6 arg6 sc L6 (j + 1) := by
  subst hL hp h
  rfl

theorem succ7 (hL : L = p :: L')
    (hp : p = ⟨Rect.unit (s := S8x256) (off2 (Fin.ofNat 8 j)) S1x256.size (inb2 _),
      putSum (sc (Fin.ofNat 8 j)) (row2 arg6 (arg6.view.writes (Elt F) arg6.view.junk M) (Fin.ofNat 8 j))
        (row2 arg7 (arg7.view.writes (Elt F) arg7.view.junk L') (Fin.ofNat 8 j))⟩)
    (hj : (Fin.ofNat 8 j).val = j)
    (hM : M = thread6 arg6 sc L6 j) (h : L' = thread7 arg6 arg7 sc L6 L7 j) : L = thread7 arg6 arg7 sc L6 L7 (j + 1) := by
  rw [← hj] at hM
  subst hL hp h hM
  rfl

theorem succ8 (hL : K = q :: K')
    (hp : q = ⟨Rect.unit (s := S8x128x256) (off3 (Fin.ofNat 8 j)) S1x128x256.size (inb3 _),
      putAcc (sc (Fin.ofNat 8 j)) (row2 arg6 (arg6.view.writes (Elt F) arg6.view.junk M) (Fin.ofNat 8 j)) (vs (Fin.ofNat 8 j))
        (row3 arg8 (arg8.view.writes (Elt F) arg8.view.junk K') (Fin.ofNat 8 j))⟩)
    (hj : (Fin.ofNat 8 j).val = j)
    (hM : M = thread6 arg6 sc L6 j) (h : K' = thread8 arg6 arg8 sc vs L6 L8 j) : K = thread8 arg6 arg8 sc vs L6 L8 (j + 1) := by
  rw [← hj] at hM
  subst hL hp h hM
  rfl

end Steps

attribute [local irreducible] thread6 thread7 thread8

theorem sumA (hc : ¬ k0_cond1 i = 1#1) : kernelRun0_A.sl.HS1_8 c i arg2 harg2 arg3 harg3 arg4 harg4 arg5 harg5 arg6 harg6 arg7 harg7 arg8 harg8 x0 x1 x2
    = thread7 arg6 arg7 (scDiag i arg2 harg2 arg3 harg3 x0 x1) (base6 c i arg2 harg2 arg3 harg3 arg4 harg4 arg5 harg5 arg6 harg6 arg7 harg7 arg8 harg8 (kernelRun0_A.sl.v33 i)
        kernelRun0_A.sl.HS0_1 kernelRun0_A.sl.HS1_1 kernelRun0_A.sl.HS2_1 x0 x1 x2)
        (base7 c i arg2 harg2 arg3 harg3 arg4 harg4 arg5 harg5 arg6 harg6 arg7 harg7 arg8 harg8 (kernelRun0_A.sl.v33 i)
        kernelRun0_A.sl.HS0_1 kernelRun0_A.sl.HS1_1 kernelRun0_A.sl.HS2_1 x0 x1 x2) 8 := by
  repeat' first
    | with_reducible rfl
    | refine zero6 ?_
    | refine zero7 ?_
    | refine succ6 rfl rfl ?_
    | refine succ7 rfl rfl rfl ?_ ?_
  all_goals rfl

theorem accA (hc : ¬ k0_cond1 i = 1#1) : kernelRun0_A.sl.HS2_8 c i arg2 harg2 arg3 harg3 arg4 harg4 arg5 harg5 arg6 harg6 arg7 harg7 arg8 harg8 x0 x1 x2
    = thread8 arg6 arg8 (scDiag i arg2 harg2 arg3 harg3 x0 x1) (vsDiag i arg4 harg4 x2) (base6 c i arg2 harg2 arg3 harg3 arg4 harg4 arg5 harg5 arg6 harg6 arg7 harg7 arg8 harg8 (kernelRun0_A.sl.v33 i)
        kernelRun0_A.sl.HS0_1 kernelRun0_A.sl.HS1_1 kernelRun0_A.sl.HS2_1 x0 x1 x2)
        (base8 c i arg2 harg2 arg3 harg3 arg4 harg4 arg5 harg5 arg6 harg6 arg7 harg7 arg8 harg8 (kernelRun0_A.sl.v33 i)
        kernelRun0_A.sl.HS0_1 kernelRun0_A.sl.HS1_1 kernelRun0_A.sl.HS2_1 x0 x1 x2) 8 := by
  repeat' first
    | with_reducible rfl
    | refine zero6 ?_
    | refine zero8 ?_
    | refine succ6 rfl rfl ?_
    | refine succ8 rfl rfl rfl ?_ ?_
  all_goals rfl

theorem runA (hc : ¬ k0_cond1 i = 1#1) :
    (kernelRun0_A c i arg2 harg2 arg3 harg3 arg4 harg4 arg5 harg5 arg6 harg6 arg7 harg7 arg8 harg8 hc x0 x1 x2).1
      = finish arg7 arg8 (kernelRun0_A.sl.HS1_8 c i arg2 harg2 arg3 harg3 arg4 harg4 arg5 harg5 arg6 harg6 arg7 harg7 arg8 harg8 x0 x1 x2) (kernelRun0_A.sl.HS2_8 c i arg2 harg2 arg3 harg3 arg4 harg4 arg5 harg5 arg6 harg6 arg7 harg7 arg8 harg8 x0 x1 x2) := by
  unfold kernelRun0_A
  rfl

theorem sumB (hc : k0_cond1 i = 1#1) : kernelRun0_B.sl.HS1_16 c i arg2 harg2 arg3 harg3 arg4 harg4 arg5 harg5 arg6 harg6 arg7 harg7 arg8 harg8 hc x0 x1 x2
    = thread7 arg6 arg7 (scDiag i arg2 harg2 arg3 harg3 x0 x1) (thread6 arg6 (scOdd i arg2 harg2 arg3 harg3 x0 x1 hc) (base6 c i arg2 harg2 arg3 harg3 arg4 harg4 arg5 harg5 arg6 harg6 arg7 harg7 arg8 harg8 (kernelRun0_B.sl.v33 i)
        kernelRun0_B.sl.HS0_1 kernelRun0_B.sl.HS1_1 kernelRun0_B.sl.HS2_1 x0 x1 x2) 8)
        (thread7 arg6 arg7 (scOdd i arg2 harg2 arg3 harg3 x0 x1 hc) (base6 c i arg2 harg2 arg3 harg3 arg4 harg4 arg5 harg5 arg6 harg6 arg7 harg7 arg8 harg8 (kernelRun0_B.sl.v33 i)
        kernelRun0_B.sl.HS0_1 kernelRun0_B.sl.HS1_1 kernelRun0_B.sl.HS2_1 x0 x1 x2)
        (base7 c i arg2 harg2 arg3 harg3 arg4 harg4 arg5 harg5 arg6 harg6 arg7 harg7 arg8 harg8 (kernelRun0_B.sl.v33 i)
        kernelRun0_B.sl.HS0_1 kernelRun0_B.sl.HS1_1 kernelRun0_B.sl.HS2_1 x0 x1 x2) 8) 8 := by
  repeat' first
    | with_reducible rfl
    | refine zero6 ?_
    | refine zero7 ?_
    | refine succ6 rfl rfl ?_
    | refine succ7 rfl rfl rfl ?_ ?_
  all_goals rfl

theorem accB (hc : k0_cond1 i = 1#1) : kernelRun0_B.sl.HS2_16 c i arg2 harg2 arg3 harg3 arg4 harg4 arg5 harg5 arg6 harg6 arg7 harg7 arg8 harg8 hc x0 x1 x2
    = thread8 arg6 arg8 (scDiag i arg2 harg2 arg3 harg3 x0 x1) (vsDiag i arg4 harg4 x2) (thread6 arg6 (scOdd i arg2 harg2 arg3 harg3 x0 x1 hc) (base6 c i arg2 harg2 arg3 harg3 arg4 harg4 arg5 harg5 arg6 harg6 arg7 harg7 arg8 harg8 (kernelRun0_B.sl.v33 i)
        kernelRun0_B.sl.HS0_1 kernelRun0_B.sl.HS1_1 kernelRun0_B.sl.HS2_1 x0 x1 x2) 8)
        (thread8 arg6 arg8 (scOdd i arg2 harg2 arg3 harg3 x0 x1 hc) (vsOdd i arg4 harg4 x2 hc) (base6 c i arg2 harg2 arg3 harg3 arg4 harg4 arg5 harg5 arg6 harg6 arg7 harg7 arg8 harg8 (kernelRun0_B.sl.v33 i)
        kernelRun0_B.sl.HS0_1 kernelRun0_B.sl.HS1_1 kernelRun0_B.sl.HS2_1 x0 x1 x2)
        (base8 c i arg2 harg2 arg3 harg3 arg4 harg4 arg5 harg5 arg6 harg6 arg7 harg7 arg8 harg8 (kernelRun0_B.sl.v33 i)
        kernelRun0_B.sl.HS0_1 kernelRun0_B.sl.HS1_1 kernelRun0_B.sl.HS2_1 x0 x1 x2) 8) 8 := by
  repeat' first
    | with_reducible rfl
    | refine zero6 ?_
    | refine zero8 ?_
    | refine succ6 rfl rfl ?_
    | refine succ8 rfl rfl rfl ?_ ?_
  all_goals rfl

theorem runB (hc : k0_cond1 i = 1#1) :
    (kernelRun0_B c i arg2 harg2 arg3 harg3 arg4 harg4 arg5 harg5 arg6 harg6 arg7 harg7 arg8 harg8 hc x0 x1 x2).1
      = finish arg7 arg8 (kernelRun0_B.sl.HS1_16 c i arg2 harg2 arg3 harg3 arg4 harg4 arg5 harg5 arg6 harg6 arg7 harg7 arg8 harg8 hc x0 x1 x2) (kernelRun0_B.sl.HS2_16 c i arg2 harg2 arg3 harg3 arg4 harg4 arg5 harg5 arg6 harg6 arg7 harg7 arg8 harg8 hc x0 x1 x2) := by
  unfold kernelRun0_B
  rfl

end Cert.Run

end
-- ==== Proof.Block.lean ====
/-
  What a grid point computes, over the extended reals: for every head, the running maximum, sum and weighted sum of the
  masked scores of the point's 256 queries against the keys up to the end of the diagonal block.
-/
module

public import proofs.«01_k».proof.Proof.Reads
public import proofs.«01_k».proof.Proof.Run

@[expose] public section

set_option maxRecDepth 16384
set_option maxHeartbeats 1000000

noncomputable section

open Idealize.ShloMosaic Cert.KernelIdeal Cert.KernelIdeal.Gen Cert.Rows Cert.Step Cert.Trip Cert.Run Cert.Online

namespace Cert.Block

variable (i : grid0.Coords)
variable (x0 : Vec Ideal S8x256x256 .bf16) (x1 : Vec Ideal S8x2048x256 .bf16) (x2 : Vec Ideal S8x8x128x256 .bf16)

/-- The score of key `k` for query `r` of head `h`, as the block's arrays hold them. -/
def raw (h : Fin 8) (r : Fin 256) (k : ℕ) : EReal := ∑ d : Fin 256, x1 (ix3 h (Fin.ofNat 2048 k) d) * x0 (ix3 h d r)

/-- The same under the causal mask: the point's queries begin at position `256 * i 1`. -/
def seen (h : Fin 8) (r : Fin 256) (k : ℕ) : EReal := if k ≤ 256 * (i 1).val + r.val then raw x0 x1 h r k else ⊥

/-- Component `d` of the value of key `k`. -/
def value (h : Fin 8) (d : Fin 128) (k : ℕ) : EReal := x2 (ix4 h (Fin.ofNat 8 (k / 256)) d (Fin.ofNat 256 k))

/-- An index of a window, placed. -/
theorem emb_val {s : Shape} (off size : Fin s.rank → ℕ) (inb : ∀ a, off a + size a ≤ s.size a)
    (j : (Rect.unit off size inb).shape.Idx) (a : Fin s.rank) : ((Rect.unit off size inb).emb j a).val = off a + (j a).val := by
  rw [Rect.emb_apply]
  exact congrArg (off a + ·) (Nat.one_mul _)

section Loads

variable {arg2 : Memref sig .tc .vmem S8x256x256 .bf16} (harg2 : arg2.IsWhole)
variable {arg3 : Memref sig .tc .vmem S8x2048x256 .bf16} (harg3 : arg3.IsWhole)
variable {arg4 : Memref sig .tc .vmem S8x8x128x256 .bf16} (harg4 : arg4.IsWhole)

theorem scoreAt_apply {off : Fin 8 → Fin 3 → ℕ} {inb : ∀ h a, off h a + S1x256x256.size a ≤ S8x2048x256.size a}
    {h : Fin 8} {o : ℕ} (ho : off h = ![h.val, o, 0]) (hb : o + 256 ≤ 2048) (a r : Fin 256) :
    scoreAt arg2 arg3 off inb (harg2.unread x0) (harg3.unread x1) h (ix2 a r) = raw x0 x1 h r (o + a.val) := by
  rw [scoreAt, score_apply]
  refine Finset.sum_congr rfl fun d _ => ?_
  rw [arg3.view.readAt_unit _ (inb h) ho (ho ▸ inb h), arg2.view.readAt_unit _ (inbQ h) rfl (inbQ h),
    harg3.read_unread, harg2.read_unread]
  refine congrArg₂ (· * ·) (congrArg x1 (funext fun b => Fin.ext ((emb_val _ _ _ _ _).trans ?_)))
    (congrArg x0 (funext fun b => Fin.ext ((emb_val _ _ _ _ _).trans ?_)))
  · have ha := a.isLt
    match b with
    | ⟨0, _⟩ => rfl
    | ⟨1, _⟩ => exact (Nat.mod_eq_of_lt (by omega : o + a.val < 2048)).symm
    | ⟨2, _⟩ => exact Nat.zero_add _
  · match b with
    | ⟨0, _⟩ => rfl
    | ⟨1, _⟩ => exact Nat.zero_add _
    | ⟨2, _⟩ => exact Nat.zero_add _

theorem valueAt_apply {off : Fin 8 → Fin 4 → ℕ} {inb : ∀ h a, off h a + S1x1x128x256.size a ≤ S8x8x128x256.size a}
    {h : Fin 8} {j : ℕ} (ho : off h = ![h.val, j, 0, 0]) (hb : j < 8) (k : Fin 256) (d : Fin 128) :
    valueAt arg4 off inb (harg4.unread x2) h (ix4 0 0 d k) = value x2 h d (256 * j + k.val) := by
  rw [valueAt, arg4.view.readAt_unit _ (inb h) ho (ho ▸ inb h), harg4.read_unread]
  refine congrArg x2 (funext fun b => Fin.ext ((emb_val _ _ _ _ _).trans ?_))
  have hk := k.isLt
  match b with
  | ⟨0, _⟩ => rfl
  | ⟨1, _⟩ => exact (show j = (256 * j + k.val) / 256 % 8 by omega)
  | ⟨2, _⟩ => exact Nat.zero_add _
  | ⟨3, _⟩ => exact (show 0 + k.val = (256 * j + k.val) % 256 by omega)

end Loads

section Point

variable (c : Dev nD)
variable (arg2 : Memref sig .tc .vmem S8x256x256 .bf16) (harg2 : arg2.IsWhole)
variable (arg3 : Memref sig .tc .vmem S8x2048x256 .bf16) (harg3 : arg3.IsWhole)
variable (arg4 : Memref sig .tc .vmem S8x8x128x256 .bf16) (harg4 : arg4.IsWhole)
variable (arg5 : Memref sig .tc .vmem S256x1024 .bf16) (harg5 : arg5.IsWhole)
variable (arg6 : Memref sig .tc .vmem S8x256 .f32) (harg6 : arg6.IsWhole)
variable (arg7 : Memref sig .tc .vmem S8x256 .f32) (harg7 : arg7.IsWhole)
variable (arg8 : Memref sig .tc .vmem S8x128x256 .f32) (harg8 : arg8.IsWhole)
variable (v33 : BitVec 32) (h : Fin 8)

/-- After stores `L6`, `L7`, `L8` head `h`'s rows hold the running values of the first `n` keys. -/
def After (n : ℕ) (L6 L7 : List (View.Piece (Elt Ideal) S8x256 .f32)) (L8 : List (View.Piece (Elt Ideal) S8x128x256 .f32)) : Prop :=
  Held (seen i x0 x1 h) (value x2 h) n (row2 arg6 (arg6.view.writes (Elt Ideal) arg6.view.junk L6) h)
    (row2 arg7 (arg7.view.writes (Elt Ideal) arg7.view.junk L7) h) (row3 arg8 (arg8.view.writes (Elt Ideal) arg8.view.junk L8) h)

/-- The stores that fill the buffers at the start. -/
def fill6 : List (View.Piece (Elt Ideal) S8x256 .f32) := [⟨Rect.unit (s := S8x256) ![0, 0] S8x256.size inb_S8x256_S8x256_0_0, k0_pay312 (F := Ideal)⟩]
def fill7 : List (View.Piece (Elt Ideal) S8x256 .f32) := [⟨Rect.unit (s := S8x256) ![0, 0] S8x256.size inb_S8x256_S8x256_0_0, k0_pay313 (F := Ideal)⟩]
def fill8 : List (View.Piece (Elt Ideal) S8x128x256 .f32) :=
  [⟨Rect.unit (s := S8x128x256) ![0, 0, 0] S8x128x256.size inb_S8x128x256_S8x128x256_0_0_0, k0_pay314 (F := Ideal)⟩]

theorem pay312 (y : S8x256.Idx) : k0_pay312 (F := Ideal) y = ⊥ := by
  pointwise [k0_pay312]
  exact mask_value

theorem pay313 (y : S8x256.Idx) : k0_pay313 (F := Ideal) y = 0 := by pointwise [k0_pay313]

theorem pay314 (y : S8x128x256.Idx) : k0_pay314 (F := Ideal) y = 0 := by pointwise [k0_pay314]

theorem after_fill : After i x0 x1 x2 arg6 arg7 arg8 h 0 fill6 fill7 fill8 where
  max r := by
    rw [row2, arg6.view.readAt_unit _ (inb2 h) rfl (inb2 h), fill6, arg6.view.read_writes_full]
    exact pay312 _
  sum r := by
    rw [row2, arg7.view.readAt_unit _ (inb2 h) rfl (inb2 h), fill7, arg7.view.read_writes_full]
    exact pay313 _
  acc d r := by
    rw [row3, arg8.view.readAt_unit _ (inb3 h) rfl (inb3 h), fill8, arg8.view.read_writes_full]
    exact pay314 _

/-- A score before the diagonal block is seen by every query. -/
theorem seen_before (r : Fin 256) {k : ℕ} (hk : k < 256 * (i 1).val) : seen i x0 x1 h r k = raw x0 x1 h r k :=
  if_pos (by omega)

theorem coord_lt : (i 1).val < 8 := (i 1).isLt

theorem after_loop1 : ∀ n, n ≤ (i 1).val / 2 →
    After i x0 x1 x2 arg6 arg7 arg8 h (512 * n)
      ((loop1 c i arg2 harg2 arg3 harg3 arg4 harg4 arg5 harg5 arg6 harg6 arg7 harg7 arg8 harg8 v33 fill6 fill7 fill8 x0 x1 x2 n).1 ++ fill6)
      ((loop1 c i arg2 harg2 arg3 harg3 arg4 harg4 arg5 harg5 arg6 harg6 arg7 harg7 arg8 harg8 v33 fill6 fill7 fill8 x0 x1 x2 n).2.1 ++ fill7)
      ((loop1 c i arg2 harg2 arg3 harg3 arg4 harg4 arg5 harg5 arg6 harg6 arg7 harg7 arg8 harg8 v33 fill6 fill7 fill8 x0 x1 x2 n).2.2 ++ fill8)
  | 0, _ => after_fill i x0 x1 x2 arg6 arg7 arg8 h
  | n + 1, hn => by
    have hi := coord_lt i
    have H := after_loop1 n (by omega)
    have hk : n < (k0_t1_loop i).trips := by rw [trips1]; omega
    rw [loop1, pb_k0_t1_succ (k := ⟨n, hk⟩)]
    unfold After
    simp only [View.writes_append]
    erw [trip_max, trip_sum, trip_acc]
    rw [After] at H
    simp only [View.writes_append] at H
    have H1 := H.step (t := sc1 i arg2 arg3 (harg2.unread x0) (harg3.unread x1) ⟨n, hk⟩ h) (w := vs1 i arg4 (harg4.unread x2) ⟨n, hk⟩ h)
      (fun a r => by
        have ha := a.isLt
        rw [seen_before i x0 x1 h r (by omega), sc1, scoreAt_apply x0 x1 harg2 harg3 (keyOff1_eq i ⟨n, hk⟩ h) (by dsimp only; omega)])
      (fun a d => by
        rw [vs1, valueAt_apply x2 harg4 (valOff1_eq i ⟨n, hk⟩ h) (by dsimp only; omega)]
        congr 1; dsimp only; omega)
    have H2 := H1.step (t := sc2 i arg2 arg3 (harg2.unread x0) (harg3.unread x1) ⟨n, hk⟩ h) (w := vs2 i arg4 (harg4.unread x2) ⟨n, hk⟩ h)
      (fun a r => by
        have ha := a.isLt
        rw [seen_before i x0 x1 h r (by omega), sc2, scoreAt_apply x0 x1 harg2 harg3 (keyOff2_eq i ⟨n, hk⟩ h) (by dsimp only; omega)])
      (fun a d => by
        rw [vs2, valueAt_apply x2 harg4 (valOff2_eq i ⟨n, hk⟩ h) (by dsimp only; omega)]
        congr 1; dsimp only; omega)
    exact H2

/-- The stores up to the end of the loops leave the running values of the keys up to an even number of blocks. -/
theorem after_loops : After i x0 x1 x2 arg6 arg7 arg8 h (512 * ((i 1).val / 2))
    (base6 c i arg2 harg2 arg3 harg3 arg4 harg4 arg5 harg5 arg6 harg6 arg7 harg7 arg8 harg8 v33 fill6 fill7 fill8 x0 x1 x2)
    (base7 c i arg2 harg2 arg3 harg3 arg4 harg4 arg5 harg5 arg6 harg6 arg7 harg7 arg8 harg8 v33 fill6 fill7 fill8 x0 x1 x2)
    (base8 c i arg2 harg2 arg3 harg3 arg4 harg4 arg5 harg5 arg6 harg6 arg7 harg7 arg8 harg8 v33 fill6 fill7 fill8 x0 x1 x2) := by
  have h1 : Scf.trips (k0_t1_loop i).lb (k0_t1_loop i).ub (k0_t1_loop i).st = (i 1).val / 2 := trips1 i
  have h2 : Scf.trips (k0_t2_loop i).lb (k0_t2_loop i).ub (k0_t2_loop i).st = 0 := trips2 i
  rw [base6, base7, base8, loop2, h1, h2]
  exact after_loop1 i x0 x1 x2 c arg2 harg2 arg3 harg3 arg4 harg4 arg5 harg5 arg6 harg6 arg7 harg7 arg8 harg8 v33 h _ le_rfl

variable {i x0 x1 x2 arg6 arg7 arg8 h}

theorem After.step {n : ℕ} {L6 L7 : List (View.Piece (Elt Ideal) S8x256 .f32)} {L8 : List (View.Piece (Elt Ideal) S8x128x256 .f32)}
    (H : After i x0 x1 x2 arg6 arg7 arg8 h n L6 L7 L8) {sc : Fin 8 → FVec Ideal S256x256 .f32}
    {vs : Fin 8 → FVec Ideal S1x1x128x256 .bf16}
    (ht : ∀ k r : Fin 256, sc h (ix2 k r) = seen i x0 x1 h r (n + k.val))
    (hw : ∀ (k : Fin 256) (d : Fin 128), vs h (ix4 0 0 d k) = value x2 h d (n + k.val)) :
    After i x0 x1 x2 arg6 arg7 arg8 h (n + 256) (thread6 arg6 sc L6 8) (thread7 arg6 arg7 sc L6 L7 8)
      (thread8 arg6 arg8 sc vs L6 L8 8) := by
  rw [After, row2_thread6, row2_thread7, row3_thread8]
  exact Held.step H ht hw

/-- The block before the diagonal one. -/
theorem After.odd (hc : k0_cond1 i = 1#1) {L6 L7 : List (View.Piece (Elt Ideal) S8x256 .f32)}
    {L8 : List (View.Piece (Elt Ideal) S8x128x256 .f32)}
    (H : After i x0 x1 x2 arg6 arg7 arg8 h (512 * ((i 1).val / 2)) L6 L7 L8) :
    After i x0 x1 x2 arg6 arg7 arg8 h (256 * (i 1).val) (thread6 arg6 (scOdd i arg2 harg2 arg3 harg3 x0 x1 hc) L6 8)
      (thread7 arg6 arg7 (scOdd i arg2 harg2 arg3 harg3 x0 x1 hc) L6 L7 8)
      (thread8 arg6 arg8 (scOdd i arg2 harg2 arg3 harg3 x0 x1 hc) (vsOdd i arg4 harg4 x2 hc) L6 L8 8) := by
  have hi := coord_lt i
  have ho := (cond_iff i).1 hc
  have e : 512 * ((i 1).val / 2) = 256 * ((i 1).val - 1) := by omega
  have e' : 256 * (i 1).val = 256 * ((i 1).val - 1) + 256 := by omega
  rw [e] at H
  rw [e']
  refine H.step (fun a r => ?_) (fun a d => ?_)
  · have ha := a.isLt
    rw [seen_before i x0 x1 h r (by omega), scOdd, scoreAt_apply x0 x1 harg2 harg3 (keyOffOdd_eq i hc h) (by omega)]
  · rw [vsOdd, valueAt_apply x2 harg4 (valOffOdd_eq i hc h) (by omega)]

/-- The diagonal block. -/
theorem After.diag {L6 L7 : List (View.Piece (Elt Ideal) S8x256 .f32)} {L8 : List (View.Piece (Elt Ideal) S8x128x256 .f32)}
    (H : After i x0 x1 x2 arg6 arg7 arg8 h (256 * (i 1).val) L6 L7 L8) :
    After i x0 x1 x2 arg6 arg7 arg8 h (256 * (i 1).val + 256) (thread6 arg6 (scDiag i arg2 harg2 arg3 harg3 x0 x1) L6 8)
      (thread7 arg6 arg7 (scDiag i arg2 harg2 arg3 harg3 x0 x1) L6 L7 8)
      (thread8 arg6 arg8 (scDiag i arg2 harg2 arg3 harg3 x0 x1) (vsDiag i arg4 harg4 x2) L6 L8 8) := by
  have hi := coord_lt i
  refine H.step (fun a r => ?_) (fun a d => ?_)
  · have ha := a.isLt
    rw [scDiag, masked_apply, scoreAt_apply x0 x1 harg2 harg3 (keyOffDiag_eq i h) (by omega), seen]
    exact if_congr (by omega) rfl rfl
  · rw [vsDiag, valueAt_apply x2 harg4 (valOffDiag_eq i h) (by omega)]

/-- The output of query `r`, head `h`, component `d`: the weighted sum over all the keys, divided by the sum. -/
def output (i : grid0.Coords) (x0 : Vec Ideal S8x256x256 .bf16) (x1 : Vec Ideal S8x2048x256 .bf16) (x2 : Vec Ideal S8x8x128x256 .bf16)
    (r : Fin 256) (h : Fin 8) (d : Fin 128) : EReal :=
  Ideal.div (blend (seen i x0 x1 h r) (value x2 h d) 2048) (mass (seen i x0 x1 h r) 2048)

theorem After.output {L6 L7 : List (View.Piece (Elt Ideal) S8x256 .f32)} {L8 : List (View.Piece (Elt Ideal) S8x128x256 .f32)}
    (H : After i x0 x1 x2 arg6 arg7 arg8 h (256 * (i 1).val + 256) L6 L7 L8) (v : View sig .tc .vmem S256x1024 .bf16)
    (f : v.ty.Contents (Elt Ideal)) (r : Fin 256) (d : Fin 128) :
    v.read (Elt Ideal) (v.writes (Elt Ideal) f (finish arg7 arg8 L7 L8)) (ix2 r ⟨128 * h.val + d.val, by omega⟩)
      = Block.output i x0 x1 x2 r h d := by
  have hi := coord_lt i
  have W := congrFun (readAt_rows v inbO apartO f (fun h => result (row3 arg8 (arg8.view.writes (Elt Ideal) arg8.view.junk L8) h)
    (row2 arg7 (arg7.view.writes (Elt Ideal) arg7.view.junk L7) h)) h 8 h.isLt le_rfl) (ix2 r d)
  rw [v.readAt_unit _ (inbO h) rfl (inbO h), result_apply, H.sum, H.acc] at W
  have e : (2048 : ℕ) = 256 * (i 1).val + 256 + (1792 - 256 * (i 1).val) := by omega
  have z : ∀ k, 256 * (i 1).val + 256 ≤ k → k < 256 * (i 1).val + 256 + (1792 - 256 * (i 1).val) → seen i x0 x1 h r k = ⊥ :=
    fun k hk _ => if_neg (by omega)
  rw [Block.output, e, mass_tail _ _ _ z, blend_tail _ _ _ _ z, ← W]
  refine congrArg _ (funext fun b => Fin.ext (Eq.trans ?_ (emb_val _ _ _ _ _).symm))
  match b with
  | ⟨0, _⟩ => exact (Nat.zero_add _).symm
  | ⟨1, _⟩ => rfl

variable (i x0 x1 x2 arg6 arg7 arg8 h)

/-- What the body leaves in the output's block, in either case. -/
theorem outA_apply (hc : ¬ cond0_0 i) (r : Fin 256) (d : Fin 128) :
    out0_A_3 (F := Ideal) c i arg2 harg2 arg3 harg3 arg4 harg4 arg5 harg5 arg6 harg6 arg7 harg7 arg8 harg8 hc x0 x1 x2 (ix2 r ⟨128 * h.val + d.val, by omega⟩) = Block.output i x0 x1 x2 r h d := by
  have ho : ¬ (i 1).val % 2 = 1 := fun e => hc ((cond_iff i).2 e)
  have e : 512 * ((i 1).val / 2) = 256 * (i 1).val := by omega
  rw [out0_A_3, runA, sumA (hc := hc), accA (hc := hc)]
  have H := after_loops i x0 x1 x2 c arg2 harg2 arg3 harg3 arg4 harg4 arg5 harg5 arg6 harg6 arg7 harg7 arg8 harg8 (kernelRun0_A.sl.v33 i) h
  rw [e] at H
  exact (H.diag arg2 harg2 arg3 harg3 arg4 harg4).output VO0_3 VO0_3.junk r d

theorem outB_apply (hc : cond0_0 i) (r : Fin 256) (d : Fin 128) :
    out0_B_3 (F := Ideal) c i arg2 harg2 arg3 harg3 arg4 harg4 arg5 harg5 arg6 harg6 arg7 harg7 arg8 harg8 hc x0 x1 x2 (ix2 r ⟨128 * h.val + d.val, by omega⟩) = Block.output i x0 x1 x2 r h d := by
  rw [out0_B_3, runB, sumB (hc := hc), accB (hc := hc)]
  have H := after_loops i x0 x1 x2 c arg2 harg2 arg3 harg3 arg4 harg4 arg5 harg5 arg6 harg6 arg7 harg7 arg8 harg8 (kernelRun0_B.sl.v33 i) h
  exact ((H.odd arg2 harg2 arg3 harg3 arg4 harg4 hc).diag arg2 harg2 arg3 harg3 arg4 harg4).output VO0_3 VO0_3.junk r d

end Point

end Cert.Block

end
-- ==== Proof.Attention.lean ====
/-
  Causal attention at an index, of the call's arrays: the equation's common side.
-/
module

public import proofs.«01_k».proof.Proof.Online
public import Idealize.ShloMosaic.Lib.Pointwise

@[expose] public section

noncomputable section

open Idealize.ShloMosaic Cert.Online

namespace Cert.Attention

/-- Queries (head, feature, token), keys (head, token, feature), values (head, tile, feature, token in tile). -/
abbrev Queries := (⟨3, ![8, 256, 16384]⟩ : Shape).Idx → EReal
abbrev Keys := (⟨3, ![8, 16384, 256]⟩ : Shape).Idx → EReal
abbrev Values := (⟨4, ![8, 64, 128, 256]⟩ : Shape).Idx → EReal

variable (Q : Queries) (K : Keys) (V : Values) (h : Fin 8) (d : Fin 128) (tok : Fin 16384)

/-- The score of key `k` of the token's sequence (2048 tokens long). -/
def score (k : ℕ) : EReal :=
  ∑ e : Fin 256, K (ix3 h (Fin.ofNat 16384 (2048 * (tok.val / 2048) + k % 2048)) e) * Q (ix3 h e tok)

/-- The same under the causal mask. -/
def causal (k : ℕ) : EReal := if k ≤ tok.val % 2048 then score Q K h tok k else ⊥

/-- Component `d` of the value of key `k` of the token's sequence. -/
def value (k : ℕ) : EReal := V (ix4 h (Fin.ofNat 64 (8 * (tok.val / 2048) + k / 256 % 8)) d (Fin.ofNat 256 k))

/-- The values weighted by the exponentials of the scores, over the exponentials' sum. -/
def attend : EReal :=
  Ideal.div (blend (causal Q K h tok) (value V h d tok) 2048) (mass (causal Q K h tok) 2048)

/-- The whole output: head `h`'s component `d` is column `128 * h + d`. -/
def out (i : (⟨2, ![16384, 1024]⟩ : Shape).Idx) : EReal :=
  attend Q K V ⟨(i 1).val / 128, Nat.div_lt_of_lt_mul (i 1).isLt⟩ ⟨(i 1).val % 128, Nat.mod_lt _ (by decide)⟩ (i 0)

theorem out_apply (i : (⟨2, ![16384, 1024]⟩ : Shape).Idx) (h0 : (i 0).val = tok.val) (h1 : (i 1).val = 128 * h.val + d.val) :
    out Q K V i = attend Q K V h d tok := by
  have e0 : i 0 = tok := Fin.ext h0
  have eh : (⟨(i 1).val / 128, Nat.div_lt_of_lt_mul (i 1).isLt⟩ : Fin 8) = h := Fin.ext (by show (i 1).val / 128 = _; omega)
  have ed : (⟨(i 1).val % 128, Nat.mod_lt _ (by decide)⟩ : Fin 128) = d := Fin.ext (by show (i 1).val % 128 = _; omega)
  rw [out, e0, eh, ed]

end Cert.Attention

end
-- ==== Proof.Array.lean ====
/-
  The kernel's output array over the extended reals: attention of the arrays it is launched with.
-/
module

public import proofs.«01_k».proof.Proof.Block
public import proofs.«01_k».proof.Proof.Attention
public import Idealize.ShloMosaic.Lib.Pipeline.ValueKit

@[expose] public section

set_option maxRecDepth 16384
set_option maxHeartbeats 1000000

noncomputable section

open Idealize.ShloMosaic Idealize.ShloMosaic.TcCoe Idealize.SL.Sem
open Cert.KernelIdeal Cert.KernelIdeal.Gen Cert.Block Cert.Online

namespace Cert.Array

theorem coord : ∀ t : Fin cfg0.N, (grid0.coords t 1).val = t.val % 8 :=
  (by decide +kernel : ∀ t : Fin grid0.N, (grid0.coords t 1).val = t.val % 8)
theorem index0 : ∀ t : Fin cfg0.N, win0_0.index t = ![0, 0, t.val] :=
  (by decide +kernel : ∀ t : Fin grid0.N, win0_0.index t = ![0, 0, t.val])
theorem index1 : ∀ t : Fin cfg0.N, win0_1.index t = ![0, t.val / 8, 0] :=
  (by decide +kernel : ∀ t : Fin grid0.N, win0_1.index t = ![0, t.val / 8, 0])
theorem index2 : ∀ t : Fin cfg0.N, win0_2.index t = ![0, t.val / 8, 0, 0] :=
  (by decide +kernel : ∀ t : Fin grid0.N, win0_2.index t = ![0, t.val / 8, 0, 0])
theorem index3 : ∀ t : Fin cfg0.N, win0_3.index t = ![t.val, 0] :=
  (by decide +kernel : ∀ t : Fin grid0.N, win0_3.index t = ![t.val, 0])

variable (m : (ℓ : Loc nD τ sig) → Buf (Elt Ideal) ℓ) (c : Dev nD) (t : Fin cfg0.N)

theorem t_lt : t.val < 64 := t.isLt

/-- The token of row `r` of the point's block. -/
def token (r : Fin 256) : Fin 16384 := ⟨256 * t.val + r.val, by have := t_lt t; omega⟩

theorem queries (h : Fin 8) (d r : Fin 256) : iblk m c 0 t (ix3 h d r) = m ((c : Thread nD τ).loc main_arg0) (ix3 h d (token t r)) := by
  blk_ext [iblk, V, index0 t, token]

theorem keys (h : Fin 8) (k : Fin 2048) (d : Fin 256) :
    iblk m c 1 t (ix3 h k d) = m ((c : Thread nD τ).loc main_arg1) (ix3 h ⟨2048 * (t.val / 8) + k.val, by have := t_lt t; omega⟩ d) := by
  blk_ext [iblk, V, index1 t]

theorem values (h j : Fin 8) (d : Fin 128) (k : Fin 256) :
    iblk m c 2 t (ix4 h j d k) = m ((c : Thread nD τ).loc main_arg2) (ix4 h ⟨8 * (t.val / 8) + j.val, by have := t_lt t; omega⟩ d k) := by
  blk_ext [iblk, V, index2 t]

theorem seen_eq (h : Fin 8) (r : Fin 256) :
    seen (grid0.coords t) (iblk m c 0 t) (iblk m c 1 t) h r
      = Attention.causal (m ((c : Thread nD τ).loc main_arg0)) (m ((c : Thread nD τ).loc main_arg1)) h (token t r) := by
  have ht := t_lt t
  have hr := r.isLt
  funext k
  rw [seen, Attention.causal, raw, Attention.score, coord]
  refine if_congr (by simp only [token]; omega) (Finset.sum_congr rfl fun d _ => ?_) rfl
  rw [queries, keys]
  refine congrArg (· * _) (congrArg (fun n => m ((c : Thread nD τ).loc main_arg1) (ix3 h n d)) (Fin.ext ?_))
  show 2048 * (t.val / 8) + k % 2048 = (2048 * ((256 * t.val + r.val) / 2048) + k % 2048) % 16384
  omega

theorem value_eq (h : Fin 8) (d : Fin 128) (r : Fin 256) :
    value (iblk m c 2 t) h d = Attention.value (m ((c : Thread nD τ).loc main_arg2)) h d (token t r) := by
  have ht := t_lt t
  have hr := r.isLt
  funext k
  rw [value, Attention.value, values]
  refine congrArg (fun n => m ((c : Thread nD τ).loc main_arg2) (ix4 h n d (Fin.ofNat 256 k))) (Fin.ext ?_)
  show 8 * (t.val / 8) + k / 256 % 8 = (8 * ((256 * t.val + r.val) / 2048) + k / 256 % 8) % 64
  omega

theorem output_eq (h : Fin 8) (d : Fin 128) (r : Fin 256) :
    output (grid0.coords t) (iblk m c 0 t) (iblk m c 1 t) (iblk m c 2 t) r h d
      = Attention.attend (m ((c : Thread nD τ).loc main_arg0)) (m ((c : Thread nD τ).loc main_arg1))
          (m ((c : Thread nD τ).loc main_arg2)) h d (token t r) := by
  rw [output, seen_eq, value_eq m c t h d r, Attention.attend]

/-- What a point leaves in the output's block. -/
theorem after_apply (r : Fin 256) (h : Fin 8) (d : Fin 128) :
    (outsAt0 m c t.val t.isLt) (ix2 r ⟨128 * h.val + d.val, by omega⟩)
      = Attention.attend (m ((c : Thread nD τ).loc main_arg0)) (m ((c : Thread nD τ).loc main_arg1))
          (m ((c : Thread nD τ).loc main_arg2)) h d (token t r) := by
  rw [← output_eq]
  by_cases h0 : t.val % 2 = 1
  · rw [outsAt0_B m c t h0]
    exact outB_apply ..
  · rw [outsAt0_A m c t h0]
    exact outA_apply ..

/-- The array after the run. -/
theorem arr_eq : (dats m 0 c).arrAt 3 cfg0.N
    = Attention.out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, q, rfl⟩ : ∃ (r : Fin 256) (q : Fin 1024), y = ix2 r q := ⟨y 0, y 1, by funext a; match a with | ⟨0, _⟩ => rfl | ⟨1, _⟩ => rfl⟩
  have hq : q = ⟨128 * (q.val / 128) + q.val % 128, by omega⟩ := Fin.ext (Nat.div_add_mod _ _).symm
  have W := after_apply m c t r ⟨q.val / 128, by omega⟩ ⟨q.val % 128, by omega⟩
  have h0 : (((win0_3.blk t).view.emb (ix2 r q)) 0 : ℕ) = 256 * t.val + r.val := by blk_simp [index3 t]; omega
  have h1 : (((win0_3.blk t).view.emb (ix2 r q)) 1 : ℕ) = q.val := by blk_simp [index3 t]
  rw [Attention.out_apply _ _ _ ⟨q.val / 128, by omega⟩ ⟨q.val % 128, by omega⟩ (token t r) _ h0
    (h1.trans (Nat.div_add_mod _ _).symm)]
  exact (congrArg (fun q => outsAt0 m c t.val t.isLt (ix2 r q)) hq).trans W

end Cert.Array

end
-- ==== Proof.Reference.lean ====
/-
  The reference's result over the extended reals, read at an index: attention of its arguments, as long as no row's sum of
  exponentials is zero.
-/
module

public import proofs.«01_k».proof.Proof.Attention
public import proofs.«01_k».proof.Proof.Gen.ReferenceIdeal.Run
public import Idealize.ShloMosaic.Lib.WordCmp

@[expose] public section

set_option maxRecDepth 16384
set_option maxHeartbeats 1000000

noncomputable section

open Idealize.ShloMosaic Idealize.ShloMosaic.TcCoe Idealize.SL.Sem
open Cert.ReferenceIdeal Cert.ReferenceIdeal.Gen Cert.Online

namespace Cert.Reference

variable {F : FTy → Type} [FloatOps F]

/-- The masked scores, by sequence, head, query and key. -/
def scores (Q : FVec F S8x256x16384 .bf16) (K : FVec F S8x16384x256 .bf16) : FVec F S8x8x2048x2048 .f32 :=
  select (broadcastInDim S8x8x2048x2048 ![2, 3] bcast_S2048x2048_S8x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (Host.dotGeneral dot_S8x8x2048x256_S8x8x2048x256_S8x8x2048x2048_3_3_2_2_01_01 none
      (transpose S8x8x2048x256 [2, 0, 3, 1] (shapeCast _ Q shapeCasts_S8x256x16384_S8x256x8x2048) transposes_S8x256x8x2048_S8x8x2048x256_2_0_3_1)
      (transpose S8x8x2048x256 [1, 0, 2, 3] (shapeCast _ K shapeCasts_S8x16384x256_S8x8x2048x256) transposes_S8x8x2048x256_S8x8x2048x256_1_0_2_3))
    (broadcastInDim S8x8x2048x2048 ![] bcast_S_S8x8x2048x2048 (id (constant S_ .f32 0xFF800000#32)))

/-- A row's greatest score. -/
def greatest (s : FVec F S8x8x2048x2048 .f32) : FVec F S8x8x2048 .f32 :=
  maximumf (broadcastInDim S8x8x2048 ![] bcast_S_S8x8x2048 (constant S_ .f32 0xFF800000#32))
    (Host.reduce FloatOps.maximumf s (constant S_ .f32 0xFF800000#32) reducesTo_S8x8x2048x2048_S8x8x2048_d3 h_S_)

/-- The exponentials of the scores less their row's greatest. -/
def exps (s : FVec F S8x8x2048x2048 .f32) : FVec F S8x8x2048x2048 .f32 :=
  Host.exp (subf s (broadcastInDim S8x8x2048x2048 ![0, 1, 2, 3] bcast_S8x8x2048x1_S8x8x2048x2048_0_1_2_3
    (broadcastInDim S8x8x2048x1 ![0, 1, 2] bcast_S8x8x2048_S8x8x2048x1_0_1_2 (greatest s))))

/-- The softmax's probabilities. -/
def probs (e : FVec F S8x8x2048x2048 .f32) : FVec F S8x8x2048x2048 .bf16 :=
  truncf .bf16 (Host.divf e (broadcastInDim S8x8x2048x2048 ![0, 1, 2, 3] bcast_S8x8x2048x1_S8x8x2048x2048_0_1_2_3
    (broadcastInDim S8x8x2048x1 ![0, 1, 2] bcast_S8x8x2048_S8x8x2048x1_0_1_2
      (Host.reduceAdd e (constant S_ .f32 0x00000000#32) reducesTo_S8x8x2048x2048_S8x8x2048_d3 h_S_)))) bitsLt_bf16_f32

/-- The values weighted by the probabilities, a token to a row. -/
def result (V : FVec F S8x64x128x256 .bf16) (p : FVec F S8x8x2048x2048 .bf16) : FVec F S16384x1024 .bf16 :=
  truncf .bf16 (shapeCast _ (transpose S8x2048x8x128 [0, 3, 1, 2]
    (Host.dotGeneral dot_S8x8x2048x128_S8x8x2048x2048_S8x8x128x2048_2_3_3_2_01_01 none
      (shapeCast _ (transpose S8x8x8x256x128 [1, 0, 2, 4, 3] (shapeCast _ V shapeCasts_S8x64x128x256_S8x8x8x128x256)
        transposes_S8x8x8x128x256_S8x8x8x256x128_1_0_2_4_3) shapeCasts_S8x8x8x256x128_S8x8x2048x128) p)
    transposes_S8x8x128x2048_S8x2048x8x128_0_3_1_2) shapeCasts_S8x2048x8x128_S16384x1024) bitsLt_bf16_f32

theorem res_eq (m : (ℓ : Loc nD τ sig) → Buf (Elt F) ℓ) (c : Dev nD) : Value.res_main_v30 m c
    = result (m ((c.tc : Thread nD τ).loc main_arg2))
        (probs (exps (scores (m ((c.tc : Thread nD τ).loc main_arg0)) (m ((c.tc : Thread nD τ).loc main_arg1))))) := by
  unfold Value.res_main_v30
  rfl

theorem minusInfinity : Ideal.ofBits .f32 0xFF800000#32 = ⊥ := by
  simp [Ideal.ofBits, Ideal.ieee]

theorem scores_apply (Q : FVec Ideal S8x256x16384 .bf16) (K : FVec Ideal S8x16384x256 .bf16) (b h : Fin 8) (q k : Fin 2048) :
    scores Q K (ix4 b h q k) = Attention.causal Q K h ⟨2048 * b.val + q.val, by omega⟩ k.val := by
  pointwise [scores]
  rw [WordCmp.cmpi_sle_ofNat (by have := k.isLt; omega) (by have := q.isLt; omega), Attention.causal, Attention.score]
  have hb := b.isLt
  have hq := q.isLt
  have hk := k.isLt
  have e : ∀ x : Fin 256, Q (ix3 h x ⟨b.val * 2048 + q.val, by omega⟩) * K (ix3 h ⟨b.val * 2048 + k.val, by omega⟩ x)
      = K (ix3 h (Fin.ofNat 16384 (2048 * ((2048 * b.val + q.val) / 2048) + k.val % 2048)) x) * Q (ix3 h x ⟨2048 * b.val + q.val, by omega⟩) := by
    intro x
    rw [mul_comm]
    refine congrArg₂ (· * ·) (congrArg (fun n => K (ix3 h n x)) (Fin.ext ?_)) (congrArg (fun n => Q (ix3 h x n)) (Fin.ext ?_))
    · show b.val * 2048 + k.val = (2048 * ((2048 * b.val + q.val) / 2048) + k.val % 2048) % 16384
      omega
    · show b.val * 2048 + q.val = 2048 * b.val + q.val
      omega
  have c : k.val ≤ (2048 * b.val + q.val) % 2048 ↔ k.val ≤ q.val := by omega
  simp only [e, c]
  by_cases g : k.val ≤ q.val
  · simp [g, Scalar.select]
  · simp only [g, if_false, decide_false]
    exact minusInfinity

theorem fold_max {n : ℕ} (f : Fin n → EReal) : Finset.univ.fold max ⊥ f = Finset.univ.sup f := rfl

/-- The greatest along the last of four axes, whatever their sizes. -/
theorem rowMax {n0 n1 n2 n3 : ℕ} {u : Shape} (s : FVec Ideal ⟨4, ![n0, n1, n2, n3]⟩ .f32) (z : FVec Ideal u .f32)
    (H : (⟨4, ![n0, n1, n2, n3]⟩ : Shape).ReducesTo [3] ⟨3, ![n0, n1, n2]⟩) (hu : 0 < u.numel) (hz : ∀ i, z i = ⊥)
    (a : Fin n0) (b : Fin n1) (c : Fin n2) :
    Host.reduce FloatOps.maximumf s z H hu (ix3 a b c) = Finset.univ.sup fun k : Fin n3 => s (ix4 a b c k) := by
  rw [Host.reduce_eq_fold, H.fold_fiber_r4_a3, hz]
  exact fold_max _

theorem maximumf_at (x y : FVec Ideal S8x8x2048 .f32) (j : S8x8x2048.Idx) : maximumf x y j = max (x j) (y j) := rfl

theorem floor_at (j : S8x8x2048.Idx) :
    broadcastInDim S8x8x2048 ![] bcast_S_S8x8x2048 (constant S_ .f32 0xFF800000#32 : FVec Ideal S_ .f32) j = ⊥ := minusInfinity

theorem greatest_apply (s : FVec Ideal S8x8x2048x2048 .f32) (b h : Fin 8) (q : Fin 2048) :
    greatest s (ix3 b h q) = Finset.univ.sup fun k : Fin 2048 => s (ix4 b h q k) := by
  have R := rowMax s (constant S_ .f32 0xFF800000#32) reducesTo_S8x8x2048x2048_S8x8x2048_d3 h_S_ (fun _ => minusInfinity) b h q
  rw [greatest, maximumf_at, floor_at, R]
  exact max_eq_right bot_le

theorem exps_apply (s : FVec Ideal S8x8x2048x2048 .f32) (b h : Fin 8) (q k : Fin 2048) :
    exps s (ix4 b h q k) = Ideal.exp (s (ix4 b h q k) - greatest s (ix3 b h q)) := by
  pointwise [exps]

theorem probs_apply (e : FVec Ideal S8x8x2048x2048 .f32) (b h : Fin 8) (q k : Fin 2048) :
    probs e (ix4 b h q k) = Ideal.div (e (ix4 b h q k)) (∑ j : Fin 2048, e (ix4 b h q j)) := by
  pointwise [probs]

theorem result_apply (V : FVec Ideal S8x64x128x256 .bf16) (p : FVec Ideal S8x8x2048x2048 .bf16) (t : Fin 16384) (j : Fin 1024) :
    result V p (ix2 t j) = ∑ k : Fin 2048, Attention.value V ⟨j.val / 128, by omega⟩ ⟨j.val % 128, by omega⟩ t k.val
      * p (ix4 ⟨t.val / 2048, by omega⟩ ⟨j.val / 128, by omega⟩ ⟨t.val % 2048, by omega⟩ k) := by
  pointwise [result]
  refine Finset.sum_congr rfl fun k _ => congrArg (· * _) ?_
  have ht := t.isLt
  have hk := k.isLt
  rw [Attention.value]
  refine congrArg₂ (fun x y => V (ix4 _ x _ y)) (Fin.ext ?_) (Fin.ext ?_)
  · show t.val / 2048 * 8 + k.val / 256 = (8 * (t.val / 2048) + k.val / 256 % 8) % 64
    omega
  · show k.val % 256 = k.val % 256
    rfl

end Cert.Reference

end
-- ==== Proof.Equation.lean ====
/-
  Where every query and key is finite, the reference's result is attention of its arguments.
-/
module

public import proofs.«01_k».proof.Proof.Reference
public import proofs.«01_k».proof.Pre_finite_scores

@[expose] public section

set_option maxRecDepth 16384
set_option maxHeartbeats 1000000

noncomputable section

open Idealize.ShloMosaic Idealize.ShloMosaic.TcCoe Idealize.SL.Sem
open Cert.ReferenceIdeal Cert.ReferenceIdeal.Gen Cert.Online

namespace Cert.Equation

/-- The precondition's function broadcasts a scalar and swaps two axes: these facts say that it may. -/
theorem preFacts : Cert.Pre_finite_scores.Facts where
  bitsLt_bf16_f32 := by decide
  bcast_S_S8x256x16384 := by decide
  bcast_S_S8x16384x256 := by decide
  transposes_S8x16384x256_S8x256x16384_0_2_1 := by decide

/-- An extended real that is a real number. -/
def IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

variable {Q : Attention.Queries} {K : Attention.Keys} {V : Attention.Values}

theorem both (a b : Bool) (H : IntOp.andi (BitVec.ofBool a) (BitVec.ofBool b) = 1#1) : a = true ∧ b = true := by
  revert H
  cases a <;> cases b <;> decide

theorem plusInfinity : Ideal.ofBits .f32 0x7F800000#32 = ⊤ := by
  simp [Ideal.ofBits, Ideal.ieee]

theorem isReal_of_abs (x : Ideal .f32) (H : FloatOps.absf x < Ideal.ofBits .f32 0x7F800000#32) : IsReal x := by
  rw [plusInfinity] at H
  induction x using EReal.rec with
  | bot => exact absurd H (by decide)
  | top => exact absurd H (by decide)
  | coe r => exact ⟨r, rfl⟩

theorem pre_apply [Cert.Pre_finite_scores.Facts] (h : Fin 8) (e : Fin 256) (tok : Fin 16384)
    (H : Cert.Pre_finite_scores.fn (F := Ideal) Q K V = fun _ => 1#1) : IsReal (Q (ix3 h e tok)) ∧ IsReal (K (ix3 h tok e)) := by
  have W := congrFun H (ix3 h e tok)
  pointwise [Cert.Pre_finite_scores.fn] at W
  obtain ⟨wq, wk⟩ := both _ _ W
  exact ⟨isReal_of_abs _ (of_decide_eq_true wq), isReal_of_abs _ (of_decide_eq_true wk)⟩

variable (hQ : ∀ i, IsReal (Q i)) (hK : ∀ i, IsReal (K i))
include hQ hK

theorem score_real (h : Fin 8) (tok : Fin 16384) (k : ℕ) : IsReal (Attention.score Q K h tok k) :=
  Finset.sum_induction _ _ (fun _ _ => IsReal.add) ⟨0, rfl⟩ fun _ _ => (hK _).mul (hQ _)

theorem mass_ne (h : Fin 8) (tok : Fin 16384) : mass (Attention.causal Q K h tok) 2048 ≠ 0 := by
  refine mass_ne_zero _ 2048 (tok.val % 2048) (Nat.mod_lt _ (by decide)) ?_ fun k _ => ?_
  · rw [Attention.causal, if_pos le_rfl]
    obtain ⟨r, hr⟩ := score_real hQ hK h tok (tok.val % 2048)
    rw [hr]
    exact EReal.coe_ne_bot r
  · rw [Attention.causal]
    split
    · obtain ⟨r, hr⟩ := score_real hQ hK h tok k
      rw [hr]
      exact EReal.coe_ne_top r
    · exact bot_ne_top

omit hQ hK in
theorem peak_eq (s : ℕ → EReal) (n : ℕ) : peak s n = Finset.univ.sup fun k : Fin n => s k.val := by
  have := peak_step s 0 n
  simpa [peak] using this.symm

theorem reference_eq (i : S16384x1024.Idx) :
    Reference.result V (Reference.probs (Reference.exps (Reference.scores (F := Ideal) Q K))) i = Attention.out Q K V i := by
  obtain ⟨t, j, rfl⟩ : ∃ (t : Fin 16384) (j : Fin 1024), i = ix2 t j :=
    ⟨i 0, i 1, by funext a; match a with | ⟨0, _⟩ => rfl | ⟨1, _⟩ => rfl⟩
  rw [Attention.out_apply Q K V ⟨j.val / 128, by omega⟩ ⟨j.val % 128, by omega⟩ t _ rfl (Nat.div_add_mod _ _).symm,
    Attention.attend, blend_div _ _ _ (mass_ne hQ hK _ t), Finset.sum_range, Reference.result_apply]
  have et : (⟨2048 * (t.val / 2048) + t.val % 2048, by omega⟩ : Fin 16384) = t := Fin.ext (Nat.div_add_mod _ _)
  simp only [Reference.probs_apply, Reference.exps_apply, Reference.greatest_apply, Reference.scores_apply, et]
  rw [mass, Finset.sum_range, peak_eq]

end Cert.Equation

end
-- ==== Proof.FeedForward.lean ====
/-
  The gated merge of the three branches and the feed-forward part, of one token's row over the extended reals: the
  common side of the second equation.
-/
module

public import Idealize.ShloMosaic.PureOps.Ideal
public import Idealize.ShloMosaic.Lib.Pointwise

@[expose] public section

noncomputable section

open Idealize.ShloMosaic

namespace Cert.FeedForward

/-- The residual stream's weight, the row's length and the least variance a norm divides by, the numbers that their words are. -/
def alpha : EReal := Ideal.ofBits .f32 0x3F9837F0#32
def width : EReal := Ideal.ofBits .f32 0x44800000#32
def least : EReal := Ideal.ofBits .f32 0x3727C5AC#32

/-- A row times a matrix. -/
def product {n p : ℕ} (a : Fin n → EReal) (W : Fin n → Fin p → EReal) (j : Fin p) : EReal := ∑ k, a k * W k j

def mean {n : ℕ} (v : Fin n → EReal) : EReal := Ideal.div (∑ k, v k) width

/-- The row less its mean. -/
def centered {n : ℕ} (v : Fin n → EReal) (j : Fin n) : EReal := v j - mean v

/-- A centered row over its deviation, with a gain and a bias. -/
def scaled {n : ℕ} (d g b : Fin n → EReal) (j : Fin n) : EReal :=
  d j * Ideal.rsqrt (mean (fun k => d k * d k) + least) * g j + b j

/-- The layer norm of a row. -/
def normed {n : ℕ} (v g b : Fin n → EReal) : Fin n → EReal := scaled (centered v) g b

/-- The three branches under their gates, which lie side by side in one row. -/
def merged (g : Fin 3072 → EReal) (a b c : Fin 1024 → EReal) (j : Fin 1024) : EReal :=
  g ⟨j.val, by omega⟩ * a j + g ⟨1024 + j.val, by omega⟩ * b j + g ⟨2048 + j.val, by omega⟩ * c j

/-- The square of the positive part of a row with its bias. -/
def activated {n : ℕ} (u b : Fin n → EReal) (j : Fin n) : EReal := max (u j + b j) 0 * max (u j + b j) 0

/-- A row of the residual stream plus what a part of the layer adds to it. -/
def stream {n : ℕ} (x d : Fin n → EReal) (j : Fin n) : EReal := alpha * x j + d j

/-- The weights of the merge and the feed-forward part. -/
structure Weights where
  mla : Fin 1024 → Fin 1024 → EReal
  ssm : Fin 2048 → Fin 1024 → EReal
  mem : Fin 1024 → Fin 1024 → EReal
  out : Fin 1024 → Fin 1024 → EReal
  gain1 : Fin 1024 → EReal
  bias1 : Fin 1024 → EReal
  up : Fin 1024 → Fin 4096 → EReal
  upBias : Fin 4096 → EReal
  down : Fin 4096 → Fin 1024 → EReal
  downBias : Fin 1024 → EReal
  gain2 : Fin 1024 → EReal
  bias2 : Fin 1024 → EReal

variable (w : Weights)

/-- The row after the merge of the branches and its norm. -/
def after (x a : Fin 1024 → EReal) (b : Fin 2048 → EReal) (c : Fin 1024 → EReal) (g : Fin 3072 → EReal) : Fin 1024 → EReal :=
  normed (stream x (product (merged g (product a w.mla) (product b w.ssm) (product c w.mem)) w.out)) w.gain1 w.bias1

/-- The feed-forward part of a row, before its norm. -/
def fed (y : Fin 1024 → EReal) (j : Fin 1024) : EReal :=
  stream y (product (activated (product y w.up) w.upBias) w.down) j + w.downBias j

/-- The layer's output row. -/
def row (x a : Fin 1024 → EReal) (b : Fin 2048 → EReal) (c : Fin 1024 → EReal) (g : Fin 3072 → EReal) : Fin 1024 → EReal :=
  normed (fed w (after w x a b c g)) w.gain2 w.bias2

/-- An array of two axes. -/
abbrev Matrix (n p : ℕ) : Type := (⟨2, ![n, p]⟩ : Shape).Idx → EReal

/-- A row of an array of two axes. -/
abbrev at2 {n p : ℕ} (X : Matrix n p) (r : Fin n) : Fin p → EReal := fun j => X (ix2 r j)

/-- The weights as the arrays of two axes that hold them: a vector is an array of one row. -/
def weights (mla : Matrix 1024 1024) (ssm : Matrix 2048 1024) (mem out : Matrix 1024 1024) (gain1 bias1 : Matrix 1 1024)
    (up : Matrix 1024 4096) (upBias : Matrix 1 4096) (down : Matrix 4096 1024) (downBias gain2 bias2 : Matrix 1 1024) : Weights :=
  ⟨at2 mla, at2 ssm, at2 mem, at2 out, at2 gain1 0, at2 bias1 0, at2 up, at2 upBias 0, at2 down, at2 downBias 0, at2 gain2 0, at2 bias2 0⟩

/-- The layer's output for an array of rows. -/
def layer {n : ℕ} (x a : Matrix n 1024) (b : Matrix n 2048) (c : Matrix n 1024) (g : Matrix n 3072) : Matrix n 1024 :=
  fun i => row w (at2 x (i 0)) (at2 a (i 0)) (at2 b (i 0)) (at2 c (i 0)) (at2 g (i 0)) (i 1)

end Cert.FeedForward

end
-- ==== Proof.MergeRows.lean ====
/-
  What the merge's kernel computes of half a block's rows, stage by stage, over the extended reals.
-/
module

public import proofs.«01_k».proof.Proof.FeedForward
public import proofs.«01_k».proof.Proof.Gen.Kernel2Ideal.Skeleton
public import Idealize.ShloMosaic.Lib.Pointwise

@[expose] public section

set_option maxRecDepth 16384
set_option maxHeartbeats 1000000

noncomputable section

open Idealize.ShloMosaic Idealize.SL.Sem
open Cert.Kernel2Ideal Cert.Kernel2Ideal.Gen Cert.FeedForward

namespace Cert.MergeRows

variable (r : Fin 128) (j : Fin 1024)

theorem pay1_apply (a : Vec Ideal S128x1024 .bf16) (W : Vec Ideal S1024x1024 .bf16) :
    k0_pay1 a W (ix2 r j) = product (at2 a r) (at2 W) j := by
  pointwise [k0_pay1, product]
theorem pay3_apply (a : Vec Ideal S128x1024 .bf16) (W : Vec Ideal S1024x1024 .bf16) :
    k0_pay3 a W (ix2 r j) = product (at2 a r) (at2 W) j := by
  pointwise [k0_pay3, product]
theorem pay4_apply (a : Vec Ideal S128x1024 .bf16) (W : Vec Ideal S1024x1024 .bf16) :
    k0_pay4 a W (ix2 r j) = product (at2 a r) (at2 W) j := by
  pointwise [k0_pay4, product]
theorem pay2_apply (a : Vec Ideal S128x2048 .bf16) (W : Vec Ideal S2048x1024 .bf16) :
    k0_pay2 a W (ix2 r j) = product (at2 a r) (at2 W) j := by
  pointwise [k0_pay2, product]

theorem pay5_apply (a : Vec Ideal S128x1024 .bf16) (A : Vec Ideal S1024x1024 .bf16) (b : Vec Ideal S128x2048 .bf16)
    (B : Vec Ideal S2048x1024 .bf16) (g0 g1 : Vec Ideal S128x1024 .bf16) :
    k0_pay5 a A b B g0 g1 (ix2 r j) = g0 (ix2 r j) * product (at2 a r) (at2 A) j + g1 (ix2 r j) * product (at2 b r) (at2 B) j := by
  pointwise [k0_pay5, product]

theorem pay6_apply (a b c : FVec Ideal S128x1024 .f32) (g0 g1 g2 : Vec Ideal S128x1024 .bf16) (W : Vec Ideal S1024x1024 .bf16) :
    k0_pay6 a b c g0 g1 g2 W (ix2 r j) = product (fun k => g0 (ix2 r k) * a (ix2 r k) + g1 (ix2 r k) * b (ix2 r k) + g2 (ix2 r k) * c (ix2 r k)) (at2 W) j := by
  pointwise [k0_pay6, product]

theorem pay7_apply (c ab : FVec Ideal S128x1024 .f32) (g2 : Vec Ideal S128x1024 .bf16) (W : Vec Ideal S1024x1024 .bf16) (x : Vec Ideal S128x1024 .f32) :
    k0_pay7 c ab g2 W x (ix2 r j)
      = centered (stream (at2 x r) (product (fun k => ab (ix2 r k) + g2 (ix2 r k) * c (ix2 r k)) (at2 W))) j := by
  pointwise [k0_pay7, product, centered, stream, mean, alpha, width]

theorem pay8_apply (c ab : FVec Ideal S128x1024 .f32) (g2 : Vec Ideal S128x1024 .bf16) (W : Vec Ideal S1024x1024 .bf16) (x : Vec Ideal S128x1024 .f32) (i : Fin 1) :
    k0_pay8 c ab g2 W x (ix2 r i) = ∑ k : Fin 1024, k0_pay7 c ab g2 W x (ix2 r k) * k0_pay7 c ab g2 W x (ix2 r k) := by
  pointwise [k0_pay8]

theorem pay9_apply (g b : Vec Ideal S1x1024 .f32) (d : FVec Ideal S128x1024 .f32) (q : FVec Ideal S128x1 .f32)
    (hq : q (ix2 r 0) = ∑ k : Fin 1024, d (ix2 r k) * d (ix2 r k)) :
    k0_pay9 g b d q (ix2 r j) = scaled (at2 d r) (at2 g 0) (at2 b 0) j := by
  pointwise [k0_pay9, scaled, mean, width, least]
  rw [hq]

theorem pay16_apply (g b : Vec Ideal S1x1024 .f32) (d : FVec Ideal S128x1024 .f32) (q : FVec Ideal S128x1 .f32)
    (hq : q (ix2 r 0) = ∑ k : Fin 1024, d (ix2 r k) * d (ix2 r k)) :
    k0_pay16 g b d q (ix2 r j) = scaled (at2 d r) (at2 g 0) (at2 b 0) j := by
  pointwise [k0_pay16, scaled, mean, width, least]
  rw [hq]

theorem pay10_apply (t : FVec Ideal S128x1024 .f32) (x : Vec Ideal S128x1024 .f32) (g b : Vec Ideal S1x1024 .f32) :
    k0_pay10 t x g b (ix2 r j) = normed (stream (at2 x r) (at2 t r)) (at2 g 0) (at2 b 0) j := by
  pointwise [k0_pay10, normed, scaled, centered, stream, mean, width, least, alpha]

theorem pay12_apply (t : FVec Ideal S128x1024 .f32) (x : Vec Ideal S128x1024 .f32) (g b : Vec Ideal S1x1024 .f32) :
    k0_pay12 t x g b (ix2 r j) = k0_pay10 t x g b (ix2 r j) := rfl

theorem pay11_apply (g b : Vec Ideal S1x1024 .f32) (d : FVec Ideal S128x1024 .f32) (q : FVec Ideal S128x1 .f32)
    (W : Vec Ideal S1024x4096 .bf16) (k : Fin 4096) :
    k0_pay11 g b d q W (ix2 r k) = product (at2 (k0_pay9 g b d q) r) (at2 W) k := by
  pointwise [k0_pay11, product]

theorem pay13_apply (y : FVec Ideal S128x1024 .bf16) (U : Vec Ideal S1024x4096 .bf16) (b : Vec Ideal S1x4096 .f32) (D : Vec Ideal S4096x1024 .bf16) :
    k0_pay13 y U b D (ix2 r j) = product (activated (product (at2 y r) (at2 U)) (at2 b 0)) (at2 D) j := by
  pointwise [k0_pay13, product, activated]

theorem pay14_apply (y : FVec Ideal S128x1024 .f32) (u : FVec Ideal S128x4096 .f32) (b : Vec Ideal S1x4096 .f32) (D : Vec Ideal S4096x1024 .bf16) (e : Vec Ideal S1x1024 .f32) :
    k0_pay14 y u b D e (ix2 r j)
      = centered (fun k => stream (at2 y r) (product (activated (at2 u r) (at2 b 0)) (at2 D)) k + at2 e 0 k) j := by
  pointwise [k0_pay14, centered, mean, stream, product, activated, alpha, width]

theorem pay15_apply (y : FVec Ideal S128x1024 .f32) (u : FVec Ideal S128x4096 .f32) (b : Vec Ideal S1x4096 .f32) (D : Vec Ideal S4096x1024 .bf16) (e : Vec Ideal S1x1024 .f32) (i : Fin 1) :
    k0_pay15 y u b D e (ix2 r i) = ∑ k : Fin 1024, k0_pay14 y u b D e (ix2 r k) * k0_pay14 y u b D e (ix2 r k) := by
  pointwise [k0_pay15]

theorem pay17_apply (y t : FVec Ideal S128x1024 .f32) (e g b : Vec Ideal S1x1024 .f32) :
    k0_pay17 y t e g b (ix2 r j) = normed (fun k => stream (at2 y r) (at2 t r) k + at2 e 0 k) (at2 g 0) (at2 b 0) j := by
  pointwise [k0_pay17, normed, scaled, centered, stream, mean, width, least, alpha]

end Cert.MergeRows

end
-- ==== Proof.MergeBlock.lean ====
/-
  The two pieces that the merge's kernel leaves in its output's block are the layer's output for the block's rows.
-/
module

public import proofs.«01_k».proof.Proof.MergeRows
public import proofs.«01_k».proof.Proof.Gen.Kernel2Ideal.Frame
public import Idealize.ShloMosaic.Lib.Pipeline.ValueKit

@[expose] public section

set_option maxRecDepth 16384
set_option maxHeartbeats 1000000

noncomputable section

open Idealize.ShloMosaic Idealize.SL.Sem
open Cert.Kernel2Ideal Cert.Kernel2Ideal.Gen Cert.FeedForward Cert.MergeRows

namespace Cert.MergeBlock

/-- A row of the lower or the upper half of a block. -/
def low (r : Fin 128) : Fin 256 := ⟨r.val, by omega⟩
def high (r : Fin 128) : Fin 256 := ⟨128 + r.val, by omega⟩

section Loads

/-- A load of a rectangle of two axes, at an index. -/
theorem ld_at {n p n' p' : ℕ} {e : EltTy} (X : Vec Ideal ⟨2, ![n, p]⟩ e) (o q : ℕ)
    (inb : ∀ a, ![o, q] a + ![n', p'] a ≤ (⟨2, ![n, p]⟩ : Shape).size a) (r : Fin n') (j : Fin p') (r' : Fin n) (j' : Fin p)
    (hr : r'.val = o + r.val) (hj : j'.val = q + j.val) :
    View.ld X (Rect.unit (s := ⟨2, ![n, p]⟩) ![o, q] ![n', p'] inb) (ix2 r j) = X (ix2 r' j') :=
  View.ld_unit_apply_of _ _ _ _ _ _ fun a => by match a with | ⟨0, _⟩ => exact hr | ⟨1, _⟩ => exact hj

variable {e : EltTy}

theorem ld0 (X : Vec Ideal S256x1024 e) (r : Fin 128) (j : Fin 1024) : View.ld X r0_0 (ix2 r j) = X (ix2 (low r) j) :=
  ld_at X 0 0 _ r j _ _ (Nat.zero_add _).symm (Nat.zero_add _).symm
theorem ld2 (X : Vec Ideal S256x1024 e) (r : Fin 128) (j : Fin 1024) : View.ld X r0_2 (ix2 r j) = X (ix2 (high r) j) :=
  ld_at X 128 0 _ r j _ _ rfl (Nat.zero_add _).symm
theorem ld3 (X : Vec Ideal S256x2048 e) (r : Fin 128) (k : Fin 2048) : View.ld X r0_3 (ix2 r k) = X (ix2 (low r) k) :=
  ld_at X 0 0 _ r k _ _ (Nat.zero_add _).symm (Nat.zero_add _).symm
theorem ld5 (X : Vec Ideal S256x2048 e) (r : Fin 128) (k : Fin 2048) : View.ld X r0_5 (ix2 r k) = X (ix2 (high r) k) :=
  ld_at X 128 0 _ r k _ _ rfl (Nat.zero_add _).symm
theorem ld6 (X : Vec Ideal S256x3072 e) (r : Fin 128) (j : Fin 1024) : View.ld X r0_6 (ix2 r j) = X (ix2 (low r) ⟨j.val, by omega⟩) :=
  ld_at X 0 0 _ r j _ _ (Nat.zero_add _).symm (Nat.zero_add _).symm
theorem ld7 (X : Vec Ideal S256x3072 e) (r : Fin 128) (j : Fin 1024) : View.ld X r0_7 (ix2 r j) = X (ix2 (low r) ⟨1024 + j.val, by omega⟩) :=
  ld_at X 0 1024 _ r j _ _ (Nat.zero_add _).symm rfl
theorem ld8 (X : Vec Ideal S256x3072 e) (r : Fin 128) (j : Fin 1024) : View.ld X r0_8 (ix2 r j) = X (ix2 (low r) ⟨2048 + j.val, by omega⟩) :=
  ld_at X 0 2048 _ r j _ _ (Nat.zero_add _).symm rfl
theorem ld9 (X : Vec Ideal S256x3072 e) (r : Fin 128) (j : Fin 1024) : View.ld X r0_9 (ix2 r j) = X (ix2 (high r) ⟨j.val, by omega⟩) :=
  ld_at X 128 0 _ r j _ _ rfl (Nat.zero_add _).symm
theorem ld10 (X : Vec Ideal S256x3072 e) (r : Fin 128) (j : Fin 1024) : View.ld X r0_10 (ix2 r j) = X (ix2 (high r) ⟨1024 + j.val, by omega⟩) :=
  ld_at X 128 1024 _ r j _ _ rfl rfl
theorem ld11 (X : Vec Ideal S256x3072 e) (r : Fin 128) (j : Fin 1024) : View.ld X r0_11 (ix2 r j) = X (ix2 (high r) ⟨2048 + j.val, by omega⟩) :=
  ld_at X 128 2048 _ r j _ _ rfl rfl

theorem zeros : (![0, 0] : Fin 2 → ℕ) = fun _ => 0 := by funext a; match a with | ⟨0, _⟩ => rfl | ⟨1, _⟩ => rfl

theorem ld1 (X : Vec Ideal S1024x1024 e) : View.ld X r0_1 = X := View.ld_unit_zero zeros _ _
theorem ld4 (X : Vec Ideal S2048x1024 e) : View.ld X r0_4 = X := View.ld_unit_zero zeros _ _
theorem ld12 (X : Vec Ideal S1x1024 e) : View.ld X r0_12 = X := View.ld_unit_zero zeros _ _
theorem ld13 (X : Vec Ideal S1024x4096 e) : View.ld X r0_13 = X := View.ld_unit_zero zeros _ _
theorem ld14 (X : Vec Ideal S1x4096 e) : View.ld X r0_14 = X := View.ld_unit_zero zeros _ _
theorem ld15 (X : Vec Ideal S4096x1024 e) : View.ld X r0_15 = X := View.ld_unit_zero zeros _ _

end Loads

variable (x0 : Vec Ideal S256x1024 .f32) (x1 : Vec Ideal S256x1024 .bf16) (x2 : Vec Ideal S256x2048 .bf16)
  (x3 : Vec Ideal S256x1024 .bf16) (x4 : Vec Ideal S256x3072 .bf16) (x5 : Vec Ideal S1024x1024 .bf16)
  (x6 : Vec Ideal S2048x1024 .bf16) (x7 x8 : Vec Ideal S1024x1024 .bf16) (x9 x10 : Vec Ideal S1x1024 .f32)
  (x11 : Vec Ideal S1024x4096 .bf16) (x12 : Vec Ideal S1x4096 .f32) (x13 : Vec Ideal S4096x1024 .bf16)
  (x14 x15 x16 : Vec Ideal S1x1024 .f32) (r : Fin 128) (j : Fin 1024)

/-- The row after the merge, of one row of the block. -/
def afterAt (q : Fin 256) : Fin 1024 → EReal :=
  after (weights x5 x6 x7 x8 x9 x10 x11 x12 x13 x14 x15 x16) (at2 x0 q) (at2 x1 q) (at2 x2 q) (at2 x3 q) (at2 x4 q)

/-- The layer's output, of one row of the block. -/
def rowAt (q : Fin 256) : Fin 1024 → EReal :=
  row (weights x5 x6 x7 x8 x9 x10 x11 x12 x13 x14 x15 x16) (at2 x0 q) (at2 x1 q) (at2 x2 q) (at2 x3 q) (at2 x4 q)

theorem low_centered : k0_pay21 x0 x1 x2 x3 x4 x5 x6 x7 x8 x9 x10 x11 x12 x13 x14 x15 x16 (ix2 r j)
    = centered (stream (at2 x0 (low r)) (product (merged (at2 x4 (low r)) (product (at2 x1 (low r)) (at2 x5))
        (product (at2 x2 (low r)) (at2 x6)) (product (at2 x3 (low r)) (at2 x7))) (at2 x8))) j := by
  unfold k0_pay21 k0_pay19 k0_pay18
  rw [pay7_apply]
  simp only [pay5_apply, pay3_apply, ld1, ld4]
  delta at2
  simp only [ld0 x0 r, ld0 x1 r, ld0 x3 r, ld3 x2 r, ld6 x4 r, ld7 x4 r, ld8 x4 r]
  rfl

theorem low_after : k0_pay23 x0 x1 x2 x3 x4 x5 x6 x7 x8 x9 x10 x11 x12 x13 x14 x15 x16 (ix2 r j)
    = afterAt x0 x1 x2 x3 x4 x5 x6 x7 x8 x9 x10 x11 x12 x13 x14 x15 x16 (low r) j := by
  unfold k0_pay23
  have h : k0_pay22 x0 x1 x2 x3 x4 x5 x6 x7 x8 x9 x10 x11 x12 x13 x14 x15 x16 (ix2 r 0)
      = ∑ k : Fin 1024, k0_pay21 x0 x1 x2 x3 x4 x5 x6 x7 x8 x9 x10 x11 x12 x13 x14 x15 x16 (ix2 r k) * k0_pay21 x0 x1 x2 x3 x4 x5 x6 x7 x8 x9 x10 x11 x12 x13 x14 x15 x16 (ix2 r k) := by
    unfold k0_pay22 k0_pay21
    exact pay8_apply r _ _ _ _ _ 0
  rw [pay9_apply r j _ _ _ _ h, ld12, ld12]
  exact congrArg (fun d => scaled d (at2 x9 0) (at2 x10 0) j) (funext fun k => low_centered x0 x1 x2 x3 x4 x5 x6 x7 x8 x9 x10 x11 x12 x13 x14 x15 x16 r k)

theorem low_up (k : Fin 4096) : k0_pay24 x0 x1 x2 x3 x4 x5 x6 x7 x8 x9 x10 x11 x12 x13 x14 x15 x16 (ix2 r k)
    = product (afterAt x0 x1 x2 x3 x4 x5 x6 x7 x8 x9 x10 x11 x12 x13 x14 x15 x16 (low r)) (at2 x11) k := by
  unfold k0_pay24
  rw [pay11_apply, ld13]
  exact congrArg (fun d => product d (at2 x11) k) (funext fun k => low_after x0 x1 x2 x3 x4 x5 x6 x7 x8 x9 x10 x11 x12 x13 x14 x15 x16 r k)

/-- The lower half's piece. -/
theorem low_apply :
    k0_pay16 (View.ld x15 r0_12) (View.ld x16 r0_12)
      (k0_pay14 (k0_pay23 x0 x1 x2 x3 x4 x5 x6 x7 x8 x9 x10 x11 x12 x13 x14 x15 x16) (k0_pay24 x0 x1 x2 x3 x4 x5 x6 x7 x8 x9 x10 x11 x12 x13 x14 x15 x16) (View.ld x12 r0_14) (View.ld x13 r0_15) (View.ld x14 r0_12))
      (k0_pay15 (k0_pay23 x0 x1 x2 x3 x4 x5 x6 x7 x8 x9 x10 x11 x12 x13 x14 x15 x16) (k0_pay24 x0 x1 x2 x3 x4 x5 x6 x7 x8 x9 x10 x11 x12 x13 x14 x15 x16) (View.ld x12 r0_14) (View.ld x13 r0_15) (View.ld x14 r0_12)) (ix2 r j)
    = rowAt x0 x1 x2 x3 x4 x5 x6 x7 x8 x9 x10 x11 x12 x13 x14 x15 x16 (low r) j := by
  rw [pay16_apply r j _ _ _ _ (pay15_apply r _ _ _ _ _ 0)]
  simp only [ld12, ld14, ld15]
  delta at2
  simp only [pay14_apply]
  delta at2
  simp only [low_after, low_up]
  rfl

theorem high_merged : k0_pay20 x0 x1 x2 x3 x4 x5 x6 x7 x8 x9 x10 x11 x12 x13 x14 x15 x16 (ix2 r j)
    = product (merged (at2 x4 (high r)) (product (at2 x1 (high r)) (at2 x5))
        (product (at2 x2 (high r)) (at2 x6)) (product (at2 x3 (high r)) (at2 x7))) (at2 x8) j := by
  unfold k0_pay20
  rw [pay6_apply]
  simp only [pay1_apply, pay2_apply, pay4_apply, ld1, ld4]
  delta at2
  simp only [ld2 x1 r, ld2 x3 r, ld5 x2 r, ld9 x4 r, ld10 x4 r, ld11 x4 r]
  rfl

theorem high_after : k0_pay10 (k0_pay20 x0 x1 x2 x3 x4 x5 x6 x7 x8 x9 x10 x11 x12 x13 x14 x15 x16) (View.ld x0 r0_2) x9 x10 (ix2 r j)
    = afterAt x0 x1 x2 x3 x4 x5 x6 x7 x8 x9 x10 x11 x12 x13 x14 x15 x16 (high r) j := by
  rw [pay10_apply]
  delta at2
  simp only [high_merged, ld2 x0 r]
  rfl

/-- The upper half's piece. -/
theorem high_apply :
    k0_pay17 (k0_pay10 (k0_pay20 x0 x1 x2 x3 x4 x5 x6 x7 x8 x9 x10 x11 x12 x13 x14 x15 x16) (View.ld x0 r0_2) (View.ld x9 r0_12) (View.ld x10 r0_12))
      (k0_pay13 (k0_pay12 (k0_pay20 x0 x1 x2 x3 x4 x5 x6 x7 x8 x9 x10 x11 x12 x13 x14 x15 x16) (View.ld x0 r0_2) (View.ld x9 r0_12) (View.ld x10 r0_12))
        (View.ld x11 r0_13) (View.ld x12 r0_14) (View.ld x13 r0_15))
      (View.ld x14 r0_12) (View.ld x15 r0_12) (View.ld x16 r0_12) (ix2 r j)
    = rowAt x0 x1 x2 x3 x4 x5 x6 x7 x8 x9 x10 x11 x12 x13 x14 x15 x16 (high r) j := by
  rw [pay17_apply]
  simp only [ld12, ld13, ld14, ld15]
  delta at2
  simp only [pay13_apply]
  delta at2
  simp only [pay12_apply, high_after]
  rfl

theorem emb_row (o : ℕ) (inb : ∀ a, ![o, 0] a + S128x1024.size a ≤ S256x1024.size a) (q : Fin 256) (hq : q.val = o + r.val) :
    (Rect.unit (s := S256x1024) ![o, 0] S128x1024.size inb).emb (ix2 r j) = ix2 q j := by
  funext a
  refine Fin.ext ?_
  rw [Rect.emb_apply]
  match a with
  | ⟨0, _⟩ => show o + 1 * r.val = q.val; omega
  | ⟨1, _⟩ => show 0 + 1 * j.val = j.val; omega

/-- The output's block after a grid point. -/
theorem block_eq : out0_17 x0 x1 x2 x3 x4 x5 x6 x7 x8 x9 x10 x11 x12 x13 x14 x15 x16
    = layer (weights x5 x6 x7 x8 x9 x10 x11 x12 x13 x14 x15 x16) x0 x1 x2 x3 x4 := by
  funext y
  rw [out0_17]
  refine View.canon_apply_of_pieces (Val := Elt Ideal) (e := .f32) (layer (weights x5 x6 x7 x8 x9 x10 x11 x12 x13 x14 x15 x16) x0 x1 x2 x3 x4) _ ?_ y (cover0_17 _ _ y)
  have place : ∀ (o : ℕ) (inb : ∀ a, ![o, 0] a + S128x1024.size a ≤ S256x1024.size a) (f : Vec Ideal S128x1024 .f32)
      (at' : Fin 128 → Fin 256) (_ : ∀ r, (at' r).val = o + r.val)
      (_ : ∀ r j, f (ix2 r j) = rowAt x0 x1 x2 x3 x4 x5 x6 x7 x8 x9 x10 x11 x12 x13 x14 x15 x16 (at' r) j) (x : S128x1024.Idx),
      f x = layer (weights x5 x6 x7 x8 x9 x10 x11 x12 x13 x14 x15 x16) x0 x1 x2 x3 x4 ((Rect.unit (s := S256x1024) ![o, 0] S128x1024.size inb).emb x) := by
    intro o inb f at' hat hf x
    obtain ⟨r, j, rfl⟩ : ∃ (r : Fin 128) (j : Fin 1024), x = ix2 r j := ⟨x 0, x 1, by funext a; match a with | ⟨0, _⟩ => rfl | ⟨1, _⟩ => rfl⟩
    rw [hf, emb_row r j o inb (at' r) (hat r)]
    rfl
  intro p hp
  rcases List.mem_cons.mp hp with rfl | hp
  · exact place 128 inb_S256x1024_S128x1024_128_0 _ high (fun _ => rfl) (high_apply x0 x1 x2 x3 x4 x5 x6 x7 x8 x9 x10 x11 x12 x13 x14 x15 x16)
  · obtain rfl := List.mem_singleton.mp hp
    exact place 0 inb_S256x1024_S128x1024_0_0 _ low (fun _ => (Nat.zero_add _).symm) (low_apply x0 x1 x2 x3 x4 x5 x6 x7 x8 x9 x10 x11 x12 x13 x14 x15 x16)

end Cert.MergeBlock

end
-- ==== Proof.MergeArray.lean ====
/-
  The merge kernel's output array over the extended reals: the layer's output for the arrays it is launched with.
-/
module

public import proofs.«01_k».proof.Proof.MergeBlock
public import proofs.«01_k».proof.Proof.Gen.Kernel2Ideal.Value
public import Idealize.ShloMosaic.Lib.Pipeline.ValueKit

@[expose] public section

set_option maxRecDepth 16384
set_option maxHeartbeats 1000000

noncomputable section

open Idealize.ShloMosaic Idealize.ShloMosaic.TcCoe Idealize.SL.Sem
open Cert.Kernel2Ideal Cert.Kernel2Ideal.Gen Cert.FeedForward

namespace Cert.MergeArray

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index17 : ∀ t : Fin cfg0.N, win0_17.index t = ![t.val, 0] := (by decide +kernel : ∀ t : Fin grid0.N, win0_17.index t = ![t.val, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![0, 0] := (by decide +kernel : ∀ t : Fin grid0.N, win0_15.index t = ![0, 0])
theorem index16 : ∀ t : Fin cfg0.N, win0_16.index t = ![0, 0] := (by decide +kernel : ∀ t : Fin grid0.N, win0_16.index t = ![0, 0])

variable (m : (ℓ : Loc nD τ sig) → Buf (Elt Ideal) ℓ) (c : Dev nD) (t : Fin cfg0.N)

/-- The array that an argument of the program holds. -/
abbrev arg (b : Ref sig .tc) := m ((c : Thread nD τ).loc b)

theorem t_lt : t.val < 64 := t.isLt

/-- The token of row `r` of the point's block. -/
def token (r : Fin 256) : Fin 16384 := ⟨256 * t.val + r.val, by have := t_lt t; omega⟩

section Rows

variable (r : Fin 256)

theorem rows0 : at2 (iblk m c 0 t) r = at2 (arg m c main_arg0) (token t r) := by
  funext j; show iblk m c 0 t (ix2 r j) = m ((c : Thread nD τ).loc main_arg0) (ix2 (token t r) j); blk_ext [iblk, V, index0 t, token]
theorem rows1 : at2 (iblk m c 1 t) r = at2 (arg m c main_arg1) (token t r) := by
  funext j; show iblk m c 1 t (ix2 r j) = m ((c : Thread nD τ).loc main_arg1) (ix2 (token t r) j); blk_ext [iblk, V, index1 t, token]
theorem rows2 : at2 (iblk m c 2 t) r = at2 (arg m c main_arg2) (token t r) := by
  funext j; show iblk m c 2 t (ix2 r j) = m ((c : Thread nD τ).loc main_arg2) (ix2 (token t r) j); blk_ext [iblk, V, index2 t, token]
theorem rows3 : at2 (iblk m c 3 t) r = at2 (arg m c main_arg3) (token t r) := by
  funext j; show iblk m c 3 t (ix2 r j) = m ((c : Thread nD τ).loc main_arg3) (ix2 (token t r) j); blk_ext [iblk, V, index3 t, token]
theorem rows4 : at2 (iblk m c 4 t) r = at2 (arg m c main_arg4) (token t r) := by
  funext j; show iblk m c 4 t (ix2 r j) = m ((c : Thread nD τ).loc main_arg4) (ix2 (token t r) j); blk_ext [iblk, V, index4 t, token]

end Rows

section Whole

/-- Arrays of two axes that agree at every pair of coordinates. -/
theorem matrix_ext {n p : ℕ} {X Y : Matrix n p} (h : ∀ i j, X (ix2 i j) = Y (ix2 i j)) : X = Y := by
  funext i
  rw [show i = ix2 (i 0) (i 1) from by funext a; match a with | ⟨0, _⟩ => rfl | ⟨1, _⟩ => rfl]
  exact h _ _

theorem whole5 : iblk m c 5 t = arg m c main_arg5 := by
  refine matrix_ext (n := 1024) (p := 1024) fun i j => ?_; blk_ext [iblk, V, index5 t]
theorem whole6 : iblk m c 6 t = arg m c main_arg6 := by
  refine matrix_ext (n := 2048) (p := 1024) fun i j => ?_; blk_ext [iblk, V, index6 t]
theorem whole7 : iblk m c 7 t = arg m c main_arg7 := by
  refine matrix_ext (n := 1024) (p := 1024) fun i j => ?_; blk_ext [iblk, V, index7 t]
theorem whole8 : iblk m c 8 t = arg m c main_arg8 := by
  refine matrix_ext (n := 1024) (p := 1024) fun i j => ?_; blk_ext [iblk, V, index8 t]
theorem whole9 : iblk m c 9 t = arg m c main_arg9 := by
  refine matrix_ext (n := 1) (p := 1024) fun i j => ?_; blk_ext [iblk, V, index9 t]
theorem whole10 : iblk m c 10 t = arg m c main_arg10 := by
  refine matrix_ext (n := 1) (p := 1024) fun i j => ?_; blk_ext [iblk, V, index10 t]
theorem whole11 : iblk m c 11 t = arg m c main_arg11 := by
  refine matrix_ext (n := 1024) (p := 4096) fun i j => ?_; blk_ext [iblk, V, index11 t]
theorem whole12 : iblk m c 12 t = arg m c main_arg12 := by
  refine matrix_ext (n := 1) (p := 4096) fun i j => ?_; blk_ext [iblk, V, index12 t]
theorem whole13 : iblk m c 13 t = arg m c main_arg13 := by
  refine matrix_ext (n := 4096) (p := 1024) fun i j => ?_; blk_ext [iblk, V, index13 t]
theorem whole14 : iblk m c 14 t = arg m c main_arg14 := by
  refine matrix_ext (n := 1) (p := 1024) fun i j => ?_; blk_ext [iblk, V, index14 t]
theorem whole15 : iblk m c 15 t = arg m c main_arg15 := by
  refine matrix_ext (n := 1) (p := 1024) fun i j => ?_; blk_ext [iblk, V, index15 t]
theorem whole16 : iblk m c 16 t = arg m c main_arg16 := by
  refine matrix_ext (n := 1) (p := 1024) fun i j => ?_; blk_ext [iblk, V, index16 t]

end Whole

/-- The layer's output for the program's arguments. -/
def whole : Matrix 16384 1024 :=
  layer (weights (arg m c main_arg5) (arg m c main_arg6) (arg m c main_arg7) (arg m c main_arg8) (arg m c main_arg9)
      (arg m c main_arg10) (arg m c main_arg11) (arg m c main_arg12) (arg m c main_arg13) (arg m c main_arg14)
      (arg m c main_arg15) (arg m c main_arg16))
    (arg m c main_arg0) (arg m c main_arg1) (arg m c main_arg2) (arg m c main_arg3) (arg m c main_arg4)

/-- What a point leaves in the output's block. -/
theorem after_apply (r : Fin 256) (j : Fin 1024) : (dats m 0 c).after 17 t (ix2 r j) = whole m c (ix2 (token t r) j) := by
  rw [after0_17, MergeBlock.block_eq, whole5, whole6, whole7, whole8, whole9, whole10, whole11, whole12, whole13, whole14,
    whole15, whole16]
  show row _ (at2 (iblk m c 0 t) r) (at2 (iblk m c 1 t) r) (at2 (iblk m c 2 t) r) (at2 (iblk m c 3 t) r) (at2 (iblk m c 4 t) r) j = _
  rw [rows0, rows1, rows2, rows3, rows4]
  rfl

/-- The array after the run. -/
theorem arr_eq : (dats m 0 c).arrAt 17 cfg0.N = whole m c := by
  refine (dats m 0 c).arrAt_eq_of_covers 17 _ (by decide +kernel) fun t hf y => ?_
  blk_simp
  obtain ⟨r, j, rfl⟩ : ∃ (r : Fin 256) (j : Fin 1024), y = ix2 r j := ⟨y 0, y 1, by funext a; match a with | ⟨0, _⟩ => rfl | ⟨1, _⟩ => rfl⟩
  have h0 : (((win0_17.blk t).view.emb (ix2 r j)) 0 : ℕ) = 256 * t.val + r.val := by blk_simp [index17 t]; omega
  have h1 : (((win0_17.blk t).view.emb (ix2 r j)) 1 : ℕ) = j.val := by blk_simp [index17 t]
  refine (after_apply m c t r j).trans (congrArg (whole m c) ?_)
  funext a
  match a with
  | ⟨0, _⟩ => exact Fin.ext h0.symm
  | ⟨1, _⟩ => exact Fin.ext h1.symm

end Cert.MergeArray

end
-- ==== Proof.MergeReference.lean ====
/-
  The reference of the merge and the feed-forward part over the extended reals, read at an index: the layer's output.
-/
module

public import proofs.«01_k».proof.Proof.FeedForward
public import proofs.«01_k».proof.Proof.Gen.Reference2Ideal.Run

@[expose] public section

set_option maxRecDepth 16384
set_option maxHeartbeats 1000000

noncomputable section

open Idealize.ShloMosaic Idealize.ShloMosaic.TcCoe Idealize.SL.Sem
open Cert.Reference2Ideal Cert.Reference2Ideal.Gen Cert.FeedForward

namespace Cert.MergeReference

variable (r : Fin 16384) (j : Fin 1024)

/-- A row's mean, as the reference computes it. -/
def means (s : FVec Ideal S16384x1024 .f32) : FVec Ideal S16384x1 .f32 :=
  Host.divf (broadcastInDim S16384x1 ![0] bcast_S16384_S16384x1_0
      (Host.reduceAdd s (constant S_ .f32 0x00000000#32) reducesTo_S16384x1024_S16384_d1 h_S_))
    (broadcastInDim S16384x1 ![] bcast_S_S16384x1 (constant S_ .f32 0x44800000#32))

/-- The rows less their means. -/
def less (s : FVec Ideal S16384x1024 .f32) : FVec Ideal S16384x1024 .f32 :=
  subf s (broadcastInDim S16384x1024 ![0, 1] bcast_S16384x1_S16384x1024_0_1 (means s))

/-- The layer norm of the rows. -/
def norms (s : FVec Ideal S16384x1024 .f32) (g b : FVec Ideal S1x1024 .f32) : FVec Ideal S16384x1024 .f32 :=
  addf (mulf (mulf (less s) (broadcastInDim S16384x1024 ![0, 1] bcast_S16384x1_S16384x1024_0_1
      (Host.rsqrt (addf (means (mulf (less s) (less s))) (broadcastInDim S16384x1 ![] bcast_S_S16384x1 (constant S_ .f32 0x3727C5AC#32))))))
    (broadcastInDim S16384x1024 ![0, 1] bcast_S1x1024_S16384x1024_0_1 g)) (broadcastInDim S16384x1024 ![0, 1] bcast_S1x1024_S16384x1024_0_1 b)

/-- The residual stream plus the merged branches. -/
def merges (x : FVec Ideal S16384x1024 .f32) (a : FVec Ideal S16384x1024 .bf16) (b : FVec Ideal S16384x2048 .bf16)
    (c : FVec Ideal S16384x1024 .bf16) (g : FVec Ideal S16384x3072 .bf16) (wa : FVec Ideal S1024x1024 .bf16)
    (wb : FVec Ideal S2048x1024 .bf16) (wc wo : FVec Ideal S1024x1024 .bf16) : FVec Ideal S16384x1024 .f32 :=
  addf (mulf (broadcastInDim S16384x1024 ![] bcast_S_S16384x1024 (constant S_ .f32 0x3F9837F0#32)) x)
    (Host.dotGeneral dot_S16384x1024_S1024x1024_S16384x1024_1_0_0_1_n_n none (truncf .bf16 (addf (addf
        (mulf (extractStridedSlice S16384x1024 ![0, 0] (extf .f32 g bitsLt_bf16_f32) slices_S16384x3072_S16384x1024_0_0)
          (Host.dotGeneral dot_S16384x1024_S1024x1024_S16384x1024_1_0_0_1_n_n none a wa))
        (mulf (extractStridedSlice S16384x1024 ![0, 1024] (extf .f32 g bitsLt_bf16_f32) slices_S16384x3072_S16384x1024_0_1024)
          (Host.dotGeneral dot_S16384x2048_S2048x1024_S16384x1024_1_0_0_1_n_n none b wb)))
        (mulf (extractStridedSlice S16384x1024 ![0, 2048] (extf .f32 g bitsLt_bf16_f32) slices_S16384x3072_S16384x1024_0_2048)
          (Host.dotGeneral dot_S16384x1024_S1024x1024_S16384x1024_1_0_0_1_n_n none c wc))) bitsLt_bf16_f32) wo)

/-- The positive part of the feed-forward's first product. -/
def positives (y : FVec Ideal S16384x1024 .f32) (u : FVec Ideal S1024x4096 .bf16) (b : FVec Ideal S1x4096 .f32) : FVec Ideal S16384x4096 .f32 :=
  maximumf (addf (Host.dotGeneral dot_S16384x1024_S1024x4096_S16384x4096_1_0_0_1_n_n none (truncf .bf16 y bitsLt_bf16_f32) u)
    (broadcastInDim S16384x4096 ![0, 1] bcast_S1x4096_S16384x4096_0_1 b)) (broadcastInDim S16384x4096 ![] bcast_S_S16384x4096 (constant S_ .f32 0x00000000#32))

/-- The residual stream plus the feed-forward part. -/
def feeds (y : FVec Ideal S16384x1024 .f32) (p : FVec Ideal S16384x4096 .f32) (d : FVec Ideal S4096x1024 .bf16) (e : FVec Ideal S1x1024 .f32) : FVec Ideal S16384x1024 .f32 :=
  addf (addf (mulf (broadcastInDim S16384x1024 ![] bcast_S_S16384x1024 (constant S_ .f32 0x3F9837F0#32)) y)
      (Host.dotGeneral dot_S16384x4096_S4096x1024_S16384x1024_1_0_0_1_n_n none (truncf .bf16 (mulf p p) bitsLt_bf16_f32) d))
    (broadcastInDim S16384x1024 ![0, 1] bcast_S1x1024_S16384x1024_0_1 e)

theorem means_apply (s : FVec Ideal S16384x1024 .f32) (i : Fin 1) : means s (ix2 r i) = mean (at2 s r) := by
  pointwise [means, mean, width]

theorem less_apply (s : FVec Ideal S16384x1024 .f32) : less s (ix2 r j) = centered (at2 s r) j := by
  pointwise [less, centered]
  rw [means_apply]

theorem norms_apply (s : FVec Ideal S16384x1024 .f32) (g b : FVec Ideal S1x1024 .f32) :
    norms s g b (ix2 r j) = normed (at2 s r) (at2 g 0) (at2 b 0) j := by
  pointwise [norms, normed, scaled, least]
  rw [means_apply, less_apply, show at2 (mulf (less s) (less s)) r = fun k => centered (at2 s r) k * centered (at2 s r) k from
    funext fun k => congrArg₂ (· * ·) (less_apply r k s) (less_apply r k s)]

theorem merges_apply (x : FVec Ideal S16384x1024 .f32) (a : FVec Ideal S16384x1024 .bf16) (b : FVec Ideal S16384x2048 .bf16)
    (c : FVec Ideal S16384x1024 .bf16) (g : FVec Ideal S16384x3072 .bf16) (wa : FVec Ideal S1024x1024 .bf16)
    (wb : FVec Ideal S2048x1024 .bf16) (wc wo : FVec Ideal S1024x1024 .bf16) :
    merges x a b c g wa wb wc wo (ix2 r j) = stream (at2 x r) (product (merged (at2 g r) (product (at2 a r) (at2 wa))
        (product (at2 b r) (at2 wb)) (product (at2 c r) (at2 wc))) (at2 wo)) j := by
  pointwise [merges, stream, merged, product, alpha]

theorem positives_apply (y : FVec Ideal S16384x1024 .f32) (u : FVec Ideal S1024x4096 .bf16) (b : FVec Ideal S1x4096 .f32) (k : Fin 4096) :
    positives y u b (ix2 r k) = max (product (at2 y r) (at2 u) k + b (ix2 0 k)) 0 := by
  pointwise [positives, product]

theorem feeds_apply (y : FVec Ideal S16384x1024 .f32) (p : FVec Ideal S16384x4096 .f32) (d : FVec Ideal S4096x1024 .bf16) (e : FVec Ideal S1x1024 .f32) :
    feeds y p d e (ix2 r j) = stream (at2 y r) (product (fun k => p (ix2 r k) * p (ix2 r k)) (at2 d)) j + e (ix2 0 j) := by
  pointwise [feeds, stream, product, alpha]

theorem squares_apply (y : FVec Ideal S16384x1024 .f32) (u : FVec Ideal S1024x4096 .bf16) (b : FVec Ideal S1x4096 .f32) (k : Fin 4096) :
    positives y u b (ix2 r k) * positives y u b (ix2 r k) = activated (product (at2 y r) (at2 u)) (at2 b 0) k := by
  rw [positives_apply]
  rfl

variable (m : (ℓ : Loc nD τ sig) → Buf (Elt Ideal) ℓ) (c : Dev nD)

/-- The array that an argument of the program holds. -/
abbrev arg (b : Ref sig .tc) := m ((c.tc : Thread nD τ).loc b)

/-- The rows after the merge and its norm. -/
def afters : FVec Ideal S16384x1024 .f32 :=
  norms (merges (arg m c main_arg0) (arg m c main_arg1) (arg m c main_arg2) (arg m c main_arg3) (arg m c main_arg4)
    (arg m c main_arg5) (arg m c main_arg6) (arg m c main_arg7) (arg m c main_arg8)) (arg m c main_arg9) (arg m c main_arg10)

/-- The program's result. -/
def results : FVec Ideal S16384x1024 .f32 :=
  norms (feeds (afters m c) (positives (afters m c) (arg m c main_arg11) (arg m c main_arg12)) (arg m c main_arg13) (arg m c main_arg14))
    (arg m c main_arg15) (arg m c main_arg16)

theorem results_eq : results m c
    = layer (weights (arg m c main_arg5) (arg m c main_arg6) (arg m c main_arg7) (arg m c main_arg8) (arg m c main_arg9)
        (arg m c main_arg10) (arg m c main_arg11) (arg m c main_arg12) (arg m c main_arg13) (arg m c main_arg14)
        (arg m c main_arg15) (arg m c main_arg16))
      (arg m c main_arg0) (arg m c main_arg1) (arg m c main_arg2) (arg m c main_arg3) (arg m c main_arg4) := by
  funext i
  obtain ⟨r, j, rfl⟩ : ∃ (r : Fin 16384) (j : Fin 1024), i = ix2 r j :=
    ⟨i 0, i 1, by funext a; match a with | ⟨0, _⟩ => rfl | ⟨1, _⟩ => rfl⟩
  rw [results, norms_apply]
  delta at2
  simp only [feeds_apply, squares_apply]
  delta at2
  simp only [afters, norms_apply]
  delta at2
  simp only [merges_apply]
  rfl

end Cert.MergeReference

end
-- ==== Proof.Projection.lean ====
/-
  The input projection of a token, and what each part of the layer takes from it, over the extended reals.
-/
module

public import proofs.«01_k».proof.Proof.FeedForward

@[expose] public section

noncomputable section

open Idealize.ShloMosaic
open Cert.FeedForward (product Matrix at2)

namespace Cert.Projection

/-- An array of three axes. -/
abbrev Cube (n p q : ℕ) : Type := (⟨3, ![n, p, q]⟩ : Shape).Idx → EReal

/-- What keeps a norm's mean square off zero. -/
def least : EReal := Ideal.ofBits .f32 0x358637BD#32

/-- What the scores are scaled by: it is taken into the queries. -/
def scale : EReal := Ideal.ofBits .f32 0x3D93CD3A#32

/-- What the scores of the memory are scaled by. -/
def memScale : EReal := Ideal.ofBits .f32 0x3D800000#32

/-- A row over the root of its mean square, with a gain. The row's length is given as an extended real. -/
def rms {n : ℕ} (len : EReal) (v g : Fin n → EReal) (j : Fin n) : EReal :=
  v j * Ideal.rsqrt (Ideal.div (∑ k, v k * v k) len + least) * g j

/-- The `n` columns of a matrix from column `o` on. -/
def cols {m p : ℕ} (W : Matrix m p) (o n : ℕ) (h : o + n ≤ p) : Fin m → Fin n → EReal := fun k j => W (ix2 k ⟨o + j.val, by omega⟩)

/-- A row of 64 entries turned by 32 angles: entry `j` and entry `32 + j` are one point of the plane. -/
def turned (v : Fin 64 → EReal) (cos sin : Fin 32 → EReal) (j : Fin 64) : EReal :=
  if h : j.val < 32 then v ⟨j.val, by omega⟩ * cos ⟨j.val, h⟩ - v ⟨32 + j.val, by omega⟩ * sin ⟨j.val, h⟩
  else v ⟨j.val - 32, by omega⟩ * sin ⟨j.val - 32, by omega⟩ + v ⟨32 + (j.val - 32), by omega⟩ * cos ⟨j.val - 32, by omega⟩

/-- The softmax of the scores `s` weighing the values `v`: both sums first, one quotient. -/
def attended {n : ℕ} (s v : Fin n → EReal) : EReal :=
  Ideal.div (∑ k, Ideal.exp (s k - Finset.univ.sup s) * v k) (∑ k, Ideal.exp (s k - Finset.univ.sup s))

/-- The same with every weight divided first. -/
def weighed {n : ℕ} (s v : Fin n → EReal) : EReal :=
  ∑ k, v k * Ideal.div (Ideal.exp (s k - Finset.univ.sup s)) (∑ k, Ideal.exp (s k - Finset.univ.sup s))

/-- The lengths of the two rows that are normed. -/
def len384 : EReal := Ideal.ofBits .f32 0x43C00000#32
def len256 : EReal := Ideal.ofBits .f32 0x43800000#32

/-- An array of one axis. -/
abbrev Row (n : ℕ) : Type := (⟨1, ![n]⟩ : Shape).Idx → EReal

/-- What the projection takes: the tokens, the projection's weights, the gains of the two norms, the three weights of
    the heads, the gates' bias, and the memory. -/
structure Args where
  x : Matrix 16384 1024
  W : Matrix 1024 9952
  gq : Row 384
  uq : Cube 384 8 192
  gkv : Row 256
  uk : Cube 256 8 128
  uv : Cube 256 8 128
  b : Row 3072
  memK : Matrix 2048 1024
  memV : Matrix 2048 1024

/-- The angle of a position, of a frequency's number. -/
def angle (p i : ℕ) : EReal :=
  FloatOps.sitofp (F := Ideal) .f32 (BitVec.ofNat 32 p) * Ideal.pow (Ideal.ofBits .f32 0x461C4000#32)
    (Ideal.div (-FloatOps.sitofp (F := Ideal) .f32 (BitVec.ofNat 32 i)) (Ideal.ofBits .f32 0x42000000#32))

namespace Args

variable (a : Args) (r : Fin 16384)

/-- Entries `o` to `o + n` of a token's projection. -/
def part (o n : ℕ) (h : o + n ≤ 9952) (j : Fin n) : EReal := ∑ k : Fin 1024, a.x (ix2 r k) * a.W (ix2 k ⟨o + j.val, by omega⟩)

/-- A row turned by the token's position in its sequence. -/
def turn (v : Fin 64 → EReal) : Fin 64 → EReal :=
  turned v (fun i => Ideal.cos (angle (r.val % 2048) i.val)) fun i => Ideal.sin (angle (r.val % 2048) i.val)

def latentQ : Fin 384 → EReal := rms len384 (a.part r 0 384 (by decide)) fun j => a.gq (ix1 j)
def latent : Fin 256 → EReal := rms len256 (a.part r 384 256 (by decide)) fun j => a.gkv (ix1 j)
def rotary : Fin 64 → EReal := turn r (a.part r 640 64 (by decide))
/-- The latent and the rotary key side by side. -/
def both (j : Fin 320) : EReal := if h : j.val < 256 then a.latent r ⟨j.val, h⟩ else a.rotary r ⟨j.val - 256, by omega⟩
/-- The recurrence's steps, in the first 32 of 128 entries. -/
def step (j : Fin 128) : EReal := if h : j.val < 32 then a.part r 5824 32 (by decide) ⟨j.val, h⟩ else 0
def gate (j : Fin 3072) : EReal := Ideal.logistic (a.part r 6880 3072 (by decide) j + a.b (ix1 j))

/-- A head's query: the entries without a position, the turned ones, and zeros. -/
def query (h : Fin 8) (j : Fin 256) : EReal :=
  if hj : j.val < 192 then (if h' : j.val < 128 then ∑ k : Fin 384, a.latentQ r k * a.uq (ix3 k h ⟨j.val, by omega⟩)
    else turn r (fun e => ∑ k : Fin 384, a.latentQ r k * a.uq (ix3 k h ⟨128 + e.val, by omega⟩)) ⟨j.val - 128, by omega⟩) * scale
  else 0
/-- A head's key, likewise. -/
def key (h : Fin 8) (j : Fin 256) : EReal :=
  if h' : j.val < 128 then ∑ k : Fin 256, a.uk (ix3 k h ⟨j.val, h'⟩) * a.latent r k
  else if h'' : j.val - 128 < 64 then a.rotary r ⟨j.val - 128, h''⟩ else 0
def value (h : Fin 8) (d : Fin 128) : EReal := ∑ k : Fin 256, a.latent r k * a.uv (ix3 k h d)

/-- The scores of a head of the memory. -/
def memScores (h : Fin 4) (k : Fin 256) : EReal :=
  (∑ e : Fin 256, a.part r 5856 1024 (by decide) ⟨h.val * 256 + e.val, by omega⟩
    * a.memK (ix2 ⟨r.val / 2048 * 256 + k.val, by omega⟩ ⟨h.val * 256 + e.val, by omega⟩)) * memScale
def weighedMemory (j : Fin 1024) : EReal :=
  weighed (a.memScores r ⟨j.val / 256, by omega⟩) fun k => a.memV (ix2 ⟨r.val / 2048 * 256 + k.val, by omega⟩ j)
/-- The attention to the memory. -/
def memory (j : Fin 1024) : EReal :=
  attended (a.memScores r ⟨j.val / 256, by omega⟩) fun k => a.memV (ix2 ⟨r.val / 2048 * 256 + k.val, by omega⟩ j)

section Arrays

/-- The results, an array each. -/
def latentQs : Matrix 16384 384 := fun i => a.latentQ (i 0) (i 1)
def latents : Matrix 16384 256 := fun i => a.latent (i 0) (i 1)
def rotaries : Matrix 16384 64 := fun i => a.rotary (i 0) (i 1)
def boths : Matrix 16384 320 := fun i => a.both (i 0) (i 1)
def steps : Matrix 16384 128 := fun i => a.step (i 0) (i 1)
def stepsAcross : Matrix 32 16384 := fun i => a.part (i 1) 5824 32 (by decide) (i 0)
def zs : Matrix 16384 2048 := fun i => a.part (i 0) 704 2048 (by decide) (i 1)
def xs : Matrix 16384 3072 := fun i => a.part (i 0) 2752 3072 (by decide) (i 1)
def memories : Matrix 16384 1024 := fun i => a.memory (i 0) (i 1)
def weighedMemories : Matrix 16384 1024 := fun i => a.weighedMemory (i 0) (i 1)
def gates : Matrix 16384 3072 := fun i => a.gate (i 0) (i 1)
def keys : Cube 8 16384 256 := fun i => a.key (i 1) (i 0) (i 2)
def valueAt (h : Fin 8) (n : Fin 64) (d : Fin 128) (e : Fin 256) : EReal := a.value ⟨n.val * 256 + e.val, by omega⟩ h d
def values : (⟨4, ![8, 64, 128, 256]⟩ : Shape).Idx → EReal := fun i => a.valueAt (i 0) (i 1) (i 2) (i 3)
def queries : Cube 8 256 16384 := fun i => a.query (i 2) (i 0) (i 1)

end Arrays

end Args

end Cert.Projection

end
-- ==== Proof.ProjectionRows.lean ====
/-
  What the projection's kernel computes of a block's rows, store by store, over the extended reals.
-/
module

public import proofs.«01_k».proof.Proof.Projection
public import proofs.«01_k».proof.Proof.Gen.Kernel3Ideal.Skeleton
public import proofs.«01_k».proof.Proof.Reference
public import Idealize.ShloMosaic.Lib.Pointwise

@[expose] public section

set_option maxRecDepth 16384
set_option maxHeartbeats 1000000

noncomputable section

open Idealize.ShloMosaic Idealize.SL.Sem
open Cert.Kernel3Ideal Cert.Kernel3Ideal.Gen Cert.FeedForward Cert.Projection

namespace Cert.ProjectionRows

variable (r : Fin 256)

/-- The latent of the queries, normed. -/
theorem latentQ_apply (x : Vec Ideal S256x1024 .f32) (w : Vec Ideal S1024x384 .bf16) (g : Vec Ideal S1x384 .f32) (j : Fin 384) :
    k0_pay3 x w g (ix2 r j) = rms len384 (product (at2 x r) (at2 w)) (at2 g 0) j := by
  pointwise [k0_pay3, k0_pay2, rms, product, len384, Projection.least]

theorem small_apply (x : Vec Ideal S256x1024 .f32) (w : Vec Ideal S1024x512 .bf16) (j : Fin 512) :
    k0_pay4 x w (ix2 r j) = product (at2 x r) (at2 w) j := by
  pointwise [k0_pay4, k0_pay2, product]

/-- The latent of the keys and values, normed. -/
theorem latent_apply (x : Vec Ideal S256x1024 .f32) (w : Vec Ideal S1024x512 .bf16) (g : Vec Ideal S1x256 .f32) (j : Fin 256) :
    k0_pay7 (k0_pay5 x w) (k0_pay6 g) (ix2 r j)
      = rms len256 (fun k : Fin 256 => product (at2 x r) (at2 w) ⟨k.val, by omega⟩) (at2 g 0) j := by
  pointwise [k0_pay7, k0_pay5, k0_pay6, k0_pay4, k0_pay2, rms, product, len256, Projection.least]

theorem latent_cast (v w : FVec Ideal S256x256 .f32) (j : Fin 256) :
    k0_pay8 v w (ix2 r j) = k0_pay7 v w (ix2 r j) := by pointwise [k0_pay8]

/-- The rotary key, in the lanes that the kernel turns at once. -/
theorem turn_apply (s : FVec Ideal S256x512 .f32) (cs : Vec Ideal S256x256 .f32) (j : Fin 128) :
    k0_pay10 s cs (ix2 r j) = s (ix2 r ⟨256 + j.val, by omega⟩) * cs (ix2 r ⟨j.val, by omega⟩)
      + s (ix2 r ⟨256 + (j.val + 128 - 32) % 128, by omega⟩) * cs (ix2 r ⟨128 + j.val, by omega⟩) := by
  pointwise [k0_pay10, k0_pay9]

theorem lanes_apply (cs : Vec Ideal S256x256 .f32) (j : Fin 256) : k0_pay9 cs (ix2 r j) = cs (ix2 r j) := by
  pointwise [k0_pay9]

/-- What is stored of it. -/
theorem turned_apply (s : FVec Ideal S256x512 .f32) (cs : Vec Ideal S256x256 .f32) (j : Fin 64) :
    k0_pay11 s cs (ix2 r j) = k0_pay10 s cs (ix2 r ⟨j.val, by omega⟩) := by
  pointwise [k0_pay11]
theorem turned_cast (s : FVec Ideal S256x512 .f32) (cs : Vec Ideal S256x256 .f32) (j : Fin 64) :
    k0_pay12 s cs (ix2 r j) = k0_pay10 s cs (ix2 r ⟨j.val, by omega⟩) := by
  pointwise [k0_pay12, k0_pay11]

/-- The queries' entries without a position. -/
theorem plain_apply (q : FVec Ideal S256x384 .bf16) (w : Vec Ideal S384x128 .bf16) (d : Fin 128) :
    k0_pay21 (k0_pay13 q w) (ix3 0 d r) = product (at2 q r) (at2 w) d * scale := by
  pointwise [k0_pay21, k0_pay13, product, scale]

theorem room_apply (d : Fin 64) : k0_pay22 (F := Ideal) (ix3 0 d r) = 0 := by
  pointwise [k0_pay22]

/-- The queries' entries that turn with the position, of the first and of the second head of a pair. -/
theorem turnQ0_apply (q : FVec Ideal S256x384 .bf16) (cs : FVec Ideal S256x256 .f32) (w : Vec Ideal S384x256 .bf16) (e : Fin 64) :
    k0_pay40 q cs w (ix3 0 e r) = (product (at2 q r) (at2 w) ⟨e.val, by omega⟩ * cs (ix2 r ⟨e.val, by omega⟩)
      + product (at2 q r) (at2 w) ⟨128 + e.val, by omega⟩ * cs (ix2 r ⟨128 + e.val, by omega⟩)) * scale := by
  pointwise [k0_pay40, k0_pay39, product, scale]
theorem turnQ1_apply (q : FVec Ideal S256x384 .bf16) (cs : FVec Ideal S256x256 .f32) (w : Vec Ideal S384x256 .bf16) (e : Fin 64) :
    k0_pay41 q cs w (ix3 0 e r) = (product (at2 q r) (at2 w) ⟨64 + e.val, by omega⟩ * cs (ix2 r ⟨64 + e.val, by omega⟩)
      + product (at2 q r) (at2 w) ⟨128 + (64 + e.val), by omega⟩ * cs (ix2 r ⟨128 + (64 + e.val), by omega⟩)) * scale := by
  pointwise [k0_pay41, k0_pay39, product, scale]

/-- The rotary key beside zeros. -/
theorem pad_apply (t : FVec Ideal S256x128 .f32) (j : Fin 128) :
    k0_pay58 t (ix3 0 r j) = if j.val < 64 then t (ix2 r j) else 0 := by
  pointwise [k0_pay58, k0_pay54]
  have lane : ∀ j : Fin 128, IntOp.cmpi .slt (BitVec.ofNat 32 j.val) 64#32 = if j.val < 64 then 1#1 else 0#1 := by decide
  rw [lane]; split <;> rfl

/-- The keys' entries without a position, of the first and of the second head of a pair. -/
theorem key0_apply (l : FVec Ideal S256x256 .bf16) (w : Vec Ideal S1x256x256 .bf16) (d : Fin 128) :
    k0_pay57 l w (ix3 0 r d) = ∑ c : Fin 256, l (ix2 r c) * w (ix3 0 c ⟨d.val, by omega⟩) := by
  pointwise [k0_pay57, k0_pay56]
theorem key1_apply (l : FVec Ideal S256x256 .bf16) (w : Vec Ideal S1x256x256 .bf16) (d : Fin 128) :
    k0_pay60 (k0_pay59 l w) (ix3 0 r d) = ∑ c : Fin 256, l (ix2 r c) * w (ix3 0 c ⟨128 + d.val, by omega⟩) := by
  pointwise [k0_pay60, k0_pay59, k0_pay56]

/-- The values, of the first and of the second head of a pair. -/
theorem value0_apply (l : FVec Ideal S256x256 .f32) (w : Vec Ideal S1x256x256 .bf16) (d : Fin 128) :
    k0_pay63 (k0_pay55 l) w (ix4 0 0 d r) = ∑ c : Fin 256, w (ix3 0 ⟨d.val, by omega⟩ c) * l (ix2 r c) := by
  pointwise [k0_pay63, k0_pay62, k0_pay55]
theorem value1_apply (l : FVec Ideal S256x256 .f32) (w : Vec Ideal S1x256x256 .bf16) (d : Fin 128) :
    k0_pay64 (k0_pay55 l) w (ix4 0 0 d r) = ∑ c : Fin 256, w (ix3 0 ⟨128 + d.val, by omega⟩ c) * l (ix2 r c) := by
  pointwise [k0_pay64, k0_pay62, k0_pay55]

theorem step_apply (s : FVec Ideal S256x512 .f32) (j : Fin 128) : k0_pay90 s (ix2 r j) = s (ix2 r ⟨384 + j.val, by omega⟩) := by
  pointwise [k0_pay90]
theorem stepT_apply (s : FVec Ideal S256x512 .f32) (h : Fin 32) : k0_pay91 s (ix2 h r) = s (ix2 r ⟨384 + h.val, by omega⟩) := by
  pointwise [k0_pay91, k0_pay90]

theorem part_apply (x : Vec Ideal S256x1024 .f32) (w : Vec Ideal S1024x1024 .bf16) (j : Fin 1024) :
    k0_pay92 (k0_pay2 x) w (ix2 r j) = product (at2 x r) (at2 w) j := by
  pointwise [k0_pay92, k0_pay2, product]

theorem gate_apply (x : Vec Ideal S256x1024 .f32) (w : Vec Ideal S1024x1024 .bf16) (b : Vec Ideal S1x1024 .f32) (j : Fin 1024) :
    k0_pay107 (k0_pay2 x) w b (ix2 r j) = Ideal.logistic (product (at2 x r) (at2 w) j + b (ix2 0 j)) := by
  pointwise [k0_pay107, k0_pay2, product]

/-- The scores of the memory, of the second head; of the third and the fourth the same from other columns. -/
theorem score1_apply (x : Vec Ideal S256x1024 .f32) (w : Vec Ideal S1024x1024 .bf16) (K : Vec Ideal S256x256 .f32) (k : Fin 256) :
    k0_pay98 (k0_pay2 x) w K (ix2 r k) = ∑ e : Fin 256, product (at2 x r) (at2 w) ⟨256 + e.val, by omega⟩ * K (ix2 k e) := by
  pointwise [k0_pay98, k0_pay97, k0_pay2, product]
theorem score2_apply (x : Vec Ideal S256x1024 .f32) (w : Vec Ideal S1024x1024 .bf16) (K : Vec Ideal S256x256 .f32) (k : Fin 256) :
    k0_pay99 (k0_pay2 x) w K (ix2 r k) = ∑ e : Fin 256, product (at2 x r) (at2 w) ⟨512 + e.val, by omega⟩ * K (ix2 k e) := by
  pointwise [k0_pay99, k0_pay97, k0_pay2, product]
theorem score3_apply (x : Vec Ideal S256x1024 .f32) (w : Vec Ideal S1024x1024 .bf16) (K : Vec Ideal S256x256 .f32) (k : Fin 256) :
    k0_pay100 (k0_pay2 x) w K (ix2 r k) = ∑ e : Fin 256, product (at2 x r) (at2 w) ⟨768 + e.val, by omega⟩ * K (ix2 k e) := by
  pointwise [k0_pay100, k0_pay97, k0_pay2, product]

/-- The attention to the memory, of the first head. -/
theorem mem0_apply (x : Vec Ideal S256x1024 .f32) (w : Vec Ideal S1024x1024 .bf16) (K V : Vec Ideal S256x256 .f32) (e : Fin 256) :
    k0_pay101 (k0_pay2 x) w K V (ix2 r e)
      = attended (fun k => (∑ e : Fin 256, product (at2 x r) (at2 w) ⟨e.val, by omega⟩ * K (ix2 k e)) * memScale) (fun k => V (ix2 k e)) := by
  pointwise [k0_pay101, k0_pay97, k0_pay2, attended, memScale, product]
  simp only [Reference.minusInfinity, Reference.fold_max]

/-- The attention to the memory, of a further head. -/
theorem mem_apply (s V : FVec Ideal S256x256 .f32) (e : Fin 256) :
    k0_pay104 s V (ix2 r e) = attended (fun k => s (ix2 r k) * memScale) (fun k => V (ix2 k e)) := by
  pointwise [k0_pay104, attended, memScale]
  simp only [Reference.minusInfinity, Reference.fold_max]

end Cert.ProjectionRows

end
-- ==== Proof.ProjectionWeights.lean ====
/-
  The arrays that the projection's launch prepares before its region, read at an index.
-/
module

public import proofs.«01_k».proof.Proof.ProjectionRows
public import proofs.«01_k».proof.Proof.Gen.Kernel3Ideal.Frame.Runs
public import Idealize.ShloMosaic.Lib.StableHlo.ReadAt

@[expose] public section

set_option maxRecDepth 16384
set_option maxHeartbeats 1000000

noncomputable section

open Idealize.ShloMosaic Idealize.ShloMosaic.TcCoe Idealize.SL.Sem
open Cert.Kernel3Ideal Cert.Kernel3Ideal.Gen Cert.FeedForward Cert.Projection

namespace Cert.ProjectionWeights

variable (m : (ℓ : Loc nD τ sig) → Buf (Elt Ideal) ℓ) (c : Dev nD)

/-- The array that an argument of the program holds. -/
abbrev arg (b : Ref sig .tc) := m ((c : Thread nD τ).loc b)

theorem place2 {n p : ℕ} (X : Matrix n p) (k : Fin n) {a b : Fin p} (h : a.val = b.val) : X (ix2 k a) = X (ix2 k b) :=
  congrArg (fun e => X (ix2 k e)) (Fin.ext h)
theorem place3 {n p q : ℕ} (X : Cube n p q) (k : Fin n) {a b : Fin p} {d e : Fin q} (h : a.val = b.val) (g : d.val = e.val) :
    X (ix3 k a d) = X (ix3 k b e) := congrArg₂ (fun x y => X (ix3 k x y)) (Fin.ext h) (Fin.ext g)

/-- The first columns, those of the queries' latent. -/
theorem queryDown (k : Fin 1024) (j : Fin 384) : V m c main_v10 (ix2 k j) = arg m c main_arg1 (ix2 k ⟨0 + j.val, by omega⟩) := by
  unfold V; after_reads_at
theorem zDown (k : Fin 1024) (j : Fin 2048) : V m c main_v12 (ix2 k j) = arg m c main_arg1 (ix2 k ⟨704 + j.val, by omega⟩) := by
  unfold V; after_reads_at
theorem xDown (k : Fin 1024) (j : Fin 3072) : V m c main_v13 (ix2 k j) = arg m c main_arg1 (ix2 k ⟨2752 + j.val, by omega⟩) := by
  unfold V; after_reads_at
theorem memDown (k : Fin 1024) (j : Fin 1024) : V m c main_v14 (ix2 k j) = arg m c main_arg1 (ix2 k ⟨5856 + j.val, by omega⟩) := by
  unfold V; after_reads_at
theorem gateDown (k : Fin 1024) (j : Fin 3072) : V m c main_v15 (ix2 k j) = arg m c main_arg1 (ix2 k ⟨6880 + j.val, by omega⟩) := by
  unfold V; after_reads_at
theorem gq (j : Fin 384) : V m c main_v33 (ix2 0 j) = arg m c main_arg2 (ix1 j) := by
  unfold V; after_reads_at
theorem gkv (j : Fin 256) : V m c main_v34 (ix2 0 j) = arg m c main_arg4 (ix1 j) := by
  unfold V; after_reads_at
theorem bias (j : Fin 3072) : V m c main_v35 (ix2 0 j) = arg m c main_arg7 (ix1 j) := by
  unfold V; after_reads_at

/-- The columns that are taken together: the latent's, -/
theorem small_latent (k : Fin 1024) (q : Fin 256) :
    (V m c main_v11 (ix2 k ⟨q.val, by omega⟩) : EReal) = arg m c main_arg1 (ix2 k ⟨384 + q.val, by omega⟩) := by
  unfold V; after_reads_at; after_reads_at
  repeat' split
  all_goals first
    | rfl
    | omega
    | exact place2 (arg m c main_arg1) k (by dsimp only; omega)
/-- the rotary key's, twice, -/
theorem small_rotary (k : Fin 1024) (q : Fin 128) :
    (V m c main_v11 (ix2 k ⟨256 + q.val, by omega⟩) : EReal) = arg m c main_arg1 (ix2 k ⟨640 + q.val % 64, by omega⟩) := by
  unfold V; after_reads_at; after_reads_at
  repeat' split
  all_goals first
    | rfl
    | omega
    | exact place2 (arg m c main_arg1) k (by dsimp only; omega)
/-- and the steps', beside zeros. -/
theorem small_step (k : Fin 1024) (q : Fin 128) :
    (V m c main_v11 (ix2 k ⟨384 + q.val, by omega⟩) : EReal)
      = if h : q.val < 32 then (arg m c main_arg1 (ix2 k ⟨5824 + q.val, by omega⟩) : EReal) else (0 : EReal) := by
  unfold V; after_reads_at; after_reads_at
  repeat' split
  all_goals first
    | rfl
    | omega
    | exact place2 (arg m c main_arg1) k (by dsimp only; omega)

/-- The queries' weights: the plain entries of a head, -/
theorem wq_plain (k : Fin 384) (h : Fin 8) (d : Fin 128) :
    (V m c main_v27 (ix2 k ⟨128 * h.val + d.val, by omega⟩) : EReal) = arg m c main_arg3 (ix3 k h ⟨d.val, by omega⟩) := by
  unfold V; after_reads_at; after_reads_at; after_reads_at; after_reads_at
  repeat' split
  all_goals first
    | omega
    | exact place3 (arg m c main_arg3) k (by first | rfl | (dsimp only; omega)) (by first | rfl | (dsimp only; omega))
/-- the turned entries of the two heads of a pair, -/
theorem wq_turned (k : Fin 384) (p : Fin 4) (i : Fin 2) (e : Fin 64) :
    (V m c main_v27 (ix2 k ⟨1024 + 256 * p.val + (64 * i.val + e.val), by omega⟩) : EReal)
      = arg m c main_arg3 (ix3 k ⟨2 * p.val + i.val, by omega⟩ ⟨128 + e.val, by omega⟩) := by
  unfold V; after_reads_at; after_reads_at; after_reads_at; after_reads_at
  repeat' split
  all_goals first
    | omega
    | exact place3 (arg m c main_arg3) k (by dsimp only; omega) (by dsimp only; omega)
/-- and the same with their halves exchanged. -/
theorem wq_swapped (k : Fin 384) (p : Fin 4) (i : Fin 2) (e : Fin 64) :
    (V m c main_v27 (ix2 k ⟨1024 + 256 * p.val + (128 + (64 * i.val + e.val)), by omega⟩) : EReal)
      = arg m c main_arg3 (ix3 k ⟨2 * p.val + i.val, by omega⟩ ⟨128 + (e.val + 32) % 64, by omega⟩) := by
  unfold V; after_reads_at; after_reads_at; after_reads_at; after_reads_at
  repeat' split
  all_goals first
    | omega
    | exact place3 (arg m c main_arg3) k (by dsimp only; omega) (by dsimp only; omega)

theorem uk (p : Fin 4) (i : Fin 2) (k : Fin 256) (d : Fin 128) :
    (V m c main_v30 (ix3 p k ⟨128 * i.val + d.val, by omega⟩) : EReal) = arg m c main_arg5 (ix3 k ⟨2 * p.val + i.val, by omega⟩ d) := by
  unfold V; after_reads_at
  exact place3 (arg m c main_arg5) k (by dsimp only; omega) (by dsimp only; omega)
theorem uv (p : Fin 4) (i : Fin 2) (d : Fin 128) (k : Fin 256) :
    (V m c main_v54 (ix3 p ⟨128 * i.val + d.val, by omega⟩ k) : EReal) = arg m c main_arg6 (ix3 k ⟨2 * p.val + i.val, by omega⟩ d) := by
  unfold V; after_reads_at
  exact place3 (arg m c main_arg6) k (by first | rfl | (dsimp only; omega)) (by first | rfl | (dsimp only; omega))

/-- The cosines of a position's angles, four times over, -/
theorem cs_cos (p : Fin 2048) (q : Fin 128) :
    (V m c main_v53 (ix2 p ⟨q.val, by omega⟩) : EReal) = Ideal.cos (angle p.val (q.val % 32)) := by
  unfold V; after_reads_at; after_reads_at
  repeat' split
  all_goals first
    | omega
    | exact congrArg (fun n => Ideal.cos (angle p.val n)) (by omega)
    | exact congrArg (fun n => -Ideal.sin (angle p.val n)) (by omega)
    | exact congrArg (fun n => Ideal.sin (angle p.val n)) (by omega)
/-- and the sines, each first with its sign changed. -/
theorem cs_sin (p : Fin 2048) (q : Fin 128) :
    (V m c main_v53 (ix2 p ⟨128 + q.val, by omega⟩) : EReal)
      = if q.val % 64 < 32 then -Ideal.sin (angle p.val (q.val % 32)) else Ideal.sin (angle p.val (q.val % 32)) := by
  unfold V; after_reads_at; after_reads_at
  repeat' split
  all_goals first
    | omega
    | exact congrArg (fun n => Ideal.cos (angle p.val n)) (by omega)
    | exact congrArg (fun n => -Ideal.sin (angle p.val n)) (by omega)
    | exact congrArg (fun n => Ideal.sin (angle p.val n)) (by omega)

end Cert.ProjectionWeights

end
-- ==== Proof.ProjectionBlock.lean ====
/-
  The blocks that a grid point of the projection's kernel reads, in terms of the program's arguments.
-/
module

public import proofs.«01_k».proof.Proof.ProjectionWeights
public import Idealize.ShloMosaic.Lib.Pipeline.ValueKit

@[expose] public section

set_option maxRecDepth 16384
set_option maxHeartbeats 1000000

noncomputable section

open Idealize.ShloMosaic Idealize.ShloMosaic.TcCoe Idealize.SL.Sem
open Cert.Kernel3Ideal Cert.Kernel3Ideal.Gen Cert.FeedForward Cert.Projection Cert.ProjectionWeights

namespace Cert.ProjectionBlock

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index13 : ∀ t : Fin cfg0.N, win0_13.index t = ![0, 0] := (by decide +kernel : ∀ t : Fin grid0.N, win0_13.index t = ![0, 0])
theorem index11 : ∀ t : Fin cfg0.N, win0_11.index t = ![0, 0, 0] := (by decide +kernel : ∀ t : Fin grid0.N, win0_11.index t = ![0, 0, 0])
theorem index12 : ∀ t : Fin cfg0.N, win0_12.index t = ![0, 0, 0] := (by decide +kernel : ∀ t : Fin grid0.N, win0_12.index t = ![0, 0, 0])
theorem index7 : ∀ t : Fin cfg0.N, win0_7.index t = ![t.val % 8, 0] := (by decide +kernel : ∀ t : Fin grid0.N, win0_7.index t = ![t.val % 8, 0])
theorem index14 : ∀ t : Fin cfg0.N, win0_14.index t = ![t.val / 8, 0] := (by decide +kernel : ∀ t : Fin grid0.N, win0_14.index t = ![t.val / 8, 0])
theorem index15 : ∀ t : Fin cfg0.N, win0_15.index t = ![t.val / 8, 0] := (by decide +kernel : ∀ t : Fin grid0.N, win0_15.index t = ![t.val / 8, 0])

variable (m : (ℓ : Loc nD τ sig) → Buf (Elt Ideal) ℓ) (c : Dev nD) (t : Fin cfg0.N)

/-- The program's arguments. -/
def args : Args where
  x := arg m c main_arg0
  W := arg m c main_arg1
  gq := arg m c main_arg2
  uq := arg m c main_arg3
  gkv := arg m c main_arg4
  uk := arg m c main_arg5
  uv := arg m c main_arg6
  b := arg m c main_arg7
  memK := arg m c main_arg8
  memV := arg m c main_arg9

theorem t_lt : t.val < 64 := t.isLt

/-- The token of row `r` of the point's block. -/
def token (r : Fin 256) : Fin 16384 := ⟨256 * t.val + r.val, by have := t_lt t; omega⟩

theorem block0 (r : Fin 256) (k : Fin 1024) : iblk m c 0 t (ix2 r k) = arg m c main_arg0 (ix2 (token t r) k) := by
  show iblk m c 0 t (ix2 r k) = m ((c : Thread nD τ).loc main_arg0) (ix2 (token t r) k)
  blk_ext [iblk, V, index0 t, token]
theorem block1 (k : Fin 1024) (j : Fin 384) : iblk m c 1 t (ix2 k j) = V m c main_v10 (ix2 k j) := by
  blk_ext [iblk, index1 t]
theorem block2 (k : Fin 1024) (j : Fin 512) : iblk m c 2 t (ix2 k j) = V m c main_v11 (ix2 k j) := by
  blk_ext [iblk, index2 t]
theorem block3 (k : Fin 1024) (j : Fin 2048) : iblk m c 3 t (ix2 k j) = V m c main_v12 (ix2 k j) := by
  blk_ext [iblk, index3 t]
theorem block4 (k : Fin 1024) (j : Fin 3072) : iblk m c 4 t (ix2 k j) = V m c main_v13 (ix2 k j) := by
  blk_ext [iblk, index4 t]
theorem block5 (k : Fin 1024) (j : Fin 1024) : iblk m c 5 t (ix2 k j) = V m c main_v14 (ix2 k j) := by
  blk_ext [iblk, index5 t]
theorem block6 (k : Fin 1024) (j : Fin 3072) : iblk m c 6 t (ix2 k j) = V m c main_v15 (ix2 k j) := by
  blk_ext [iblk, index6 t]
theorem block13 (k : Fin 384) (j : Fin 2048) : iblk m c 13 t (ix2 k j) = V m c main_v27 (ix2 k j) := by
  blk_ext [iblk, index13 t]
theorem block8 (j : Fin 384) : iblk m c 8 t (ix2 0 j) = V m c main_v33 (ix2 0 j) := by
  blk_ext [iblk, index8 t]
theorem block9 (j : Fin 256) : iblk m c 9 t (ix2 0 j) = V m c main_v34 (ix2 0 j) := by
  blk_ext [iblk, index9 t]
theorem block10 (j : Fin 3072) : iblk m c 10 t (ix2 0 j) = V m c main_v35 (ix2 0 j) := by
  blk_ext [iblk, index10 t]
theorem block11 (p : Fin 4) (k j : Fin 256) : iblk m c 11 t (ix3 p k j) = V m c main_v30 (ix3 p k j) := by
  blk_ext [iblk, index11 t]
theorem block12 (p : Fin 4) (k j : Fin 256) : iblk m c 12 t (ix3 p k j) = V m c main_v54 (ix3 p k j) := by
  blk_ext [iblk, index12 t]
theorem block7 (r : Fin 256) (j : Fin 256) :
    iblk m c 7 t (ix2 r j) = V m c main_v53 (ix2 ⟨(token t r).val % 2048, Nat.mod_lt _ (by decide)⟩ j) := by
  blk_ext [iblk, index7 t, token]
theorem block14 (k : Fin 256) (j : Fin 1024) : iblk m c 14 t (ix2 k j)
    = arg m c main_arg8 (ix2 ⟨t.val / 8 * 256 + k.val, by have := t_lt t; omega⟩ j) := by
  show iblk m c 14 t (ix2 k j) = m ((c : Thread nD τ).loc main_arg8) (ix2 ⟨t.val / 8 * 256 + k.val, by have := t_lt t; omega⟩ j)
  blk_ext [iblk, V, index14 t]
theorem block15 (k : Fin 256) (j : Fin 1024) : iblk m c 15 t (ix2 k j)
    = arg m c main_arg9 (ix2 ⟨t.val / 8 * 256 + k.val, by have := t_lt t; omega⟩ j) := by
  show iblk m c 15 t (ix2 k j) = m ((c : Thread nD τ).loc main_arg9) (ix2 ⟨t.val / 8 * 256 + k.val, by have := t_lt t; omega⟩ j)
  blk_ext [iblk, V, index15 t]

end Cert.ProjectionBlock

end
-- ==== Proof.ProjectionTokens.lean ====
/-
  What the projection's kernel computes at a grid point of each of the block's tokens, in terms of the program's arguments.
-/
module

public import proofs.«01_k».proof.Proof.ProjectionBlock
public import proofs.«01_k».proof.Proof.MergeBlock

@[expose] public section

set_option maxRecDepth 16384
set_option maxHeartbeats 1000000

noncomputable section

open Idealize.ShloMosaic Idealize.ShloMosaic.TcCoe Idealize.SL.Sem
open Cert.Kernel3Ideal Cert.Kernel3Ideal.Gen Cert.FeedForward Cert.Projection Cert.ProjectionWeights Cert.ProjectionBlock Cert.ProjectionRows

namespace Cert.ProjectionTokens

variable (m : (ℓ : Loc nD τ sig) → Buf (Elt Ideal) ℓ) (c : Dev nD) (t : Fin cfg0.N) (r : Fin 256)

/-- The block's rows. -/
abbrev rows : Vec Ideal S256x1024 .f32 := iblk m c 0 t

section Down

/-- A column that agrees with one of the projection's gives that entry. -/
theorem part_of {p n : ℕ} (w : Matrix 1024 p) (j : Fin p) (o : ℕ) (h : o + n ≤ 9952) (j' : Fin n)
    (hw : ∀ k, w (ix2 k j) = arg m c main_arg1 (ix2 k ⟨o + j'.val, by omega⟩)) :
    product (at2 (rows m c t) r) (at2 w) j = (args m c).part (token t r) o n h j' :=
  Finset.sum_congr rfl fun k _ => congrArg₂ (· * ·) (block0 m c t r k) (hw k)

theorem latentQ_of (j : Fin 384) : k0_pay3 (rows m c t) (iblk m c 1 t) (iblk m c 8 t) (ix2 r j) = (args m c).latentQ (token t r) j := by
  have e : product (at2 (rows m c t) r) (at2 (iblk m c 1 t)) = (args m c).part (token t r) 0 384 (by decide) :=
    funext fun j => part_of m c t r _ j 0 _ j fun k => (block1 m c t k j).trans (queryDown m c k j)
  have g : at2 (iblk m c 8 t) 0 = fun j => (args m c).gq (ix1 j) := funext fun j => (block8 m c t j).trans (gq m c j)
  exact (latentQ_apply r _ _ _ j).trans (congrArg₂ (fun v g => rms len384 v g j) e g)

/-- The columns that are taken together. -/
abbrev small : FVec Ideal S256x512 .f32 := k0_pay4 (rows m c t) (iblk m c 2 t)

theorem small_latent_of (q : Fin 256) : product (at2 (rows m c t) r) (at2 (iblk m c 2 t)) ⟨q.val, by omega⟩
    = (args m c).part (token t r) 384 256 (by decide) q :=
  part_of m c t r _ _ 384 _ q fun k => (block2 m c t k _).trans (small_latent m c k q)
theorem small_rotary_of (q : Fin 128) (e : Fin 64) (h : e.val = q.val % 64) : small m c t (ix2 r ⟨256 + q.val, by omega⟩)
    = (args m c).part (token t r) 640 64 (by decide) e :=
  (small_apply r _ _ _).trans (part_of m c t r _ _ 640 _ e fun k => (block2 m c t k _).trans
    ((small_rotary m c k q).trans (place2 (arg m c main_arg1) k (congrArg (640 + ·) h.symm))))
theorem step_of (q : Fin 128) : small m c t (ix2 r ⟨384 + q.val, by omega⟩) = (args m c).step (token t r) q := by
  refine (small_apply r _ _ _).trans ?_
  rw [Args.step]
  by_cases h : q.val < 32
  · rw [dif_pos h]
    exact part_of m c t r _ _ 5824 _ ⟨q.val, h⟩ fun k => (block2 m c t k _).trans ((small_step m c k q).trans (dif_pos h))
  · rw [dif_neg h]
    refine Finset.sum_eq_zero fun k _ => ?_
    have z : at2 (iblk m c 2 t) k ⟨384 + q.val, by omega⟩ = (0 : EReal) :=
      (block2 m c t k _).trans ((small_step m c k q).trans (dif_neg h))
    rw [z, mul_zero]

/-- The latent of the keys and values. -/
abbrev latent : FVec Ideal S256x256 .f32 := k0_pay7 (k0_pay5 (rows m c t) (iblk m c 2 t)) (k0_pay6 (iblk m c 9 t))
/-- The same in the narrower format. -/
abbrev latentCast : FVec Ideal S256x256 .bf16 := k0_pay8 (k0_pay5 (rows m c t) (iblk m c 2 t)) (k0_pay6 (iblk m c 9 t))

theorem latent_of (j : Fin 256) : latent m c t (ix2 r j) = (args m c).latent (token t r) j := by
  have e : (fun k : Fin 256 => product (at2 (rows m c t) r) (at2 (iblk m c 2 t)) ⟨k.val, by omega⟩) = (args m c).part (token t r) 384 256 (by decide) :=
    funext fun j => small_latent_of m c t r j
  have g : at2 (iblk m c 9 t) 0 = fun j => (args m c).gkv (ix1 j) := funext fun j => (block9 m c t j).trans (gkv m c j)
  exact (latent_apply r _ _ _ j).trans (congrArg₂ (fun v g => rms len256 v g j) e g)
theorem latentCast_of (j : Fin 256) : latentCast m c t (ix2 r j) = (args m c).latent (token t r) j :=
  (latent_cast r _ _ j).trans (latent_of m c t r j)

end Down

section Turn

/-- The cosine and the sine with its sign, that lane `q` of the token is turned by. -/
def cosAt (n q : ℕ) : EReal := Ideal.cos (angle n (q % 32))
def sinAt (n q : ℕ) : EReal := if q % 64 < 32 then -Ideal.sin (angle n (q % 32)) else Ideal.sin (angle n (q % 32))

theorem cos_of (q : Fin 128) : iblk m c 7 t (ix2 r ⟨q.val, by omega⟩) = cosAt ((token t r).val % 2048) q.val :=
  (block7 m c t r _).trans (cs_cos m c _ q)
theorem sin_of (q : Fin 128) : iblk m c 7 t (ix2 r ⟨128 + q.val, by omega⟩) = sinAt ((token t r).val % 2048) q.val :=
  (block7 m c t r _).trans (cs_sin m c _ q)

/-- A row times the cosines and the row with its halves exchanged times the signed sines is the row turned. -/
theorem turn_of (a : Fin 16384) (v : Fin 64 → EReal) (e f : Fin 64) (hf : f.val = (e.val + 32) % 64) (q : ℕ) (hq : q % 64 = e.val) :
    v e * cosAt (a.val % 2048) q + v f * sinAt (a.val % 2048) q = Args.turn a v e := by
  have he := e.isLt
  unfold Args.turn turned cosAt sinAt
  by_cases h : e.val < 32
  · have h32 : q % 32 = e.val := by omega
    rw [dif_pos h, if_pos (hq ▸ h), mul_neg, ← sub_eq_add_neg, h32,
      show f = ⟨32 + e.val, by omega⟩ from Fin.ext (by dsimp only; omega)]
  · have h32 : q % 32 = e.val - 32 := by omega
    rw [dif_neg h, if_neg (hq ▸ h), add_comm, h32,
      show f = ⟨e.val - 32, by omega⟩ from Fin.ext (by dsimp only; omega)]
    exact congrArg (fun x => _ + v x * _) (Fin.ext (by dsimp only; omega))

/-- The lanes that the kernel turns at once. -/
abbrev lanes : FVec Ideal S256x128 .f32 := k0_pay10 (small m c t) (iblk m c 7 t)

theorem rotary_of (j : Fin 128) (e : Fin 64) (h : e.val = j.val) : lanes m c t (ix2 r j) = (args m c).rotary (token t r) e := by
  have he := e.isLt
  refine (turn_apply r _ _ j).trans ?_
  rw [small_rotary_of m c t r j e (by omega),
    small_rotary_of m c t r ⟨(j.val + 128 - 32) % 128, by omega⟩ ⟨(e.val + 32) % 64, by omega⟩ (by dsimp only; omega),
    cos_of m c t r j, sin_of m c t r j]
  exact turn_of _ _ e _ rfl j.val (by omega)

end Turn

section Heads

/-- The queries' latent. -/
abbrev cq : FVec Ideal S256x384 .bf16 := k0_pay3 (rows m c t) (iblk m c 1 t) (iblk m c 8 t)

theorem heads_of {n : ℕ} (w : Matrix 384 n) (j : Fin n) (h : Fin 8) (e : Fin 192)
    (hw : ∀ k, w (ix2 k j) = arg m c main_arg3 (ix3 k h e)) :
    product (at2 (cq m c t) r) (at2 w) j = ∑ k : Fin 384, (args m c).latentQ (token t r) k * (args m c).uq (ix3 k h e) :=
  Finset.sum_congr rfl fun k _ => congrArg₂ (· * ·) (latentQ_of m c t r k) (hw k)

theorem query_plain (h : Fin 8) (w : Vec Ideal S384x128 .bf16) (d : Fin 128) (d' : Fin 256) (hd : d'.val = d.val)
    (hw : ∀ k, w (ix2 k d) = V m c main_v27 (ix2 k ⟨128 * h.val + d.val, by omega⟩)) :
    k0_pay21 (k0_pay13 (cq m c t) w) (ix3 0 d r) = (args m c).query (token t r) h d' := by
  have hd' := d.isLt
  obtain ⟨d', hb⟩ := d'
  obtain rfl : d' = d.val := hd
  rw [plain_apply, Args.query, dif_pos (by dsimp only; omega), dif_pos (by dsimp only; omega)]
  exact congrArg (· * scale) (heads_of m c t r w d h ⟨d.val, by omega⟩ fun k => (hw k).trans (wq_plain m c k h d))

theorem query_room (h : Fin 8) (d' : Fin 256) (hd : 192 ≤ d'.val) : (0 : EReal) = (args m c).query (token t r) h d' := by
  rw [Args.query, dif_neg (by omega)]

theorem query_turned (p : Fin 4) (i : Fin 2) (w : Vec Ideal S384x256 .bf16) (e : Fin 64) (d' : Fin 256) (hd : d'.val = 128 + e.val)
    (hw : ∀ k (j : Fin 256), w (ix2 k j) = V m c main_v27 (ix2 k ⟨1024 + 256 * p.val + j.val, by omega⟩)) :
    (product (at2 (cq m c t) r) (at2 w) ⟨64 * i.val + e.val, by omega⟩ * iblk m c 7 t (ix2 r ⟨64 * i.val + e.val, by omega⟩)
      + product (at2 (cq m c t) r) (at2 w) ⟨128 + (64 * i.val + e.val), by omega⟩ * iblk m c 7 t (ix2 r ⟨128 + (64 * i.val + e.val), by omega⟩)) * scale
    = (args m c).query (token t r) ⟨2 * p.val + i.val, by omega⟩ d' := by
  have he := e.isLt
  obtain ⟨d', hb⟩ := d'
  obtain rfl : d' = 128 + e.val := hd
  rw [Args.query, dif_pos (by dsimp only; omega), dif_neg (by dsimp only; omega)]
  rw [cos_of m c t r ⟨64 * i.val + e.val, by omega⟩, sin_of m c t r ⟨64 * i.val + e.val, by omega⟩,
    heads_of m c t r w ⟨64 * i.val + e.val, by omega⟩ ⟨2 * p.val + i.val, by omega⟩ ⟨128 + e.val, by omega⟩
      fun k => (hw k _).trans (wq_turned m c k p i e),
    heads_of m c t r w ⟨128 + (64 * i.val + e.val), by omega⟩ ⟨2 * p.val + i.val, by omega⟩ ⟨128 + (e.val + 32) % 64, by omega⟩
      fun k => (hw k _).trans (wq_swapped m c k p i e)]
  refine congrArg (· * scale) ((turn_of (token t r) (fun e : Fin 64 => ∑ k : Fin 384, (args m c).latentQ (token t r) k
    * (args m c).uq (ix3 k ⟨2 * p.val + i.val, by omega⟩ ⟨128 + e.val, by omega⟩)) e ⟨(e.val + 32) % 64, by omega⟩ rfl
    (64 * i.val + e.val) (by omega)).trans ?_)
  exact congrArg (Args.turn (token t r) _) (Fin.ext (by dsimp only; omega))

theorem key_plain (p : Fin 4) (i : Fin 2) (w : Vec Ideal S1x256x256 .bf16) (d : Fin 128) (d' : Fin 256) (hd : d'.val = d.val)
    (hw : ∀ k (j : Fin 256), w (ix3 0 k j) = V m c main_v30 (ix3 p k j)) :
    (∑ k : Fin 256, latentCast m c t (ix2 r k) * w (ix3 0 k ⟨128 * i.val + d.val, by omega⟩) : EReal)
      = (args m c).key (token t r) ⟨2 * p.val + i.val, by omega⟩ d' := by
  have hd' := d.isLt
  obtain ⟨d', hb⟩ := d'
  obtain rfl : d' = d.val := hd
  rw [Args.key, dif_pos (by dsimp only; omega)]
  refine Finset.sum_congr rfl fun k _ => ?_
  rw [latentCast_of, hw, uk m c p i k d]
  exact mul_comm _ _

theorem key_turned (h : Fin 8) (d : Fin 128) (d' : Fin 256) (hd : d'.val = 128 + d.val) :
    k0_pay58 (lanes m c t) (ix3 0 r d) = (args m c).key (token t r) h d' := by
  have hd' := d.isLt
  obtain ⟨d', hb⟩ := d'
  obtain rfl : d' = 128 + d.val := hd
  rw [ProjectionRows.pad_apply, Args.key, dif_neg (by dsimp only; omega)]
  by_cases g : d.val < 64
  · rw [if_pos g, dif_pos (by dsimp only; omega)]
    exact rotary_of m c t r d _ (by dsimp only; omega)
  · rw [if_neg g, dif_neg (by dsimp only; omega)]

theorem value_of (p : Fin 4) (i : Fin 2) (w : Vec Ideal S1x256x256 .bf16) (d : Fin 128)
    (hw : ∀ k (j : Fin 256), w (ix3 0 k j) = V m c main_v54 (ix3 p k j)) :
    (∑ k : Fin 256, w (ix3 0 ⟨128 * i.val + d.val, by omega⟩ k) * latent m c t (ix2 r k) : EReal)
      = (args m c).value (token t r) ⟨2 * p.val + i.val, by omega⟩ d := by
  refine Finset.sum_congr rfl fun k _ => ?_
  rw [latent_of, hw, uv m c p i d k]
  exact mul_comm _ _

end Heads

section Memory

theorem memScore_of (h : Fin 4) (K : Vec Ideal S256x256 .f32) (hK : ∀ k e, K (ix2 k e) = iblk m c 14 t (ix2 k ⟨256 * h.val + e.val, by omega⟩)) (k : Fin 256) :
    (∑ e : Fin 256, product (at2 (rows m c t) r) (at2 (iblk m c 5 t)) ⟨256 * h.val + e.val, by omega⟩ * K (ix2 k e)) * memScale
      = (args m c).memScores (token t r) h k := by
  have hr := r.isLt
  refine congrArg (· * memScale) (Finset.sum_congr rfl fun e _ => congrArg₂ (· * ·) ?_ ?_)
  · refine (part_of m c t r _ _ 5856 (by decide) ⟨256 * h.val + e.val, by omega⟩ fun k => (block5 m c t k _).trans (memDown m c k _)).trans ?_
    exact congrArg ((args m c).part (token t r) 5856 1024 _) (Fin.ext (by dsimp only; omega))
  · refine (hK k e).trans ((block14 m c t k _).trans ?_)
    exact congrArg₂ (fun a b => arg m c main_arg8 (ix2 a b)) (Fin.ext (by dsimp only [token]; omega)) (Fin.ext (by dsimp only; omega))

theorem memory_of (h : Fin 4) (s : Fin 256 → EReal) (X : Vec Ideal S256x256 .f32) (hs : ∀ k, s k = (args m c).memScores (token t r) h k)
    (hX : ∀ k e, X (ix2 k e) = iblk m c 15 t (ix2 k ⟨256 * h.val + e.val, by omega⟩)) (e : Fin 256) (j : Fin 1024) (hj : j.val = 256 * h.val + e.val) :
    attended s (fun k => X (ix2 k e)) = (args m c).memory (token t r) j := by
  have hr := r.isLt
  have hh : (⟨j.val / 256, by omega⟩ : Fin 4) = h := Fin.ext (by dsimp only; omega)
  rw [Args.memory, hh, show s = (args m c).memScores (token t r) h from funext hs]
  refine congrArg (attended _) (funext fun k => (hX k e).trans ((block15 m c t k _).trans ?_))
  exact congrArg₂ (fun a b => arg m c main_arg9 (ix2 a b)) (Fin.ext (by dsimp only [token]; omega)) (Fin.ext (by dsimp only; omega))

end Memory

end Cert.ProjectionTokens

end
-- ==== Proof.ProjectionRun.lean ====
/-
  One grid point of the projection's kernel run from start to end, over any values, of the program that the equation is about.
-/
module

public import proofs.«01_k».proof.Proof.Gen.Kernel3Ideal.Frame.Runs

@[expose] public section

set_option maxRecDepth 16384

noncomputable section

namespace Cert.ProjectionRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

-- thirteen outputs, of which the queries' alone are stored in twenty-four pieces
set_option maxHeartbeats 4000000 in
/-- The pieces that the body stores in each output's buffer (last first), with the proof that the body, given its inputs'
    buffers at `x0`, …, `x15` and the outputs' at anything, leaves the inputs as they were and the pieces written. -/
noncomputable def bodyRun (c : Dev nD) (i : grid0.Coords) (arg1 : Memref sig .tc .vmem S256x1024 .f32) (harg1 : arg1.IsWhole) (arg2 : Memref sig .tc .vmem S1024x384 .bf16) (harg2 : arg2.IsWhole) (arg3 : Memref sig .tc .vmem S1024x512 .bf16) (harg3 : arg3.IsWhole) (arg4 : Memref sig .tc .vmem S1024x2048 .bf16) (harg4 : arg4.IsWhole) (arg5 : Memref sig .tc .vmem S1024x3072 .bf16) (harg5 : arg5.IsWhole) (arg6 : Memref sig .tc .vmem S1024x1024 .bf16) (harg6 : arg6.IsWhole) (arg7 : Memref sig .tc .vmem S1024x3072 .bf16) (harg7 : arg7.IsWhole) (arg8 : Memref sig .tc .vmem S256x256 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S1x3072 .f32) (harg11 : arg11.IsWhole) (arg12 : Memref sig .tc .vmem S4x256x256 .bf16) (harg12 : arg12.IsWhole) (arg13 : Memref sig .tc .vmem S4x256x256 .bf16) (harg13 : arg13.IsWhole) (arg14 : Memref sig .tc .vmem S384x2048 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S256x384 .bf16) (harg17 : arg17.IsWhole) (arg18 : Memref sig .tc .vmem S256x256 .f32) (harg18 : arg18.IsWhole) (arg19 : Memref sig .tc .vmem S256x64 .f32) (harg19 : arg19.IsWhole) (arg20 : Memref sig .tc .vmem S256x320 .bf16) (harg20 : arg20.IsWhole) (arg21 : Memref sig .tc .vmem S256x128 .f32) (harg21 : arg21.IsWhole) (arg22 : Memref sig .tc .vmem S32x256 .f32) (harg22 : arg22.IsWhole) (arg23 : Memref sig .tc .vmem S256x2048 .bf16) (harg23 : arg23.IsWhole) (arg24 : Memref sig .tc .vmem S256x3072 .bf16) (harg24 : arg24.IsWhole) (arg25 : Memref sig .tc .vmem S256x1024 .bf16) (harg25 : arg25.IsWhole) (arg26 : Memref sig .tc .vmem S256x3072 .bf16) (harg26 : arg26.IsWhole) (arg27 : Memref sig .tc .vmem S8x256x256 .bf16) (harg27 : arg27.IsWhole) (arg28 : Memref sig .tc .vmem S8x1x128x256 .bf16) (harg28 : arg28.IsWhole) (arg29 : Memref sig .tc .vmem S8x256x256 .bf16) (harg29 : arg29.IsWhole)
    (x0 : Vec F S256x1024 .f32) (x1 : Vec F S1024x384 .bf16) (x2 : Vec F S1024x512 .bf16) (x3 : Vec F S1024x2048 .bf16) (x4 : Vec F S1024x3072 .bf16) (x5 : Vec F S1024x1024 .bf16) (x6 : Vec F S1024x3072 .bf16) (x7 : Vec F S256x256 .f32) (x8 : Vec F S1x384 .f32) (x9 : Vec F S1x256 .f32) (x10 : Vec F S1x3072 .f32) (x11 : Vec F S4x256x256 .bf16) (x12 : Vec F S4x256x256 .bf16) (x13 : Vec F S384x2048 .bf16) (x14 : Vec F S256x1024 .f32) (x15 : Vec F S256x1024 .f32) :
    Σ' (L16 : List (View.Piece (Elt F) S256x384 .bf16)), Σ' (L17 : List (View.Piece (Elt F) S256x256 .f32)), Σ' (L18 : List (View.Piece (Elt F) S256x64 .f32)), Σ' (L19 : List (View.Piece (Elt F) S256x320 .bf16)), Σ' (L20 : List (View.Piece (Elt F) S256x128 .f32)), Σ' (L21 : List (View.Piece (Elt F) S32x256 .f32)), Σ' (L22 : List (View.Piece (Elt F) S256x2048 .bf16)), Σ' (L23 : List (View.Piece (Elt F) S256x3072 .bf16)), Σ' (L24 : List (View.Piece (Elt F) S256x1024 .bf16)), Σ' (L25 : List (View.Piece (Elt F) S256x3072 .bf16)), Σ' (L26 : List (View.Piece (Elt F) S8x256x256 .bf16)), Σ' (L27 : List (View.Piece (Elt F) S8x1x128x256 .bf16)), { L28 : List (View.Piece (Elt F) S8x256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact H28

end Cert.ProjectionRun

end
-- ==== Proof.ProjectionFrame.lean ====
/-
  The launch of the projection's kernel, over any values, of the program that the equation is about: what every grid point leaves, and the frame.
-/
module

public import proofs.«01_k».proof.Proof.ProjectionRun
public import Idealize.ShloMosaic.Lib.Claim

@[expose] public section

set_option maxRecDepth 16384

noncomputable section

namespace Cert.ProjectionFrame

open Cert.Kernel3Ideal Cert.Kernel3Ideal.Gen Cert.ProjectionRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run at grid point `t`: at the point's buffers, and with the inputs' blocks. -/
abbrev ran (c : Dev nD) (t : Fin cfg0.N) :=
  bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-! What point `t` leaves in each output's buffer, and that its pieces cover the block. -/
def out16 (c : Dev nD) (t : Fin cfg0.N) : Vec F S256x384 .bf16 :=
  VO0_16.read (Elt F) (VO0_16.writes (Elt F) VO0_16.junk (ran m c t).1)
theorem cover16 (c : Dev nD) (t : Fin cfg0.N) (y : S256x384.Idx) : ∃ pc ∈ (ran m c t).1, y ∈ pc.1.set :=
  View.cover_of_tiledL (ran m c t).1 S256x384.size (by sl_kernel_rfl) y
def out17 (c : Dev nD) (t : Fin cfg0.N) : Vec F S256x256 .f32 :=
  VO0_17.read (Elt F) (VO0_17.writes (Elt F) VO0_17.junk (ran m c t).2.1)
theorem cover17 (c : Dev nD) (t : Fin cfg0.N) (y : S256x256.Idx) : ∃ pc ∈ (ran m c t).2.1, y ∈ pc.1.set :=
  View.cover_of_tiledL (ran m c t).2.1 S256x256.size (by sl_kernel_rfl) y
def out18 (c : Dev nD) (t : Fin cfg0.N) : Vec F S256x64 .f32 :=
  VO0_18.read (Elt F) (VO0_18.writes (Elt F) VO0_18.junk (ran m c t).2.2.1)
theorem cover18 (c : Dev nD) (t : Fin cfg0.N) (y : S256x64.Idx) : ∃ pc ∈ (ran m c t).2.2.1, y ∈ pc.1.set :=
  View.cover_of_tiledL (ran m c t).2.2.1 S256x64.size (by sl_kernel_rfl) y
def out19 (c : Dev nD) (t : Fin cfg0.N) : Vec F S256x320 .bf16 :=
  VO0_19.read (Elt F) (VO0_19.writes (Elt F) VO0_19.junk (ran m c t).2.2.2.1)
theorem cover19 (c : Dev nD) (t : Fin cfg0.N) (y : S256x320.Idx) : ∃ pc ∈ (ran m c t).2.2.2.1, y ∈ pc.1.set :=
  View.cover_of_tiledBy (ran m c t).2.2.2.1 ![256, 64] (by sl_kernel_rfl) y
def out20 (c : Dev nD) (t : Fin cfg0.N) : Vec F S256x128 .f32 :=
  VO0_20.read (Elt F) (VO0_20.writes (Elt F) VO0_20.junk (ran m c t).2.2.2.2.1)
theorem cover20 (c : Dev nD) (t : Fin cfg0.N) (y : S256x128.Idx) : ∃ pc ∈ (ran m c t).2.2.2.2.1, y ∈ pc.1.set :=
  View.cover_of_tiledL (ran m c t).2.2.2.2.1 S256x128.size (by sl_kernel_rfl) y
def out21 (c : Dev nD) (t : Fin cfg0.N) : Vec F S32x256 .f32 :=
  VO0_21.read (Elt F) (VO0_21.writes (Elt F) VO0_21.junk (ran m c t).2.2.2.2.2.1)
theorem cover21 (c : Dev nD) (t : Fin cfg0.N) (y : S32x256.Idx) : ∃ pc ∈ (ran m c t).2.2.2.2.2.1, y ∈ pc.1.set :=
  View.cover_of_tiledL (ran m c t).2.2.2.2.2.1 S32x256.size (by sl_kernel_rfl) y
def out22 (c : Dev nD) (t : Fin cfg0.N) : Vec F S256x2048 .bf16 :=
  VO0_22.read (Elt F) (VO0_22.writes (Elt F) VO0_22.junk (ran m c t).2.2.2.2.2.2.1)
theorem cover22 (c : Dev nD) (t : Fin cfg0.N) (y : S256x2048.Idx) : ∃ pc ∈ (ran m c t).2.2.2.2.2.2.1, y ∈ pc.1.set :=
  View.cover_of_tiledL (ran m c t).2.2.2.2.2.2.1 S256x1024.size (by sl_kernel_rfl) y
def out23 (c : Dev nD) (t : Fin cfg0.N) : Vec F S256x3072 .bf16 :=
  VO0_23.read (Elt F) (VO0_23.writes (Elt F) VO0_23.junk (ran m c t).2.2.2.2.2.2.2.1)
theorem cover23 (c : Dev nD) (t : Fin cfg0.N) (y : S256x3072.Idx) : ∃ pc ∈ (ran m c t).2.2.2.2.2.2.2.1, y ∈ pc.1.set :=
  View.cover_of_tiledL (ran m c t).2.2.2.2.2.2.2.1 S256x1024.size (by sl_kernel_rfl) y
def out24 (c : Dev nD) (t : Fin cfg0.N) : Vec F S256x1024 .bf16 :=
  VO0_24.read (Elt F) (VO0_24.writes (Elt F) VO0_24.junk (ran m c t).2.2.2.2.2.2.2.2.1)
theorem cover24 (c : Dev nD) (t : Fin cfg0.N) (y : S256x1024.Idx) : ∃ pc ∈ (ran m c t).2.2.2.2.2.2.2.2.1, y ∈ pc.1.set :=
  View.cover_of_tiledL (ran m c t).2.2.2.2.2.2.2.2.1 S256x256.size (by sl_kernel_rfl) y
def out25 (c : Dev nD) (t : Fin cfg0.N) : Vec F S256x3072 .bf16 :=
  VO0_25.read (Elt F) (VO0_25.writes (Elt F) VO0_25.junk (ran m c t).2.2.2.2.2.2.2.2.2.1)
theorem cover25 (c : Dev nD) (t : Fin cfg0.N) (y : S256x3072.Idx) : ∃ pc ∈ (ran m c t).2.2.2.2.2.2.2.2.2.1, y ∈ pc.1.set :=
  View.cover_of_tiledL (ran m c t).2.2.2.2.2.2.2.2.2.1 S256x1024.size (by sl_kernel_rfl) y
def out26 (c : Dev nD) (t : Fin cfg0.N) : Vec F S8x256x256 .bf16 :=
  VO0_26.read (Elt F) (VO0_26.writes (Elt F) VO0_26.junk (ran m c t).2.2.2.2.2.2.2.2.2.2.1)
theorem cover26 (c : Dev nD) (t : Fin cfg0.N) (y : S8x256x256.Idx) : ∃ pc ∈ (ran m c t).2.2.2.2.2.2.2.2.2.2.1, y ∈ pc.1.set :=
  View.cover_of_tiledL (ran m c t).2.2.2.2.2.2.2.2.2.2.1 S1x256x128.size (by sl_kernel_rfl) y
def out27 (c : Dev nD) (t : Fin cfg0.N) : Vec F S8x1x128x256 .bf16 :=
  VO0_27.read (Elt F) (VO0_27.writes (Elt F) VO0_27.junk (ran m c t).2.2.2.2.2.2.2.2.2.2.2.1)
theorem cover27 (c : Dev nD) (t : Fin cfg0.N) (y : S8x1x128x256.Idx) : ∃ pc ∈ (ran m c t).2.2.2.2.2.2.2.2.2.2.2.1, y ∈ pc.1.set :=
  View.cover_of_tiledL (ran m c t).2.2.2.2.2.2.2.2.2.2.2.1 S1x1x128x256.size (by sl_kernel_rfl) y
def out28 (c : Dev nD) (t : Fin cfg0.N) : Vec F S8x256x256 .bf16 :=
  VO0_28.read (Elt F) (VO0_28.writes (Elt F) VO0_28.junk (ran m c t).2.2.2.2.2.2.2.2.2.2.2.2.1)
theorem cover28 (c : Dev nD) (t : Fin cfg0.N) (y : S8x256x256.Idx) : ∃ pc ∈ (ran m c t).2.2.2.2.2.2.2.2.2.2.2.2.1, y ∈ pc.1.set :=
  View.cover_of_tiledBy (ran m c t).2.2.2.2.2.2.2.2.2.2.2.2.1 ![1, 64, 256] (by sl_kernel_rfl) y
/-- The proof data of the pipeline: after the body at point `t` an input's buffer holds its block, an output's what the
    point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 m c t
    | ⟨17, _⟩ => out17 m c t
    | ⟨18, _⟩ => out18 m c t
    | ⟨19, _⟩ => out19 m c t
    | ⟨20, _⟩ => out20 m c t
    | ⟨21, _⟩ => out21 m c t
    | ⟨22, _⟩ => out22 m c t
    | ⟨23, _⟩ => out23 m c t
    | ⟨24, _⟩ => out24 m c t
    | ⟨25, _⟩ => out25 m c t
    | ⟨26, _⟩ => out26 m c t
    | ⟨27, _⟩ => out27 m c t
    | ⟨28, _⟩ => out28 m c t
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 m c t := by dsimp only [dats]
theorem after17 (c : Dev nD) (t : Fin cfg0.N) : (dats m 0 c).after 17 t = out17 m c t := by dsimp only [dats]
theorem after18 (c : Dev nD) (t : Fin cfg0.N) : (dats m 0 c).after 18 t = out18 m c t := by dsimp only [dats]
theorem after19 (c : Dev nD) (t : Fin cfg0.N) : (dats m 0 c).after 19 t = out19 m c t := by dsimp only [dats]
theorem after20 (c : Dev nD) (t : Fin cfg0.N) : (dats m 0 c).after 20 t = out20 m c t := by dsimp only [dats]
theorem after21 (c : Dev nD) (t : Fin cfg0.N) : (dats m 0 c).after 21 t = out21 m c t := by dsimp only [dats]
theorem after22 (c : Dev nD) (t : Fin cfg0.N) : (dats m 0 c).after 22 t = out22 m c t := by dsimp only [dats]
theorem after23 (c : Dev nD) (t : Fin cfg0.N) : (dats m 0 c).after 23 t = out23 m c t := by dsimp only [dats]
theorem after24 (c : Dev nD) (t : Fin cfg0.N) : (dats m 0 c).after 24 t = out24 m c t := by dsimp only [dats]
theorem after25 (c : Dev nD) (t : Fin cfg0.N) : (dats m 0 c).after 25 t = out25 m c t := by dsimp only [dats]
theorem after26 (c : Dev nD) (t : Fin cfg0.N) : (dats m 0 c).after 26 t = out26 m c t := by dsimp only [dats]
theorem after27 (c : Dev nD) (t : Fin cfg0.N) : (dats m 0 c).after 27 t = out27 m c t := by dsimp only [dats]
theorem after28 (c : Dev nD) (t : Fin cfg0.N) : (dats m 0 c).after 28 t = out28 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 4000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28]
  unfold out16 out17 out18 out19 out20 out21 out22 out23 out24 out25 out26 out27 out28
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((ran m c t).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover16 m c t)
  isplitl [H17]
  · unfold owns; iexists _; isplitr
    swap; · iexact H17
    ipureintro; exact View.read_writes_of_cover _ _ _ _ _ (cover17 m c t)
  isplitl [H18]
  · unfold owns; iexists _; isplitr
    swap; · iexact H18
    ipureintro; exact View.read_writes_of_cover _ _ _ _ _ (cover18 m c t)
  isplitl [H19]
  · unfold owns; iexists _; isplitr
    swap; · iexact H19
    ipureintro; exact View.read_writes_of_cover _ _ _ _ _ (cover19 m c t)
  isplitl [H20]
  · unfold owns; iexists _; isplitr
    swap; · iexact H20
    ipureintro; exact View.read_writes_of_cover _ _ _ _ _ (cover20 m c t)
  isplitl [H21]
  · unfold owns; iexists _; isplitr
    swap; · iexact H21
    ipureintro; exact View.read_writes_of_cover _ _ _ _ _ (cover21 m c t)
  isplitl [H22]
  · unfold owns; iexists _; isplitr
    swap; · iexact H22
    ipureintro; exact View.read_writes_of_cover _ _ _ _ _ (cover22 m c t)
  isplitl [H23]
  · unfold owns; iexists _; isplitr
    swap; · iexact H23
    ipureintro; exact View.read_writes_of_cover _ _ _ _ _ (cover23 m c t)
  isplitl [H24]
  · unfold owns; iexists _; isplitr
    swap; · iexact H24
    ipureintro; exact View.read_writes_of_cover _ _ _ _ _ (cover24 m c t)
  isplitl [H25]
  · unfold owns; iexists _; isplitr
    swap; · iexact H25
    ipureintro; exact View.read_writes_of_cover _ _ _ _ _ (cover25 m c t)
  isplitl [H26]
  · unfold owns; iexists _; isplitr
    swap; · iexact H26
    ipureintro; exact View.read_writes_of_cover _ _ _ _ _ (cover26 m c t)
  isplitl [H27]
  · unfold owns; iexists _; isplitr
    swap; · iexact H27
    ipureintro; exact View.read_writes_of_cover _ _ _ _ _ (cover27 m c t)
  unfold owns; iexists _; isplitr
  swap; · iexact H28
  ipureintro; exact View.read_writes_of_cover _ _ _ _ _ (cover28 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the run ends, the arguments are as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.ProjectionFrame

end
-- ==== Proof.ProjectionPieces.lean ====
/-
  The arrays that a grid point of the projection's kernel leaves in its outputs' blocks, at an index.
-/
module

public import proofs.«01_k».proof.Proof.ProjectionTokens
public import proofs.«01_k».proof.Proof.ProjectionFrame

@[expose] public section

set_option maxRecDepth 16384
set_option maxHeartbeats 2000000

noncomputable section

open Idealize.ShloMosaic Idealize.ShloMosaic.TcCoe Idealize.SL.Sem
open Cert.Kernel3Ideal Cert.Kernel3Ideal.Gen Cert.FeedForward Cert.Projection Cert.ProjectionWeights Cert.ProjectionBlock Cert.ProjectionRows
open Cert.ProjectionTokens Cert.ProjectionFrame

namespace Cert.ProjectionPieces

section Geometry

theorem cons {α : Type} {P : α → Prop} {a : α} {l : List α} (h : P a) (H : ∀ p ∈ l, P p) : ∀ p ∈ a :: l, P p := List.forall_mem_cons.2 ⟨h, H⟩
theorem one {α : Type} {P : α → Prop} {a : α} (h : P a) : ∀ p ∈ [a], P p := fun _ hp => List.mem_singleton.1 hp ▸ h

/-- A piece of an array of two axes holds what the array holds at its place. -/
theorem piece2 {n p n' p' : ℕ} {e : EltTy} (G : Vec Ideal ⟨2, ![n, p]⟩ e) (f : Vec Ideal ⟨2, ![n', p']⟩ e) (o q : ℕ)
    (inb : ∀ a, ![o, q] a + ![n', p'] a ≤ (⟨2, ![n, p]⟩ : Shape).size a)
    (hf : ∀ (r : Fin n') (j : Fin p') (r' : Fin n) (j' : Fin p), r'.val = o + r.val → j'.val = q + j.val → f (ix2 r j) = G (ix2 r' j'))
    (x : (⟨2, ![n', p']⟩ : Shape).Idx) : f x = G ((Rect.unit (s := ⟨2, ![n, p]⟩) ![o, q] ![n', p'] inb).emb x) := by
  obtain ⟨r, j, rfl⟩ : ∃ (r : Fin n') (j : Fin p'), x = ix2 r j := ⟨x 0, x 1, by funext a; match a with | ⟨0, _⟩ => rfl | ⟨1, _⟩ => rfl⟩
  have h0 : o + n' ≤ n := inb 0
  have h1 : q + p' ≤ p := inb 1
  rw [hf r j ⟨o + r.val, by omega⟩ ⟨q + j.val, by omega⟩ rfl rfl]
  refine congrArg G (funext fun a => Fin.ext ?_)
  rw [Rect.emb_apply]
  match a with
  | ⟨0, _⟩ => show o + r.val = o + 1 * r.val; omega
  | ⟨1, _⟩ => show q + j.val = q + 1 * j.val; omega

/-- The same of three axes, for a piece of one layer. -/
theorem piece3 {n p q p' q' : ℕ} {e : EltTy} (G : Vec Ideal ⟨3, ![n, p, q]⟩ e) (f : Vec Ideal ⟨3, ![1, p', q']⟩ e) (l o u : ℕ)
    (inb : ∀ a, ![l, o, u] a + ![1, p', q'] a ≤ (⟨3, ![n, p, q]⟩ : Shape).size a) (h : Fin n) (hl : h.val = l)
    (hf : ∀ (r : Fin p') (j : Fin q') (r' : Fin p) (j' : Fin q), r'.val = o + r.val → j'.val = u + j.val → f (ix3 0 r j) = G (ix3 h r' j'))
    (x : (⟨3, ![1, p', q']⟩ : Shape).Idx) : f x = G ((Rect.unit (s := ⟨3, ![n, p, q]⟩) ![l, o, u] ![1, p', q'] inb).emb x) := by
  obtain ⟨i, r, j, rfl⟩ : ∃ (i : Fin 1) (r : Fin p') (j : Fin q'), x = ix3 i r j :=
    ⟨x 0, x 1, x 2, by funext a; match a with | ⟨0, _⟩ => rfl | ⟨1, _⟩ => rfl | ⟨2, _⟩ => rfl⟩
  obtain rfl : i = 0 := Subsingleton.elim _ _
  have h1 : o + p' ≤ p := inb 1
  have h2 : u + q' ≤ q := inb 2
  rw [hf r j ⟨o + r.val, by omega⟩ ⟨u + j.val, by omega⟩ rfl rfl]
  refine congrArg G (funext fun a => Fin.ext ?_)
  rw [Rect.emb_apply]
  match a with
  | ⟨0, _⟩ => show h.val = l + 1 * 0; omega
  | ⟨1, _⟩ => show o + r.val = o + 1 * r.val; omega
  | ⟨2, _⟩ => show u + j.val = u + 1 * j.val; omega

/-- The same of four axes. -/
theorem piece4 {n p q : ℕ} {e : EltTy} (G : Vec Ideal ⟨4, ![n, 1, p, q]⟩ e) (f : Vec Ideal ⟨4, ![1, 1, p, q]⟩ e) (l : ℕ)
    (inb : ∀ a, ![l, 0, 0, 0] a + ![1, 1, p, q] a ≤ (⟨4, ![n, 1, p, q]⟩ : Shape).size a) (h : Fin n) (hl : h.val = l)
    (hf : ∀ (r : Fin p) (j : Fin q), f (ix4 0 0 r j) = G (ix4 h 0 r j))
    (x : (⟨4, ![1, 1, p, q]⟩ : Shape).Idx) : f x = G ((Rect.unit (s := ⟨4, ![n, 1, p, q]⟩) ![l, 0, 0, 0] ![1, 1, p, q] inb).emb x) := by
  obtain ⟨i, i', r, j, rfl⟩ : ∃ (i : Fin 1) (i' : Fin 1) (r : Fin p) (j : Fin q), x = ix4 i i' r j :=
    ⟨x 0, x 1, x 2, x 3, by funext a; match a with | ⟨0, _⟩ => rfl | ⟨1, _⟩ => rfl | ⟨2, _⟩ => rfl | ⟨3, _⟩ => rfl⟩
  obtain rfl : i = 0 := Subsingleton.elim _ _
  obtain rfl : i' = 0 := Subsingleton.elim _ _
  rw [hf r j]
  refine congrArg G (funext fun a => Fin.ext ?_)
  rw [Rect.emb_apply]
  match a with
  | ⟨0, _⟩ => show h.val = l + 1 * 0; omega
  | ⟨1, _⟩ => rfl
  | ⟨2, _⟩ => show r.val = 0 + 1 * r.val; omega
  | ⟨3, _⟩ => show j.val = 0 + 1 * j.val; omega

/-- A load of one layer of an array of three axes. -/
theorem ld_layer {n p q : ℕ} {e : EltTy} (X : Vec Ideal ⟨3, ![n, p, q]⟩ e) (l : ℕ)
    (inb : ∀ a, ![l, 0, 0] a + ![1, p, q] a ≤ (⟨3, ![n, p, q]⟩ : Shape).size a) (h : Fin n) (hl : h.val = l) (r : Fin p) (j : Fin q) :
    View.ld X (Rect.unit (s := ⟨3, ![n, p, q]⟩) ![l, 0, 0] ![1, p, q] inb) (ix3 0 r j) = X (ix3 h r j) :=
  View.ld_unit_apply_of _ _ _ _ _ _ fun a => by
    match a with
    | ⟨0, _⟩ => exact hl
    | ⟨1, _⟩ => exact (Nat.zero_add _).symm
    | ⟨2, _⟩ => exact (Nat.zero_add _).symm

/-- A load of columns of an array of two axes. -/
theorem ld_cols {n p q : ℕ} {e : EltTy} (X : Vec Ideal ⟨2, ![n, p]⟩ e) (o : ℕ)
    (inb : ∀ a, ![0, o] a + ![n, q] a ≤ (⟨2, ![n, p]⟩ : Shape).size a) (r : Fin n) (j : Fin q) (j' : Fin p) (hj : j'.val = o + j.val) :
    View.ld X (Rect.unit (s := ⟨2, ![n, p]⟩) ![0, o] ![n, q] inb) (ix2 r j) = X (ix2 r j') :=
  MergeBlock.ld_at X 0 o inb r j r j' (Nat.zero_add _).symm hj

end Geometry

variable (m : (ℓ : Loc nD τ sig) → Buf (Elt Ideal) ℓ) (c : Dev nD) (t : Fin cfg0.N)

section Queries

/-- The queries of the block's tokens. -/
abbrev queries : Vec Ideal S8x256x256 .bf16 := fun y => (args m c).query (token t (y 2)) (y 0) (y 1)

theorem plain (h : Fin 8) (o : ℕ) (ho : o = 128 * h.val) (inb : ∀ a, ![0, o] a + ![384, 128] a ≤ S384x2048.size a)
    (d : Fin 128) (r d' r' : Fin 256) (hd : d'.val = 0 + d.val) (hr : r'.val = 0 + r.val) :
    k0_pay21 (k0_pay13 (cq m c t) (View.ld (iblk m c 13 t) (Rect.unit (s := S384x2048) ![0, o] ![384, 128] inb))) (ix3 0 d r)
      = queries m c t (ix3 h d' r') := by
  obtain rfl : r' = r := Fin.ext (by omega)
  refine query_plain m c t r' h _ d d' (by omega) fun k => ?_
  exact (ld_cols _ o inb k d ⟨128 * h.val + d.val, by omega⟩ (by dsimp only; omega)).trans (block13 m c t k _)

theorem room (h : Fin 8) (d : Fin 64) (r d' r' : Fin 256) (hd : d'.val = 192 + d.val) (_ : r'.val = 0 + r.val) :
    k0_pay22 (F := Ideal) (ix3 0 d r) = queries m c t (ix3 h d' r') :=
  (room_apply r d).trans (query_room m c t r' h d' (by omega))

theorem turned0 (p : Fin 4) (o : ℕ) (ho : o = 1024 + 256 * p.val) (inb : ∀ a, ![0, o] a + ![384, 256] a ≤ S384x2048.size a)
    (e : Fin 64) (r d' r' : Fin 256) (hd : d'.val = 128 + e.val) (hr : r'.val = 0 + r.val) :
    k0_pay40 (cq m c t) (k0_pay9 (iblk m c 7 t)) (View.ld (iblk m c 13 t) (Rect.unit (s := S384x2048) ![0, o] ![384, 256] inb)) (ix3 0 e r)
      = queries m c t (ix3 ⟨2 * p.val + 0, by omega⟩ d' r') := by
  obtain rfl : r' = r := Fin.ext (by omega)
  refine Eq.trans ?_ (query_turned m c t r' p 0 _ e d' hd fun k j =>
    (ld_cols _ o inb k j ⟨1024 + 256 * p.val + j.val, by omega⟩ (by dsimp only; omega)).trans (block13 m c t k _))
  rw [turnQ0_apply, lanes_apply, lanes_apply]
  have z : 64 * (0 : Fin 2).val + e.val = e.val := Nat.zero_add _
  simp only [z]

theorem turned1 (p : Fin 4) (o : ℕ) (ho : o = 1024 + 256 * p.val) (inb : ∀ a, ![0, o] a + ![384, 256] a ≤ S384x2048.size a)
    (e : Fin 64) (r d' r' : Fin 256) (hd : d'.val = 128 + e.val) (hr : r'.val = 0 + r.val) :
    k0_pay41 (cq m c t) (k0_pay9 (iblk m c 7 t)) (View.ld (iblk m c 13 t) (Rect.unit (s := S384x2048) ![0, o] ![384, 256] inb)) (ix3 0 e r)
      = queries m c t (ix3 ⟨2 * p.val + 1, by omega⟩ d' r') := by
  obtain rfl : r' = r := Fin.ext (by omega)
  refine Eq.trans ?_ (query_turned m c t r' p 1 _ e d' hd fun k j =>
    (ld_cols _ o inb k j ⟨1024 + 256 * p.val + j.val, by omega⟩ (by dsimp only; omega)).trans (block13 m c t k _))
  rw [turnQ1_apply, lanes_apply, lanes_apply]
  rfl

theorem out28_eq : out28 m c t = queries m c t := by
  funext y
  unfold out28 ran
  frame_out
  refine View.canon_apply_of_pieces (Val := Elt Ideal) (e := .bf16) (queries m c t) _ ?_ y ?_
  rotate_left
  · exact View.cover_of_tiledBy _ ![1, 64, 256] (by sl_kernel_rfl) y
  exact cons (piece3 _ _ _ _ _ inb_S8x256x256_S1x64x256_7_128_0 7 rfl (turned1 m c t 3 1792 rfl inb_S384x2048_S384x256_0_1792))
    <| cons (piece3 _ _ _ _ _ inb_S8x256x256_S1x64x256_6_128_0 6 rfl (turned0 m c t 3 1792 rfl inb_S384x2048_S384x256_0_1792))
    <| cons (piece3 _ _ _ _ _ inb_S8x256x256_S1x64x256_5_128_0 5 rfl (turned1 m c t 2 1536 rfl inb_S384x2048_S384x256_0_1536))
    <| cons (piece3 _ _ _ _ _ inb_S8x256x256_S1x64x256_4_128_0 4 rfl (turned0 m c t 2 1536 rfl inb_S384x2048_S384x256_0_1536))
    <| cons (piece3 _ _ _ _ _ inb_S8x256x256_S1x64x256_3_128_0 3 rfl (turned1 m c t 1 1280 rfl inb_S384x2048_S384x256_0_1280))
    <| cons (piece3 _ _ _ _ _ inb_S8x256x256_S1x64x256_2_128_0 2 rfl (turned0 m c t 1 1280 rfl inb_S384x2048_S384x256_0_1280))
    <| cons (piece3 _ _ _ _ _ inb_S8x256x256_S1x64x256_1_128_0 1 rfl (turned1 m c t 0 1024 rfl inb_S384x2048_S384x256_0_1024))
    <| cons (piece3 _ _ _ _ _ inb_S8x256x256_S1x64x256_0_128_0 0 rfl (turned0 m c t 0 1024 rfl inb_S384x2048_S384x256_0_1024))
    <| cons (piece3 _ _ _ _ _ inb_S8x256x256_S1x64x256_7_192_0 7 rfl (room m c t 7))
    <| cons (piece3 _ _ _ _ _ inb_S8x256x256_S1x128x256_7_0_0 7 rfl (plain m c t 7 896 rfl inb_S384x2048_S384x128_0_896))
    <| cons (piece3 _ _ _ _ _ inb_S8x256x256_S1x64x256_6_192_0 6 rfl (room m c t 6))
    <| cons (piece3 _ _ _ _ _ inb_S8x256x256_S1x128x256_6_0_0 6 rfl (plain m c t 6 768 rfl inb_S384x2048_S384x128_0_768))
    <| cons (piece3 _ _ _ _ _ inb_S8x256x256_S1x64x256_5_192_0 5 rfl (room m c t 5))
    <| cons (piece3 _ _ _ _ _ inb_S8x256x256_S1x128x256_5_0_0 5 rfl (plain m c t 5 640 rfl inb_S384x2048_S384x128_0_640))
    <| cons (piece3 _ _ _ _ _ inb_S8x256x256_S1x64x256_4_192_0 4 rfl (room m c t 4))
    <| cons (piece3 _ _ _ _ _ inb_S8x256x256_S1x128x256_4_0_0 4 rfl (plain m c t 4 512 rfl inb_S384x2048_S384x128_0_512))
    <| cons (piece3 _ _ _ _ _ inb_S8x256x256_S1x64x256_3_192_0 3 rfl (room m c t 3))
    <| cons (piece3 _ _ _ _ _ inb_S8x256x256_S1x128x256_3_0_0 3 rfl (plain m c t 3 384 rfl inb_S384x2048_S384x128_0_384))
    <| cons (piece3 _ _ _ _ _ inb_S8x256x256_S1x64x256_2_192_0 2 rfl (room m c t 2))
    <| cons (piece3 _ _ _ _ _ inb_S8x256x256_S1x128x256_2_0_0 2 rfl (plain m c t 2 256 rfl inb_S384x2048_S384x128_0_256))
    <| cons (piece3 _ _ _ _ _ inb_S8x256x256_S1x64x256_1_192_0 1 rfl (room m c t 1))
    <| cons (piece3 _ _ _ _ _ inb_S8x256x256_S1x128x256_1_0_0 1 rfl (plain m c t 1 128 rfl inb_S384x2048_S384x128_0_128))
    <| cons (piece3 _ _ _ _ _ inb_S8x256x256_S1x64x256_0_192_0 0 rfl (room m c t 0))
    <| one (piece3 _ _ _ _ _ inb_S8x256x256_S1x128x256_0_0_0 0 rfl (plain m c t 0 0 rfl inb_S384x2048_S384x128_0_0))

end Queries

section Down

/-- The block's part of each of the other results. -/
abbrev latentQs : Vec Ideal S256x384 .bf16 := fun y => (args m c).latentQ (token t (y 0)) (y 1)
abbrev latents : Vec Ideal S256x256 .f32 := fun y => (args m c).latent (token t (y 0)) (y 1)
abbrev rotaries : Vec Ideal S256x64 .f32 := fun y => (args m c).rotary (token t (y 0)) (y 1)
abbrev boths : Vec Ideal S256x320 .bf16 := fun y => (args m c).both (token t (y 0)) (y 1)
abbrev steps : Vec Ideal S256x128 .f32 := fun y => (args m c).step (token t (y 0)) (y 1)
abbrev stepsAcross : Vec Ideal S32x256 .f32 := fun y => (args m c).part (token t (y 1)) 5824 32 (by decide) (y 0)
abbrev zs : Vec Ideal S256x2048 .bf16 := fun y => (args m c).part (token t (y 0)) 704 2048 (by decide) (y 1)
abbrev xs : Vec Ideal S256x3072 .bf16 := fun y => (args m c).part (token t (y 0)) 2752 3072 (by decide) (y 1)
abbrev memories : Vec Ideal S256x1024 .bf16 := fun y => (args m c).memory (token t (y 0)) (y 1)
abbrev gates : Vec Ideal S256x3072 .bf16 := fun y => (args m c).gate (token t (y 0)) (y 1)

theorem out16_eq : out16 m c t = latentQs m c t := by
  funext y
  unfold out16 ran
  frame_out
  obtain ⟨r, j, rfl⟩ : ∃ (r : Fin 256) (j : Fin 384), y = ix2 r j := ⟨y 0, y 1, by funext a; match a with | ⟨0, _⟩ => rfl | ⟨1, _⟩ => rfl⟩
  exact latentQ_of m c t r j
theorem out17_eq : out17 m c t = latents m c t := by
  funext y
  unfold out17 ran
  frame_out
  obtain ⟨r, j, rfl⟩ : ∃ (r : Fin 256) (j : Fin 256), y = ix2 r j := ⟨y 0, y 1, by funext a; match a with | ⟨0, _⟩ => rfl | ⟨1, _⟩ => rfl⟩
  exact latent_of m c t r j
theorem out18_eq : out18 m c t = rotaries m c t := by
  funext y
  unfold out18 ran
  frame_out
  obtain ⟨r, j, rfl⟩ : ∃ (r : Fin 256) (j : Fin 64), y = ix2 r j := ⟨y 0, y 1, by funext a; match a with | ⟨0, _⟩ => rfl | ⟨1, _⟩ => rfl⟩
  exact (turned_apply r _ _ j).trans (rotary_of m c t r ⟨j.val, by omega⟩ j rfl)
theorem out20_eq : out20 m c t = steps m c t := by
  funext y
  unfold out20 ran
  frame_out
  obtain ⟨r, j, rfl⟩ : ∃ (r : Fin 256) (j : Fin 128), y = ix2 r j := ⟨y 0, y 1, by funext a; match a with | ⟨0, _⟩ => rfl | ⟨1, _⟩ => rfl⟩
  exact (step_apply r _ j).trans (step_of m c t r j)
theorem out21_eq : out21 m c t = stepsAcross m c t := by
  funext y
  unfold out21 ran
  frame_out
  obtain ⟨r, j, rfl⟩ : ∃ (r : Fin 32) (j : Fin 256), y = ix2 r j := ⟨y 0, y 1, by funext a; match a with | ⟨0, _⟩ => rfl | ⟨1, _⟩ => rfl⟩
  exact (stepT_apply j _ r).trans ((step_of m c t j ⟨r.val, by omega⟩).trans (dif_pos r.isLt))

theorem both_latent (r : Fin 256) (j : Fin 256) (r' : Fin 256) (j' : Fin 320) (hr : r'.val = 0 + r.val) (hj : j'.val = 0 + j.val) :
    latentCast m c t (ix2 r j) = boths m c t (ix2 r' j') := by
  obtain rfl : r' = r := Fin.ext (by omega)
  have hl := j.isLt
  change _ = (args m c).both (token t r') j'
  rw [latentCast_of, Args.both, dif_pos (by omega)]
  exact congrArg ((args m c).latent _) (Fin.ext (by dsimp only; omega))
theorem both_rotary (r : Fin 256) (j : Fin 64) (r' : Fin 256) (j' : Fin 320) (hr : r'.val = 0 + r.val) (hj : j'.val = 256 + j.val) :
    k0_pay12 (small m c t) (iblk m c 7 t) (ix2 r j) = boths m c t (ix2 r' j') := by
  obtain rfl : r' = r := Fin.ext (by omega)
  change _ = (args m c).both (token t r') j'
  rw [Args.both, dif_neg (by omega)]
  refine (turned_cast r' _ _ j).trans ((rotary_of m c t r' _ j rfl).trans ?_)
  exact congrArg ((args m c).rotary _) (Fin.ext (by dsimp only; omega))
theorem out19_eq : out19 m c t = boths m c t := by
  funext y
  unfold out19 ran
  frame_out
  refine View.canon_apply_of_pieces (Val := Elt Ideal) (e := .bf16) (boths m c t) _ ?_ y ?_
  rotate_left
  · exact View.cover_of_tiledBy _ ![256, 64] (by sl_kernel_rfl) y
  exact cons (piece2 _ _ _ _ inb_S256x320_S256x64_0_256 (both_rotary m c t))
    <| one (piece2 _ _ _ _ inb_S256x320_S256x256_0_0 (both_latent m c t))

theorem z_piece (o : ℕ) (inb : ∀ a, ![0, o] a + ![1024, 1024] a ≤ S1024x2048.size a) (r : Fin 256) (j : Fin 1024) (r' : Fin 256) (j' : Fin 2048)
    (hr : r'.val = 0 + r.val) (hj : j'.val = o + j.val) :
    k0_pay92 (k0_pay2 (rows m c t)) (View.ld (iblk m c 3 t) (Rect.unit (s := S1024x2048) ![0, o] ![1024, 1024] inb)) (ix2 r j) = zs m c t (ix2 r' j') := by
  obtain rfl : r' = r := Fin.ext (by omega)
  exact (part_apply r' _ _ j).trans (part_of m c t r' _ j 704 _ j' fun k =>
    (ld_cols _ o inb k j j' hj).trans ((block3 m c t k j').trans (zDown m c k j')))
theorem out22_eq : out22 m c t = zs m c t := by
  funext y
  unfold out22 ran
  frame_out
  refine View.canon_apply_of_pieces (Val := Elt Ideal) (e := .bf16) (zs m c t) _ ?_ y ?_
  rotate_left
  · exact View.cover_of_tiledBy _ ![256, 1024] (by sl_kernel_rfl) y
  exact cons (piece2 _ _ _ _ inb_S256x2048_S256x1024_0_1024 (z_piece m c t 1024 inb_S1024x2048_S1024x1024_0_1024))
    <| one (piece2 _ _ _ _ inb_S256x2048_S256x1024_0_0 (z_piece m c t 0 inb_S1024x2048_S1024x1024_0_0))

theorem x_piece (o : ℕ) (inb : ∀ a, ![0, o] a + ![1024, 1024] a ≤ S1024x3072.size a) (r : Fin 256) (j : Fin 1024) (r' : Fin 256) (j' : Fin 3072)
    (hr : r'.val = 0 + r.val) (hj : j'.val = o + j.val) :
    k0_pay94 (k0_pay2 (rows m c t)) (View.ld (iblk m c 4 t) (Rect.unit (s := S1024x3072) ![0, o] ![1024, 1024] inb)) (ix2 r j) = xs m c t (ix2 r' j') := by
  obtain rfl : r' = r := Fin.ext (by omega)
  exact (part_apply r' _ _ j).trans (part_of m c t r' _ j 2752 _ j' fun k =>
    (ld_cols _ o inb k j j' hj).trans ((block4 m c t k j').trans (xDown m c k j')))
theorem out23_eq : out23 m c t = xs m c t := by
  funext y
  unfold out23 ran
  frame_out
  refine View.canon_apply_of_pieces (Val := Elt Ideal) (e := .bf16) (xs m c t) _ ?_ y ?_
  rotate_left
  · exact View.cover_of_tiledBy _ ![256, 1024] (by sl_kernel_rfl) y
  exact cons (piece2 _ _ _ _ inb_S256x3072_S256x1024_0_2048 (x_piece m c t 2048 inb_S1024x3072_S1024x1024_0_2048))
    <| cons (piece2 _ _ _ _ inb_S256x3072_S256x1024_0_1024 (x_piece m c t 1024 inb_S1024x3072_S1024x1024_0_1024))
    <| one (piece2 _ _ _ _ inb_S256x3072_S256x1024_0_0 (x_piece m c t 0 inb_S1024x3072_S1024x1024_0_0))

theorem gate_piece (o : ℕ) (inb : ∀ a, ![0, o] a + ![1024, 1024] a ≤ S1024x3072.size a) (inb' : ∀ a, ![0, o] a + ![1, 1024] a ≤ S1x3072.size a)
    (r : Fin 256) (j : Fin 1024) (r' : Fin 256) (j' : Fin 3072) (hr : r'.val = 0 + r.val) (hj : j'.val = o + j.val) :
    k0_pay107 (k0_pay2 (rows m c t)) (View.ld (iblk m c 6 t) (Rect.unit (s := S1024x3072) ![0, o] ![1024, 1024] inb))
      (View.ld (iblk m c 10 t) (Rect.unit (s := S1x3072) ![0, o] ![1, 1024] inb')) (ix2 r j) = gates m c t (ix2 r' j') := by
  obtain rfl : r' = r := Fin.ext (by omega)
  exact (gate_apply r' _ _ _ j).trans (congrArg₂ (fun a b => Ideal.logistic (a + b))
    (part_of m c t r' _ j 6880 _ j' fun k => (ld_cols _ o inb k j j' hj).trans ((block6 m c t k j').trans (gateDown m c k j')))
    ((ld_cols _ o inb' 0 j j' hj).trans ((block10 m c t j').trans (bias m c j'))))
theorem out25_eq : out25 m c t = gates m c t := by
  funext y
  unfold out25 ran
  frame_out
  refine View.canon_apply_of_pieces (Val := Elt Ideal) (e := .bf16) (gates m c t) _ ?_ y ?_
  rotate_left
  · exact View.cover_of_tiledBy _ ![256, 1024] (by sl_kernel_rfl) y
  exact cons (piece2 _ _ _ _ inb_S256x3072_S256x1024_0_2048 (gate_piece m c t 2048 inb_S1024x3072_S1024x1024_0_2048 inb_S1x3072_S1x1024_0_2048))
    <| cons (piece2 _ _ _ _ inb_S256x3072_S256x1024_0_1024 (gate_piece m c t 1024 inb_S1024x3072_S1024x1024_0_1024 inb_S1x3072_S1x1024_0_1024))
    <| one (piece2 _ _ _ _ inb_S256x3072_S256x1024_0_0 (gate_piece m c t 0 inb_S1024x3072_S1024x1024_0_0 inb_S1x3072_S1x1024_0_0))

end Down

section Memory

/-- The columns of a head of the memory. -/
abbrev memCols (X : Vec Ideal S256x1024 .f32) (o : ℕ) (inb : ∀ a, ![0, o] a + ![256, 256] a ≤ S256x1024.size a) : Vec Ideal S256x256 .f32 :=
  View.ld X (Rect.unit (s := S256x1024) ![0, o] ![256, 256] inb)

variable (h : Fin 4) (o : ℕ) (ho : o = 256 * h.val) (inb : ∀ a, ![0, o] a + ![256, 256] a ≤ S256x1024.size a)

include ho in
theorem memCols_at (X : Vec Ideal S256x1024 .f32) (k e : Fin 256) : memCols X o inb (ix2 k e) = X (ix2 k ⟨256 * h.val + e.val, by omega⟩) :=
  ld_cols _ o inb k e _ (by dsimp only; omega)

include ho in
theorem mem_piece (s : FVec Ideal S256x256 .f32) (r : Fin 256)
    (hs : ∀ k, s (ix2 r k) = ∑ e : Fin 256, product (at2 (rows m c t) r) (at2 (iblk m c 5 t)) ⟨256 * h.val + e.val, by omega⟩ * memCols (iblk m c 14 t) o inb (ix2 k e))
    (j r' : Fin 256) (j' : Fin 1024) (hr : r'.val = 0 + r.val) (hj : j'.val = o + j.val) :
    k0_pay104 s (memCols (iblk m c 15 t) o inb) (ix2 r j) = memories m c t (ix2 r' j') := by
  obtain rfl : r' = r := Fin.ext (by omega)
  refine (mem_apply r' s _ j).trans (memory_of m c t r' h _ _ (fun k => ?_) (memCols_at h o ho inb _) j j' (by omega))
  rw [hs]
  exact memScore_of m c t r' h _ (memCols_at h o ho inb _) k

theorem mem_first (r j r' : Fin 256) (j' : Fin 1024) (hr : r'.val = 0 + r.val) (hj : j'.val = 0 + j.val) :
    k0_pay101 (k0_pay2 (rows m c t)) (iblk m c 5 t) (memCols (iblk m c 14 t) 0 inb_S256x1024_S256x256_0_0)
      (memCols (iblk m c 15 t) 0 inb_S256x1024_S256x256_0_0) (ix2 r j) = memories m c t (ix2 r' j') := by
  obtain rfl : r' = r := Fin.ext (by omega)
  refine (mem0_apply r' _ _ _ _ j).trans (memory_of m c t r' 0 _ _ (fun k => ?_) (memCols_at 0 0 rfl _ _) j j' (by simpa using hj))
  refine Eq.trans ?_ (memScore_of m c t r' 0 _ (memCols_at 0 0 rfl inb_S256x1024_S256x256_0_0 _) k)
  have z : ∀ e : Fin 256, 256 * (0 : Fin 4).val + e.val = e.val := fun e => Nat.zero_add _
  simp only [z]

theorem out24_eq : out24 m c t = memories m c t := by
  funext y
  unfold out24 ran
  frame_out
  refine View.canon_apply_of_pieces (Val := Elt Ideal) (e := .bf16) (memories m c t) _ ?_ y ?_
  rotate_left
  · exact View.cover_of_tiledBy _ ![256, 256] (by sl_kernel_rfl) y
  exact cons (piece2 _ _ _ _ inb_S256x1024_S256x256_0_768 fun r => mem_piece m c t 3 768 rfl inb_S256x1024_S256x256_0_768 _ r (score3_apply r _ _ _))
    <| cons (piece2 _ _ _ _ inb_S256x1024_S256x256_0_512 fun r => mem_piece m c t 2 512 rfl inb_S256x1024_S256x256_0_512 _ r (score2_apply r _ _ _))
    <| cons (piece2 _ _ _ _ inb_S256x1024_S256x256_0_256 fun r => mem_piece m c t 1 256 rfl inb_S256x1024_S256x256_0_256 _ r (score1_apply r _ _ _))
    <| one (piece2 _ _ _ _ inb_S256x1024_S256x256_0_0 (mem_first m c t))

end Memory

section KeysAndValues

abbrev keys : Vec Ideal S8x256x256 .bf16 := fun y => (args m c).key (token t (y 1)) (y 0) (y 2)
abbrev values : Vec Ideal S8x1x128x256 .bf16 := fun y => (args m c).value (token t (y 3)) (y 0) (y 2)

theorem keyTurned (h : Fin 8) (r : Fin 256) (d : Fin 128) (r' d' : Fin 256) (hr : r'.val = 0 + r.val) (hd : d'.val = 128 + d.val) :
    k0_pay58 (lanes m c t) (ix3 0 r d) = keys m c t (ix3 h r' d') := by
  obtain rfl : r' = r := Fin.ext (by omega)
  exact key_turned m c t r' h d d' hd

variable (p : Fin 4) (o : ℕ) (ho : p.val = o) (inb : ∀ a, ![o, 0, 0] a + ![1, 256, 256] a ≤ S4x256x256.size a)

include ho in
theorem keyPlain0 (r : Fin 256) (d : Fin 128) (r' d' : Fin 256) (hr : r'.val = 0 + r.val) (hd : d'.val = 0 + d.val) :
    k0_pay57 (latentCast m c t) (View.ld (iblk m c 11 t) (Rect.unit (s := S4x256x256) ![o, 0, 0] ![1, 256, 256] inb)) (ix3 0 r d)
      = keys m c t (ix3 ⟨2 * p.val + 0, by omega⟩ r' d') := by
  obtain rfl : r' = r := Fin.ext (by omega)
  refine (key0_apply r' _ _ d).trans (Eq.trans ?_ (key_plain m c t r' p 0 _ d d' (by omega) fun k j =>
    (ld_layer _ o inb p ho k j).trans (block11 m c t p k j)))
  have z : 128 * (0 : Fin 2).val + d.val = d.val := Nat.zero_add _
  simp only [z]
include ho in
theorem keyPlain1 (r : Fin 256) (d : Fin 128) (r' d' : Fin 256) (hr : r'.val = 0 + r.val) (hd : d'.val = 0 + d.val) :
    k0_pay60 (k0_pay59 (latentCast m c t) (View.ld (iblk m c 11 t) (Rect.unit (s := S4x256x256) ![o, 0, 0] ![1, 256, 256] inb))) (ix3 0 r d)
      = keys m c t (ix3 ⟨2 * p.val + 1, by omega⟩ r' d') := by
  obtain rfl : r' = r := Fin.ext (by omega)
  exact (key1_apply r' _ _ d).trans (key_plain m c t r' p 1 _ d d' (by omega) fun k j =>
    (ld_layer _ o inb p ho k j).trans (block11 m c t p k j))
include ho in
theorem valuePiece0 (d : Fin 128) (r : Fin 256) :
    k0_pay63 (k0_pay55 (latent m c t)) (View.ld (iblk m c 12 t) (Rect.unit (s := S4x256x256) ![o, 0, 0] ![1, 256, 256] inb)) (ix4 0 0 d r)
      = values m c t (ix4 ⟨2 * p.val + 0, by omega⟩ 0 d r) := by
  refine (value0_apply r _ _ d).trans (Eq.trans ?_ (value_of m c t r p 0 _ d fun k j =>
    (ld_layer _ o inb p ho k j).trans (block12 m c t p k j)))
  have z : 128 * (0 : Fin 2).val + d.val = d.val := Nat.zero_add _
  simp only [z]
include ho in
theorem valuePiece1 (d : Fin 128) (r : Fin 256) :
    k0_pay64 (k0_pay55 (latent m c t)) (View.ld (iblk m c 12 t) (Rect.unit (s := S4x256x256) ![o, 0, 0] ![1, 256, 256] inb)) (ix4 0 0 d r)
      = values m c t (ix4 ⟨2 * p.val + 1, by omega⟩ 0 d r) :=
  (value1_apply r _ _ d).trans (value_of m c t r p 1 _ d fun k j =>
    (ld_layer _ o inb p ho k j).trans (block12 m c t p k j))

theorem out26_eq : out26 m c t = keys m c t := by
  funext y
  unfold out26 ran
  frame_out
  refine View.canon_apply_of_pieces (Val := Elt Ideal) (e := .bf16) (keys m c t) _ ?_ y ?_
  rotate_left
  · exact View.cover_of_tiledBy _ ![1, 256, 128] (by sl_kernel_rfl) y
  exact cons (piece3 _ _ _ _ _ inb_S8x256x256_S1x256x128_7_0_128 7 rfl (keyTurned m c t 7))
    <| cons (piece3 _ _ _ _ _ inb_S8x256x256_S1x256x128_7_0_0 7 rfl (keyPlain1 m c t 3 3 rfl inb_S4x256x256_S1x256x256_3_0_0))
    <| cons (piece3 _ _ _ _ _ inb_S8x256x256_S1x256x128_6_0_128 6 rfl (keyTurned m c t 6))
    <| cons (piece3 _ _ _ _ _ inb_S8x256x256_S1x256x128_6_0_0 6 rfl (keyPlain0 m c t 3 3 rfl inb_S4x256x256_S1x256x256_3_0_0))
    <| cons (piece3 _ _ _ _ _ inb_S8x256x256_S1x256x128_5_0_128 5 rfl (keyTurned m c t 5))
    <| cons (piece3 _ _ _ _ _ inb_S8x256x256_S1x256x128_5_0_0 5 rfl (keyPlain1 m c t 2 2 rfl inb_S4x256x256_S1x256x256_2_0_0))
    <| cons (piece3 _ _ _ _ _ inb_S8x256x256_S1x256x128_4_0_128 4 rfl (keyTurned m c t 4))
    <| cons (piece3 _ _ _ _ _ inb_S8x256x256_S1x256x128_4_0_0 4 rfl (keyPlain0 m c t 2 2 rfl inb_S4x256x256_S1x256x256_2_0_0))
    <| cons (piece3 _ _ _ _ _ inb_S8x256x256_S1x256x128_3_0_128 3 rfl (keyTurned m c t 3))
    <| cons (piece3 _ _ _ _ _ inb_S8x256x256_S1x256x128_3_0_0 3 rfl (keyPlain1 m c t 1 1 rfl inb_S4x256x256_S1x256x256_1_0_0))
    <| cons (piece3 _ _ _ _ _ inb_S8x256x256_S1x256x128_2_0_128 2 rfl (keyTurned m c t 2))
    <| cons (piece3 _ _ _ _ _ inb_S8x256x256_S1x256x128_2_0_0 2 rfl (keyPlain0 m c t 1 1 rfl inb_S4x256x256_S1x256x256_1_0_0))
    <| cons (piece3 _ _ _ _ _ inb_S8x256x256_S1x256x128_1_0_128 1 rfl (keyTurned m c t 1))
    <| cons (piece3 _ _ _ _ _ inb_S8x256x256_S1x256x128_1_0_0 1 rfl (keyPlain1 m c t 0 0 rfl inb_S4x256x256_S1x256x256_0_0_0))
    <| cons (piece3 _ _ _ _ _ inb_S8x256x256_S1x256x128_0_0_128 0 rfl (keyTurned m c t 0))
    <| one (piece3 _ _ _ _ _ inb_S8x256x256_S1x256x128_0_0_0 0 rfl (keyPlain0 m c t 0 0 rfl inb_S4x256x256_S1x256x256_0_0_0))

theorem out27_eq : out27 m c t = values m c t := by
  funext y
  unfold out27 ran
  frame_out
  refine View.canon_apply_of_pieces (Val := Elt Ideal) (e := .bf16) (values m c t) _ ?_ y ?_
  rotate_left
  · exact View.cover_of_tiledBy _ ![1, 1, 128, 256] (by sl_kernel_rfl) y
  exact cons (piece4 _ _ _ inb_S8x1x128x256_S1x1x128x256_7_0_0_0 7 rfl (valuePiece1 m c t 3 3 rfl inb_S4x256x256_S1x256x256_3_0_0))
    <| cons (piece4 _ _ _ inb_S8x1x128x256_S1x1x128x256_6_0_0_0 6 rfl (valuePiece0 m c t 3 3 rfl inb_S4x256x256_S1x256x256_3_0_0))
    <| cons (piece4 _ _ _ inb_S8x1x128x256_S1x1x128x256_5_0_0_0 5 rfl (valuePiece1 m c t 2 2 rfl inb_S4x256x256_S1x256x256_2_0_0))
    <| cons (piece4 _ _ _ inb_S8x1x128x256_S1x1x128x256_4_0_0_0 4 rfl (valuePiece0 m c t 2 2 rfl inb_S4x256x256_S1x256x256_2_0_0))
    <| cons (piece4 _ _ _ inb_S8x1x128x256_S1x1x128x256_3_0_0_0 3 rfl (valuePiece1 m c t 1 1 rfl inb_S4x256x256_S1x256x256_1_0_0))
    <| cons (piece4 _ _ _ inb_S8x1x128x256_S1x1x128x256_2_0_0_0 2 rfl (valuePiece0 m c t 1 1 rfl inb_S4x256x256_S1x256x256_1_0_0))
    <| cons (piece4 _ _ _ inb_S8x1x128x256_S1x1x128x256_1_0_0_0 1 rfl (valuePiece1 m c t 0 0 rfl inb_S4x256x256_S1x256x256_0_0_0))
    <| one (piece4 _ _ _ inb_S8x1x128x256_S1x1x128x256_0_0_0_0 0 rfl (valuePiece0 m c t 0 0 rfl inb_S4x256x256_S1x256x256_0_0_0))

end KeysAndValues

end Cert.ProjectionPieces

end
-- ==== Proof.ProjectionArray.lean ====
/-
  The projection kernel's output arrays over the extended reals: the results of the projection for the arrays it is
  launched with.
-/
module

public import proofs.«01_k».proof.Proof.ProjectionPieces
public import Idealize.ShloMosaic.Lib.Pipeline.ValueKit

@[expose] public section

set_option maxRecDepth 16384
set_option maxHeartbeats 1000000

noncomputable section

open Idealize.ShloMosaic Idealize.ShloMosaic.TcCoe Idealize.SL.Sem
open Cert.Kernel3Ideal Cert.Kernel3Ideal.Gen Cert.FeedForward Cert.Projection Cert.ProjectionBlock
open Cert.ProjectionFrame Cert.ProjectionPieces

namespace Cert.ProjectionArray

theorem index16 : ∀ t : Fin cfg0.N, win0_16.index t = ![t.val, 0] := (by decide +kernel : ∀ t : Fin grid0.N, win0_16.index t = ![t.val, 0])
theorem index17 : ∀ t : Fin cfg0.N, win0_17.index t = ![t.val, 0] := (by decide +kernel : ∀ t : Fin grid0.N, win0_17.index t = ![t.val, 0])
theorem index18 : ∀ t : Fin cfg0.N, win0_18.index t = ![t.val, 0] := (by decide +kernel : ∀ t : Fin grid0.N, win0_18.index t = ![t.val, 0])
theorem index19 : ∀ t : Fin cfg0.N, win0_19.index t = ![t.val, 0] := (by decide +kernel : ∀ t : Fin grid0.N, win0_19.index t = ![t.val, 0])
theorem index20 : ∀ t : Fin cfg0.N, win0_20.index t = ![t.val, 0] := (by decide +kernel : ∀ t : Fin grid0.N, win0_20.index t = ![t.val, 0])
theorem index21 : ∀ t : Fin cfg0.N, win0_21.index t = ![0, t.val] := (by decide +kernel : ∀ t : Fin grid0.N, win0_21.index t = ![0, t.val])
theorem index22 : ∀ t : Fin cfg0.N, win0_22.index t = ![t.val, 0] := (by decide +kernel : ∀ t : Fin grid0.N, win0_22.index t = ![t.val, 0])
theorem index23 : ∀ t : Fin cfg0.N, win0_23.index t = ![t.val, 0] := (by decide +kernel : ∀ t : Fin grid0.N, win0_23.index t = ![t.val, 0])
theorem index24 : ∀ t : Fin cfg0.N, win0_24.index t = ![t.val, 0] := (by decide +kernel : ∀ t : Fin grid0.N, win0_24.index t = ![t.val, 0])
theorem index25 : ∀ t : Fin cfg0.N, win0_25.index t = ![t.val, 0] := (by decide +kernel : ∀ t : Fin grid0.N, win0_25.index t = ![t.val, 0])
theorem index26 : ∀ t : Fin cfg0.N, win0_26.index t = ![0, t.val, 0] := (by decide +kernel : ∀ t : Fin grid0.N, win0_26.index t = ![0, t.val, 0])
theorem index27 : ∀ t : Fin cfg0.N, win0_27.index t = ![0, t.val, 0, 0] := (by decide +kernel : ∀ t : Fin grid0.N, win0_27.index t = ![0, t.val, 0, 0])
theorem index28 : ∀ t : Fin cfg0.N, win0_28.index t = ![0, 0, t.val] := (by decide +kernel : ∀ t : Fin grid0.N, win0_28.index t = ![0, 0, t.val])

theorem ext2 {n p : ℕ} (y : (⟨2, ![n, p]⟩ : Shape).Idx) : ∃ (r : Fin n) (j : Fin p), y = ix2 r j :=
  ⟨y 0, y 1, by funext a; match a with | ⟨0, _⟩ => rfl | ⟨1, _⟩ => rfl⟩
theorem ext3 {n p q : ℕ} (y : (⟨3, ![n, p, q]⟩ : Shape).Idx) : ∃ (h : Fin n) (r : Fin p) (j : Fin q), y = ix3 h r j :=
  ⟨y 0, y 1, y 2, by funext a; match a with | ⟨0, _⟩ => rfl | ⟨1, _⟩ => rfl | ⟨2, _⟩ => rfl⟩
theorem ext4 {n p q u : ℕ} (y : (⟨4, ![n, p, q, u]⟩ : Shape).Idx) :
    ∃ (h : Fin n) (r : Fin p) (j : Fin q) (e : Fin u), y = ix4 h r j e :=
  ⟨y 0, y 1, y 2, y 3, by funext a; match a with | ⟨0, _⟩ => rfl | ⟨1, _⟩ => rfl | ⟨2, _⟩ => rfl | ⟨3, _⟩ => rfl⟩

/-- Functions of two coordinates at places with the same numbers. -/
theorem at2_eq {n p : ℕ} (f : Fin n → Fin p → EReal) {r r' : Fin n} {j j' : Fin p} (h0 : r'.val = r.val) (h1 : j'.val = j.val) :
    f r j = f r' j' := by rw [Fin.ext h0.symm, Fin.ext h1.symm]
theorem at3_eq {n p q : ℕ} (f : Fin n → Fin p → Fin q → EReal) {h h' : Fin n} {r r' : Fin p} {j j' : Fin q}
    (h0 : h'.val = h.val) (h1 : r'.val = r.val) (h2 : j'.val = j.val) : f h r j = f h' r' j' := by
  rw [Fin.ext h0.symm, Fin.ext h1.symm, Fin.ext h2.symm]
theorem at4_eq {n p q u : ℕ} (f : Fin n → Fin p → Fin q → Fin u → EReal) {h h' : Fin n} {r r' : Fin p} {j j' : Fin q} {e e' : Fin u}
    (h0 : h'.val = h.val) (h1 : r'.val = r.val) (h2 : j'.val = j.val) (h3 : e'.val = e.val) : f h r j e = f h' r' j' e' := by
  rw [Fin.ext h0.symm, Fin.ext h1.symm, Fin.ext h2.symm, Fin.ext h3.symm]

variable (m : (ℓ : Loc nD τ sig) → Buf (Elt Ideal) ℓ) (c : Dev nD)

theorem arr16 : (dats m 0 c).arrAt 16 cfg0.N = (args m c).latentQs := by
  refine (dats m 0 c).arrAt_eq_of_covers 16 _ (by decide +kernel) fun t hf y => ?_
  blk_simp
  obtain ⟨r, j, rfl⟩ := ext2 y
  have h0 : (((win0_16.blk t).view.emb (ix2 r j)) 0 : ℕ) = 256 * t.val + r.val := by blk_simp [index16 t]; omega
  have h1 : (((win0_16.blk t).view.emb (ix2 r j)) 1 : ℕ) = j.val := by blk_simp [index16 t]
  rw [after16, out16_eq]
  exact at2_eq (fun r => (args m c).latentQ r) h0 h1

theorem arr17 : (dats m 0 c).arrAt 17 cfg0.N = (args m c).latents := by
  refine (dats m 0 c).arrAt_eq_of_covers 17 _ (by decide +kernel) fun t hf y => ?_
  blk_simp
  obtain ⟨r, j, rfl⟩ := ext2 y
  have h0 : (((win0_17.blk t).view.emb (ix2 r j)) 0 : ℕ) = 256 * t.val + r.val := by blk_simp [index17 t]; omega
  have h1 : (((win0_17.blk t).view.emb (ix2 r j)) 1 : ℕ) = j.val := by blk_simp [index17 t]
  rw [after17, out17_eq]
  exact at2_eq (fun r => (args m c).latent r) h0 h1

theorem arr18 : (dats m 0 c).arrAt 18 cfg0.N = (args m c).rotaries := by
  refine (dats m 0 c).arrAt_eq_of_covers 18 _ (by decide +kernel) fun t hf y => ?_
  blk_simp
  obtain ⟨r, j, rfl⟩ := ext2 y
  have h0 : (((win0_18.blk t).view.emb (ix2 r j)) 0 : ℕ) = 256 * t.val + r.val := by blk_simp [index18 t]; omega
  have h1 : (((win0_18.blk t).view.emb (ix2 r j)) 1 : ℕ) = j.val := by blk_simp [index18 t]
  rw [after18, out18_eq]
  exact at2_eq (fun r => (args m c).rotary r) h0 h1

theorem arr19 : (dats m 0 c).arrAt 19 cfg0.N = (args m c).boths := by
  refine (dats m 0 c).arrAt_eq_of_covers 19 _ (by decide +kernel) fun t hf y => ?_
  blk_simp
  obtain ⟨r, j, rfl⟩ := ext2 y
  have h0 : (((win0_19.blk t).view.emb (ix2 r j)) 0 : ℕ) = 256 * t.val + r.val := by blk_simp [index19 t]; omega
  have h1 : (((win0_19.blk t).view.emb (ix2 r j)) 1 : ℕ) = j.val := by blk_simp [index19 t]
  rw [after19, out19_eq]
  exact at2_eq (fun r => (args m c).both r) h0 h1

theorem arr20 : (dats m 0 c).arrAt 20 cfg0.N = (args m c).steps := by
  refine (dats m 0 c).arrAt_eq_of_covers 20 _ (by decide +kernel) fun t hf y => ?_
  blk_simp
  obtain ⟨r, j, rfl⟩ := ext2 y
  have h0 : (((win0_20.blk t).view.emb (ix2 r j)) 0 : ℕ) = 256 * t.val + r.val := by blk_simp [index20 t]; omega
  have h1 : (((win0_20.blk t).view.emb (ix2 r j)) 1 : ℕ) = j.val := by blk_simp [index20 t]
  rw [after20, out20_eq]
  exact at2_eq (fun r => (args m c).step r) h0 h1

theorem arr22 : (dats m 0 c).arrAt 22 cfg0.N = (args m c).zs := by
  refine (dats m 0 c).arrAt_eq_of_covers 22 _ (by decide +kernel) fun t hf y => ?_
  blk_simp
  obtain ⟨r, j, rfl⟩ := ext2 y
  have h0 : (((win0_22.blk t).view.emb (ix2 r j)) 0 : ℕ) = 256 * t.val + r.val := by blk_simp [index22 t]; omega
  have h1 : (((win0_22.blk t).view.emb (ix2 r j)) 1 : ℕ) = j.val := by blk_simp [index22 t]
  rw [after22, out22_eq]
  exact at2_eq (fun r => (args m c).part r 704 2048 (by decide)) h0 h1

theorem arr23 : (dats m 0 c).arrAt 23 cfg0.N = (args m c).xs := by
  refine (dats m 0 c).arrAt_eq_of_covers 23 _ (by decide +kernel) fun t hf y => ?_
  blk_simp
  obtain ⟨r, j, rfl⟩ := ext2 y
  have h0 : (((win0_23.blk t).view.emb (ix2 r j)) 0 : ℕ) = 256 * t.val + r.val := by blk_simp [index23 t]; omega
  have h1 : (((win0_23.blk t).view.emb (ix2 r j)) 1 : ℕ) = j.val := by blk_simp [index23 t]
  rw [after23, out23_eq]
  exact at2_eq (fun r => (args m c).part r 2752 3072 (by decide)) h0 h1

theorem arr24 : (dats m 0 c).arrAt 24 cfg0.N = (args m c).memories := by
  refine (dats m 0 c).arrAt_eq_of_covers 24 _ (by decide +kernel) fun t hf y => ?_
  blk_simp
  obtain ⟨r, j, rfl⟩ := ext2 y
  have h0 : (((win0_24.blk t).view.emb (ix2 r j)) 0 : ℕ) = 256 * t.val + r.val := by blk_simp [index24 t]; omega
  have h1 : (((win0_24.blk t).view.emb (ix2 r j)) 1 : ℕ) = j.val := by blk_simp [index24 t]
  rw [after24, out24_eq]
  exact at2_eq (fun r => (args m c).memory r) h0 h1

theorem arr25 : (dats m 0 c).arrAt 25 cfg0.N = (args m c).gates := by
  refine (dats m 0 c).arrAt_eq_of_covers 25 _ (by decide +kernel) fun t hf y => ?_
  blk_simp
  obtain ⟨r, j, rfl⟩ := ext2 y
  have h0 : (((win0_25.blk t).view.emb (ix2 r j)) 0 : ℕ) = 256 * t.val + r.val := by blk_simp [index25 t]; omega
  have h1 : (((win0_25.blk t).view.emb (ix2 r j)) 1 : ℕ) = j.val := by blk_simp [index25 t]
  rw [after25, out25_eq]
  exact at2_eq (fun r => (args m c).gate r) h0 h1

theorem arr21 : (dats m 0 c).arrAt 21 cfg0.N = (args m c).stepsAcross := by
  refine (dats m 0 c).arrAt_eq_of_covers 21 _ (by decide +kernel) fun t hf y => ?_
  blk_simp
  obtain ⟨i, r, rfl⟩ := ext2 y
  have h0 : (((win0_21.blk t).view.emb (ix2 i r)) 0 : ℕ) = i.val := by blk_simp [index21 t]
  have h1 : (((win0_21.blk t).view.emb (ix2 i r)) 1 : ℕ) = 256 * t.val + r.val := by blk_simp [index21 t]; omega
  rw [after21, out21_eq]
  exact at2_eq (fun i r => (args m c).part r 5824 32 (by decide) i) h0 h1

theorem arr26 : (dats m 0 c).arrAt 26 cfg0.N = (args m c).keys := by
  refine (dats m 0 c).arrAt_eq_of_covers 26 _ (by decide +kernel) fun t hf y => ?_
  blk_simp
  obtain ⟨h, r, j, rfl⟩ := ext3 y
  have h0 : (((win0_26.blk t).view.emb (ix3 h r j)) 0 : ℕ) = h.val := by blk_simp [index26 t]
  have h1 : (((win0_26.blk t).view.emb (ix3 h r j)) 1 : ℕ) = 256 * t.val + r.val := by blk_simp [index26 t]; omega
  have h2 : (((win0_26.blk t).view.emb (ix3 h r j)) 2 : ℕ) = j.val := by blk_simp [index26 t]
  rw [after26, out26_eq]
  exact at3_eq (fun h r j => (args m c).key r h j) h0 h1 h2

theorem arr27 : (dats m 0 c).arrAt 27 cfg0.N = (args m c).values := by
  refine (dats m 0 c).arrAt_eq_of_covers 27 _ (by decide +kernel) fun t hf y => ?_
  blk_simp
  obtain ⟨h, l, d, e, rfl⟩ := ext4 y
  obtain rfl : l = 0 := Subsingleton.elim _ _
  have h0 : (((win0_27.blk t).view.emb (ix4 h 0 d e)) 0 : ℕ) = h.val := by blk_simp [index27 t]
  have h1 : (((win0_27.blk t).view.emb (ix4 h 0 d e)) 1 : ℕ) = t.val := by blk_simp [index27 t]; exact Nat.add_zero _
  have h2 : (((win0_27.blk t).view.emb (ix4 h 0 d e)) 2 : ℕ) = d.val := by blk_simp [index27 t]
  have h3 : (((win0_27.blk t).view.emb (ix4 h 0 d e)) 3 : ℕ) = e.val := by blk_simp [index27 t]
  rw [after27, out27_eq]
  refine Eq.trans ?_ (at4_eq (args m c).valueAt (h := h) (r := ⟨t.val, t_lt t⟩) (j := d) (e := e) h0 h1 h2 h3)
  exact at2_eq (fun r d => (args m c).value r h d) (r := token t e) (by show t.val * 256 + e.val = 256 * t.val + e.val; omega) (rfl : d.val = d.val)

theorem arr28 : (dats m 0 c).arrAt 28 cfg0.N = (args m c).queries := by
  refine (dats m 0 c).arrAt_eq_of_covers 28 _ (by decide +kernel) fun t hf y => ?_
  blk_simp
  obtain ⟨h, j, r, rfl⟩ := ext3 y
  have h0 : (((win0_28.blk t).view.emb (ix3 h j r)) 0 : ℕ) = h.val := by blk_simp [index28 t]
  have h1 : (((win0_28.blk t).view.emb (ix3 h j r)) 1 : ℕ) = j.val := by blk_simp [index28 t]
  have h2 : (((win0_28.blk t).view.emb (ix3 h j r)) 2 : ℕ) = 256 * t.val + r.val := by blk_simp [index28 t]; omega
  rw [after28, out28_eq]
  exact at3_eq (fun h j r => (args m c).query r h j) h0 h1 h2

/-- The run: every result's array, and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v55_0) = (args m c).latentQs
      ∧ r.2.mem ((c.tc : Thread nD τ).loc main_v55_1) = (args m c).latents
      ∧ r.2.mem ((c.tc : Thread nD τ).loc main_v55_2) = (args m c).rotaries
      ∧ r.2.mem ((c.tc : Thread nD τ).loc main_v55_3) = (args m c).boths
      ∧ r.2.mem ((c.tc : Thread nD τ).loc main_v55_4) = (args m c).steps
      ∧ r.2.mem ((c.tc : Thread nD τ).loc main_v55_5) = (args m c).stepsAcross
      ∧ r.2.mem ((c.tc : Thread nD τ).loc main_v55_6) = (args m c).zs
      ∧ r.2.mem ((c.tc : Thread nD τ).loc main_v55_7) = (args m c).xs
      ∧ r.2.mem ((c.tc : Thread nD τ).loc main_v55_8) = (args m c).memories
      ∧ r.2.mem ((c.tc : Thread nD τ).loc main_v55_9) = (args m c).gates
      ∧ r.2.mem ((c.tc : Thread nD τ).loc main_v55_10) = (args m c).keys
      ∧ r.2.mem ((c.tc : Thread nD τ).loc main_v55_11) = (args m c).values
      ∧ r.2.mem ((c.tc : Thread nD τ).loc main_v55_12) = (args m c).queries
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h.1 c).1 16).trans (arr16 m c), ((h.1 c).1 17).trans (arr17 m c), ((h.1 c).1 18).trans (arr18 m c)
     , ((h.1 c).1 19).trans (arr19 m c), ((h.1 c).1 20).trans (arr20 m c), ((h.1 c).1 21).trans (arr21 m c)
     , ((h.1 c).1 22).trans (arr22 m c), ((h.1 c).1 23).trans (arr23 m c), ((h.1 c).1 24).trans (arr24 m c)
     , ((h.1 c).1 25).trans (arr25 m c), ((h.1 c).1 26).trans (arr26 m c), ((h.1 c).1 27).trans (arr27 m c)
     , ((h.1 c).1 28).trans (arr28 m c), h.2 c⟩)
    (θ_run_and (run_main m ρ) (unchanged m ρ))

end Cert.ProjectionArray

end
-- ==== Proof.ProjectionMemory.lean ====
/-
  Where the tokens, the weights of the memory's queries and the memory's keys are finite, dividing the memory's weights first or
  last is the same.
-/
module

public import proofs.«01_k».proof.Proof.Projection
public import proofs.«01_k».proof.Proof.Equation
public import proofs.«01_k».proof.Pre_finite_memory

@[expose] public section

set_option maxRecDepth 16384
set_option maxHeartbeats 1000000

noncomputable section

open Idealize.ShloMosaic
open Cert.Online Cert.Projection Cert.FeedForward
open Cert.Equation (IsReal isReal_of_abs peak_eq)

namespace Cert.ProjectionMemory

/-- The precondition's function takes columns, swaps two axes, lays three arrays end to end and broadcasts a scalar. -/
theorem preFacts : Cert.Pre_finite_memory.Facts where
  slices_S1024x9952_S1024x1024_0_5856 := by decide
  transposes_S1024x1024_S1024x1024_1_0 := by decide
  concatenates_S16384x1024_S2048x1024_S1024x1024_S19456x1024_d0 := by decide
  bcast_S_S19456x1024 := by decide

/-- Dividing at the end is dividing every weight, for real scores. -/
theorem weighed_eq {n : ℕ} (s v : Fin n → EReal) (l : Fin n) (hs : ∀ k, IsReal (s k)) : weighed s v = attended s v := by
  let s' : ℕ → EReal := fun k => if h : k < n then s ⟨k, h⟩ else ⊥
  let v' : ℕ → EReal := fun k => if h : k < n then v ⟨k, h⟩ else ⊥
  have es : ∀ k : Fin n, s' k.val = s k := fun k => dif_pos k.isLt
  have ev : ∀ k : Fin n, v' k.val = v k := fun k => dif_pos k.isLt
  have hp : peak s' n = Finset.univ.sup s := (peak_eq s' n).trans (congrArg _ (funext es))
  have hm : mass s' n = ∑ k, Ideal.exp (s k - Finset.univ.sup s) := by
    rw [mass, Finset.sum_range]
    exact Finset.sum_congr rfl fun k _ => by rw [es, hp]
  have hb : blend s' v' n = ∑ k, Ideal.exp (s k - Finset.univ.sup s) * v k := by
    rw [blend, Finset.sum_range]
    exact Finset.sum_congr rfl fun k _ => by rw [es, ev, hp, mul_comm]
  have real : ∀ k (h : k < n), IsReal (s' k) := fun k h => (es ⟨k, h⟩).symm ▸ hs ⟨k, h⟩
  have hne : mass s' n ≠ 0 := by
    refine mass_ne_zero s' n l.val l.isLt ?_ fun k h => ?_
    · obtain ⟨x, hx⟩ := real l.val l.isLt
      rw [hx]
      exact EReal.coe_ne_bot x
    · obtain ⟨x, hx⟩ := real k h
      rw [hx]
      exact EReal.coe_ne_top x
  rw [weighed, attended, ← hm, ← hb, blend_div s' v' n hne, Finset.sum_range]
  exact Finset.sum_congr rfl fun k _ => by rw [es, ev, hp]

theorem memScale_real : IsReal memScale := by
  refine ⟨8388608 * (2 ^ 27)⁻¹, ?_⟩
  simp [memScale, Ideal.ofBits, Ideal.ieee]

variable (a : Args)

/-- The precondition of one argument structure. -/
abbrev Holds [Cert.Pre_finite_memory.Facts] : Prop :=
  Cert.Pre_finite_memory.fn (F := Ideal) a.x a.W a.gq a.uq a.gkv a.uk a.uv a.b a.memK a.memV = fun _ => 1#1

variable {a}

/-- A comparison's bit is one where it holds. -/
theorem holds_of_bit (b : Bool) (H : BitVec.ofBool b = 1#1) : b = true := by
  revert H
  cases b <;> decide

theorem pre_x [Cert.Pre_finite_memory.Facts] (H : Holds a) (r : Fin 16384) (k : Fin 1024) : IsReal (a.x (ix2 r k)) := by
  have W := congrFun H (ix2 ⟨r.val, by omega⟩ k)
  pointwise [Cert.Pre_finite_memory.fn] at W
  exact isReal_of_abs _ (of_decide_eq_true (holds_of_bit _ W))
theorem pre_memK [Cert.Pre_finite_memory.Facts] (H : Holds a) (r : Fin 2048) (k : Fin 1024) : IsReal (a.memK (ix2 r k)) := by
  have W := congrFun H (ix2 ⟨16384 + r.val, by omega⟩ k)
  pointwise [Cert.Pre_finite_memory.fn] at W
  exact isReal_of_abs _ (of_decide_eq_true (holds_of_bit _ W))
theorem pre_W [Cert.Pre_finite_memory.Facts] (H : Holds a) (k j : Fin 1024) : IsReal (a.W (ix2 k ⟨5856 + j.val, by omega⟩)) := by
  have W := congrFun H (ix2 ⟨18432 + j.val, by omega⟩ k)
  pointwise [Cert.Pre_finite_memory.fn] at W
  have real := isReal_of_abs _ (of_decide_eq_true (holds_of_bit _ W))
  rw [dif_neg (by omega), dif_neg (by omega)] at real
  exact (congrArg (fun l => IsReal (a.W (ix2 k l)))
    (Fin.ext (by show 5856 + (18432 + j.val - 16384 - 2048) = 5856 + j.val; omega))).mp real

/-- The memory's queries are real. -/
theorem part_real [Cert.Pre_finite_memory.Facts] (H : Holds a) (r : Fin 16384) (j : Fin 1024) :
    IsReal (a.part r 5856 1024 (by decide) j) :=
  Finset.sum_induction _ _ (fun _ _ => IsReal.add) ⟨0, rfl⟩ fun _ _ => (pre_x H _ _).mul (pre_W H _ _)

theorem scores_real [Cert.Pre_finite_memory.Facts] (H : Holds a) (r : Fin 16384) (h : Fin 4) (k : Fin 256) :
    IsReal (a.memScores r h k) :=
  (Finset.sum_induction _ _ (fun _ _ => IsReal.add) ⟨0, rfl⟩ fun _ _ => (part_real H _ _).mul (pre_memK H _ _)).mul
    memScale_real

/-- The memory's array, its weights divided first or last. -/
theorem weighedMemories_eq [Cert.Pre_finite_memory.Facts] (H : Holds a) : a.weighedMemories = a.memories :=
  funext fun i => weighed_eq _ _ 0 (scores_real H (i 0) _)

end Cert.ProjectionMemory

end
-- ==== Proof.ProjectionReference.lean ====
/-
  The reference of the projection over the extended reals, read at an index.
-/
module

public import proofs.«01_k».proof.Proof.Projection
public import proofs.«01_k».proof.Proof.Reference
public import proofs.«01_k».proof.Proof.Gen.Reference3Ideal.Run
public import Idealize.ShloMosaic.Lib.Pointwise

@[expose] public section

set_option maxRecDepth 16384
set_option maxHeartbeats 8000000

noncomputable section

open Idealize.ShloMosaic Idealize.ShloMosaic.TcCoe Idealize.SL.Sem
open Cert.Reference3Ideal Cert.Reference3Ideal.Gen Cert.FeedForward Cert.Projection

namespace Cert.ProjectionReference

variable (m : (ℓ : Loc nD τ sig) → Buf (Elt Ideal) ℓ) (c : Dev nD)

/-- The program's arguments. -/
def args : Args where
  x := m ((c.tc : Thread nD τ).loc main_arg0)
  W := m ((c.tc : Thread nD τ).loc main_arg1)
  gq := m ((c.tc : Thread nD τ).loc main_arg2)
  uq := m ((c.tc : Thread nD τ).loc main_arg3)
  gkv := m ((c.tc : Thread nD τ).loc main_arg4)
  uk := m ((c.tc : Thread nD τ).loc main_arg5)
  uv := m ((c.tc : Thread nD τ).loc main_arg6)
  b := m ((c.tc : Thread nD τ).loc main_arg7)
  memK := m ((c.tc : Thread nD τ).loc main_arg8)
  memV := m ((c.tc : Thread nD τ).loc main_arg9)

theorem rotary_at (r : Fin 16384) (j : Fin 64) : Value.res_main_v65 m c (ix2 r j) = (args m c).rotary r j := by
  pointwise [Value.res_main_v65, Args.rotary, Args.turn, turned, Args.part, args, angle]
theorem both_at (r : Fin 16384) (j : Fin 320) : Value.res_main_v144 m c (ix2 r j) = (args m c).both r j := by
  pointwise [Value.res_main_v144, Args.both, Args.latent, rms, len256, Projection.least, Args.rotary, Args.turn, turned, Args.part, args, angle]
theorem key_at (h : Fin 8) (r : Fin 16384) (j : Fin 256) : Value.res_main_v152 m c (ix3 h r j) = (args m c).key r h j := by
  pointwise [Value.res_main_v152, Args.key, Args.latent, rms, len256, Projection.least, Args.rotary, Args.turn, turned, Args.part, args, angle]
theorem query_at (h : Fin 8) (r : Fin 16384) (j : Fin 256) : Value.res_main_v156 m c (ix3 h j r) = (args m c).query r h j := by
  pointwise [Value.res_main_v156, Args.query, scale, Args.latentQ, rms, len384, Projection.least, Args.turn, turned, Args.part, args, angle]

section Memory

/-- The scores of the memory, by sequence, head, token and memory row. -/
def scores (x : FVec Ideal S16384x1024 .f32) (W : FVec Ideal S1024x9952 .f32) (K : FVec Ideal S2048x1024 .f32) : FVec Ideal S8x4x2048x256 .f32 :=
  mulf (Host.dotGeneral dot_S8x2048x4x256_S8x256x4x256_S8x4x2048x256_3_3_1_1_02_02 none
      (shapeCast _ (extractStridedSlice S16384x1024 ![0, 5856] (Host.dotGeneral dot_S16384x1024_S1024x9952_S16384x9952_1_0_0_1_n_n none
        x W) slices_S16384x9952_S16384x1024_0_5856) shapeCasts_S16384x1024_S8x2048x4x256)
      (shapeCast _ K shapeCasts_S2048x1024_S8x256x4x256))
    (broadcastInDim S8x4x2048x256 ![] bcast_S_S8x4x2048x256 (constant S_ .f32 0x3D800000#32))

/-- A row's greatest score. -/
def greatest (s : FVec Ideal S8x4x2048x256 .f32) : FVec Ideal S8x4x2048 .f32 :=
  maximumf (broadcastInDim S8x4x2048 ![] bcast_S_S8x4x2048 (constant S_ .f32 0xFF800000#32))
    (Host.reduce FloatOps.maximumf s (constant S_ .f32 0xFF800000#32) reducesTo_S8x4x2048x256_S8x4x2048_d3 h_S_)

/-- The exponentials of the scores less their row's greatest. -/
def exps (s : FVec Ideal S8x4x2048x256 .f32) : FVec Ideal S8x4x2048x256 .f32 :=
  Host.exp (subf s (broadcastInDim S8x4x2048x256 ![0, 1, 2, 3] bcast_S8x4x2048x1_S8x4x2048x256_0_1_2_3
    (broadcastInDim S8x4x2048x1 ![0, 1, 2] bcast_S8x4x2048_S8x4x2048x1_0_1_2 (greatest s))))

/-- The memory's values weighted by the softmax of the scores, a token to a row. -/
def weighed (V : FVec Ideal S2048x1024 .f32) (e : FVec Ideal S8x4x2048x256 .f32) : FVec Ideal S16384x1024 .bf16 :=
  truncf .bf16 (shapeCast _ (transpose S8x2048x4x256 [0, 3, 1, 2]
    (Host.dotGeneral dot_S8x256x4x256_S8x4x2048x256_S8x4x256x2048_1_3_3_2_02_01 none
      (shapeCast _ V shapeCasts_S2048x1024_S8x256x4x256)
      (Host.divf e (broadcastInDim S8x4x2048x256 ![0, 1, 2, 3] bcast_S8x4x2048x1_S8x4x2048x256_0_1_2_3
        (broadcastInDim S8x4x2048x1 ![0, 1, 2] bcast_S8x4x2048_S8x4x2048x1_0_1_2
          (Host.reduceAdd e (constant S_ .f32 0x00000000#32) reducesTo_S8x4x2048x256_S8x4x2048_d3 h_S_)))))
    transposes_S8x4x256x2048_S8x2048x4x256_0_3_1_2) shapeCasts_S8x2048x4x256_S16384x1024) bitsLt_bf16_f32

theorem scores_at (b : Fin 8) (h : Fin 4) (q : Fin 2048) (k : Fin 256) :
    scores (args m c).x (args m c).W (args m c).memK (ix4 b h q k) = (args m c).memScores ⟨b.val * 2048 + q.val, by omega⟩ h k := by
  have e : (b.val * 2048 + q.val) / 2048 = b.val := by omega
  pointwise [scores, Args.memScores, memScale, Args.part, args, e]

theorem maximumf_at (x y : FVec Ideal S8x4x2048 .f32) (j : S8x4x2048.Idx) : maximumf x y j = max (x j) (y j) := rfl

theorem floor_at (j : S8x4x2048.Idx) :
    broadcastInDim S8x4x2048 ![] bcast_S_S8x4x2048 (constant S_ .f32 0xFF800000#32 : FVec Ideal S_ .f32) j = ⊥ := Reference.minusInfinity

theorem greatest_at (s : FVec Ideal S8x4x2048x256 .f32) (b : Fin 8) (h : Fin 4) (q : Fin 2048) :
    greatest s (ix3 b h q) = Finset.univ.sup fun k : Fin 256 => s (ix4 b h q k) := by
  have R := Reference.rowMax s (constant S_ .f32 0xFF800000#32) reducesTo_S8x4x2048x256_S8x4x2048_d3 h_S_ (fun _ => Reference.minusInfinity) b h q
  rw [greatest, maximumf_at, floor_at, R]
  exact max_eq_right bot_le

theorem exps_at (s : FVec Ideal S8x4x2048x256 .f32) (b : Fin 8) (h : Fin 4) (q : Fin 2048) (k : Fin 256) :
    exps s (ix4 b h q k) = Ideal.exp (s (ix4 b h q k) - greatest s (ix3 b h q)) := by
  pointwise [exps]

theorem weighed_at (e : FVec Ideal S8x4x2048x256 .f32) (r : Fin 16384) (j : Fin 1024) :
    weighed (args m c).memV e (ix2 r j) = ∑ k : Fin 256, (args m c).memV (ix2 ⟨r.val / 2048 * 256 + k.val, by omega⟩ j)
      * Ideal.div (e (ix4 ⟨r.val / 2048, by omega⟩ ⟨j.val / 256, by omega⟩ ⟨r.val % 2048, by omega⟩ k))
        (∑ k : Fin 256, e (ix4 ⟨r.val / 2048, by omega⟩ ⟨j.val / 256, by omega⟩ ⟨r.val % 2048, by omega⟩ k)) := by
  have d : j.val / 256 * 256 + j.val % 256 = j.val := by omega
  pointwise [weighed, args, d]

theorem memory_at (r : Fin 16384) (j : Fin 1024) : weighed (args m c).memV (exps (scores (args m c).x (args m c).W (args m c).memK)) (ix2 r j) = (args m c).weighedMemory r j := by
  have e : r.val / 2048 * 2048 + r.val % 2048 = r.val := by omega
  rw [weighed_at]
  simp only [exps_at, greatest_at, scores_at, e]
  rfl

end Memory

/-- Arrays that agree at every tuple of coordinates. -/
theorem ext2 {n p : ℕ} {X Y : Matrix n p} (h : ∀ i j, X (ix2 i j) = Y (ix2 i j)) : X = Y := by
  funext i
  rw [show i = ix2 (i 0) (i 1) from by funext a; match a with | ⟨0, _⟩ => rfl | ⟨1, _⟩ => rfl]
  exact h _ _
theorem ext3 {n p q : ℕ} {X Y : Cube n p q} (h : ∀ i j k, X (ix3 i j k) = Y (ix3 i j k)) : X = Y := by
  funext i
  rw [show i = ix3 (i 0) (i 1) (i 2) from by funext a; match a with | ⟨0, _⟩ => rfl | ⟨1, _⟩ => rfl | ⟨2, _⟩ => rfl]
  exact h _ _ _
theorem ext4 {n p q o : ℕ} {X Y : (⟨4, ![n, p, q, o]⟩ : Shape).Idx → EReal} (h : ∀ i j k l, X (ix4 i j k l) = Y (ix4 i j k l)) : X = Y := by
  funext i
  rw [show i = ix4 (i 0) (i 1) (i 2) (i 3) from by funext a; match a with | ⟨0, _⟩ => rfl | ⟨1, _⟩ => rfl | ⟨2, _⟩ => rfl | ⟨3, _⟩ => rfl]
  exact h _ _ _ _

theorem run (ρ : Dev nD → PrngReg) :
    θ_run defs (onTc (τ := τ) (main (F := Ideal))) ⟨m, fun _ => 0, ρ⟩ fun r => ∀ c : Dev nD,
      r.2.mem ((c.tc : Thread nD τ).loc main_v142) = (args m c).latentQs
      ∧ r.2.mem ((c.tc : Thread nD τ).loc main_v34) = (args m c).latents
      ∧ r.2.mem ((c.tc : Thread nD τ).loc main_v65) = (args m c).rotaries
      ∧ r.2.mem ((c.tc : Thread nD τ).loc main_v144) = (args m c).boths
      ∧ r.2.mem ((c.tc : Thread nD τ).loc main_v146) = (args m c).steps
      ∧ r.2.mem ((c.tc : Thread nD τ).loc main_v147) = (args m c).stepsAcross
      ∧ r.2.mem ((c.tc : Thread nD τ).loc main_v148) = (args m c).zs
      ∧ r.2.mem ((c.tc : Thread nD τ).loc main_v149) = (args m c).xs
      ∧ r.2.mem ((c.tc : Thread nD τ).loc main_v150) = (args m c).weighedMemories
      ∧ r.2.mem ((c.tc : Thread nD τ).loc main_v151) = (args m c).gates
      ∧ r.2.mem ((c.tc : Thread nD τ).loc main_v152) = (args m c).keys
      ∧ r.2.mem ((c.tc : Thread nD τ).loc main_v154) = (args m c).values
      ∧ r.2.mem ((c.tc : Thread nD τ).loc main_v156) = (args m c).queries
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_) (Value.run (F := Ideal) m ρ)
  obtain ⟨h0, h1, h2, h3, h4, h5, h6, h7, h8, h9, h10, h11, h12, kept⟩ := h c
  refine ⟨h0.trans (ext2 fun r j => ?_),
    h1.trans (ext2 fun r j => ?_),
    h2.trans (ext2 fun r j => rotary_at m c r j),
    h3.trans (ext2 fun r j => both_at m c r j),
    h4.trans (ext2 fun r j => ?_),
    h5.trans (ext2 fun r j => ?_),
    h6.trans (ext2 fun r j => ?_),
    h7.trans (ext2 fun r j => ?_),
    h8.trans (Eq.trans (b := weighed (args m c).memV (exps (scores (args m c).x (args m c).W (args m c).memK))) (by unfold weighed exps greatest scores args; rfl) (ext2 fun r j => memory_at m c r j)),
    h9.trans (ext2 fun r j => ?_),
    h10.trans (ext3 fun h r j => key_at m c h r j),
    h11.trans (ext4 fun r j p q => ?_),
    h12.trans (ext3 fun h j r => query_at m c h r j), kept⟩
  · change _ = (args m c).latentQ r j
    pointwise [Args.latentQ, rms, len384, Projection.least, Args.part, args]
  · change _ = (args m c).latent r j
    pointwise [Args.latent, rms, len256, Projection.least, Args.part, args]
  · change _ = (args m c).step r j
    pointwise [Args.step, Args.part, args]
  · change _ = (args m c).part j 5824 32 (by decide) r
    pointwise [Args.part, args]
  · change _ = (args m c).part r 704 2048 (by decide) j
    pointwise [Args.part, args]
  · change _ = (args m c).part r 2752 3072 (by decide) j
    pointwise [Args.part, args]
  · change _ = (args m c).gate r j
    pointwise [Args.gate, Args.part, args]
    rfl
  · change _ = (args m c).valueAt r j p q
    pointwise [Args.valueAt, Args.value, Args.latent, rms, len256, Projection.least, Args.part, args]

end Cert.ProjectionReference

end
-- ==== Proof.lean ====
/-
  The certificate of three calls of the layer, the input projection, the prompt's attention and the merge: the frames, the
  named constant, and the algebraic claims.
-/
module

public import proofs.«01_k».proof.Defs
public import proofs.«01_k».proof.Proof.Array
public import proofs.«01_k».proof.Proof.Equation
public import proofs.«01_k».proof.Proof.MergeArray
public import proofs.«01_k».proof.Proof.MergeReference
public import proofs.«01_k».proof.Proof.ProjectionFrameBits
public import proofs.«01_k».proof.Proof.ProjectionArray
public import proofs.«01_k».proof.Proof.ProjectionMemory
public import proofs.«01_k».proof.Proof.ProjectionReference
public import Idealize.ShloMosaic.Lib.Quiescent
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame.Runs
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal.Run
public import proofs.«01_k».proof.Proof.Gen.Reference3Ideal
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- A kernel's arguments that satisfy the precondition have real queries and keys. -/
theorem real_args [Cert.Pre_finite_scores.Facts]
    (m : (ℓ : Loc KernelIdeal.nD KernelIdeal.τ KernelIdeal.sig) → Buf (Elt Ideal) ℓ) (c : Dev KernelIdeal.nD)
    (h : Cert.Pre_KernelIdeal_finite_scores m) :
    (∀ i, Equation.IsReal (m ((c : Thread KernelIdeal.nD KernelIdeal.τ).loc KernelIdeal.main_arg0) i))
    ∧ ∀ i, Equation.IsReal (m ((c : Thread KernelIdeal.nD KernelIdeal.τ).loc KernelIdeal.main_arg1) i) := by
  constructor <;> intro i
  · rw [show i = ix3 (i 0) (i 1) (i 2) from by funext a; match a with | ⟨0, _⟩ => rfl | ⟨1, _⟩ => rfl | ⟨2, _⟩ => rfl]
    exact (Equation.pre_apply (i 0) (i 1) (i 2) (h c)).1
  · rw [show i = ix3 (i 0) (i 1) (i 2) from by funext a; match a with | ⟨0, _⟩ => rfl | ⟨1, _⟩ => rfl | ⟨2, _⟩ => rfl]
    exact (Equation.pre_apply (i 0) (i 2) (i 1) (h c)).2

theorem algebraic [Cert.Pre_finite_scores.Facts] :
    Cert.algebraic_KernelIdeal_ReferenceIdeal_pre_finite_scores := by
  intro m ρ m' ρ' hp hag
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  rw [Cert.Reference.res_eq, (hag c).1, (hag c).2.1, (hag c).2.2, Cert.Array.arr_eq]
  exact funext fun i => Equation.reference_eq (real_args m c hp).1 (real_args m c hp).2 i

theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m ρ m' ρ' _ hag
  refine ⟨_, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  refine (Cert.MergeReference.results_eq m' c).trans ?_
  obtain ⟨e0, e1, e2, e3, e4, e5, e6, e7, e8, e9, e10, e11, e12, e13, e14, e15, e16⟩ := hag c
  simp only [Cert.MergeReference.arg, e0, e1, e2, e3, e4, e5, e6, e7, e8, e9, e10, e11, e12, e13, e14, e15, e16]
  exact (Cert.MergeArray.arr_eq m c).symm

theorem frame_reference3 : Cert.quiescent_Reference3Ideal := fun m ρ _ =>
  (θ_run Cert.Reference3Ideal.defs _ _).mono
    (fun _ h => ⟨fun c => (h c).2.2.2.2.2.2.2.2.2.2.2.2.2, sem_eq_zero_of_no_sems (by decide) _⟩)
    (Cert.ProjectionReference.run m ρ)

theorem algebraic3 [Cert.Pre_finite_memory.Facts] :
    Cert.algebraic_Kernel3Ideal_Reference3Ideal_pre_finite_memory := by
  intro m ρ m' ρ' hp hag
  have same : ∀ c, ProjectionReference.args m' c = ProjectionBlock.args m c := fun c => by
    obtain ⟨e0, e1, e2, e3, e4, e5, e6, e7, e8, e9⟩ := hag c
    simp only [ProjectionReference.args, ProjectionBlock.args, e0, e1, e2, e3, e4, e5, e6, e7, e8, e9]
  have last : ∀ c, (ProjectionReference.args m' c).weighedMemories = (ProjectionReference.args m' c).memories := fun c =>
    ProjectionMemory.weighedMemories_eq ((same c).symm ▸ hp c)
  have run := ProjectionReference.run m' ρ'
  simp only [last] at run
  simp only [same] at run
  exact ⟨_, _, _, _, _, _, _, _, _, _, _, _, _, ProjectionArray.run m ρ, run⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Equation.preFacts, ProjectionMemory.preFacts,
    fun m ρ _ => Cert.Kernel.Gen.frame m ρ, fun m ρ _ => Cert.KernelIdeal.Gen.frame m ρ,
    haveI := Equation.preFacts; fun m ρ _ => Cert.KernelIdeal.Gen.frame m ρ, frame_reference,
    haveI := Equation.preFacts; fun m ρ _ => frame_reference m ρ trivial,
    fun m ρ _ => Cert.Kernel2.Gen.frame m ρ, fun m ρ _ => Cert.Kernel2Ideal.Gen.frame m ρ, frame_reference2,
    fun m ρ _ => Cert.ProjectionFrameBits.frame m ρ, fun m ρ _ => Cert.ProjectionFrame.frame m ρ,
    haveI := ProjectionMemory.preFacts; fun m ρ _ => Cert.ProjectionFrame.frame m ρ, frame_reference3,
    haveI := ProjectionMemory.preFacts; fun m ρ _ => frame_reference3 m ρ trivial,
    IdealRules.named_const.statement Cert.KernelIdeal.κ "mask" .f32 0xF149F2CA#32 ⊥ rfl,
    haveI := Equation.preFacts; algebraic, trivial, algebraic2, trivial,
    haveI := ProjectionMemory.preFacts; algebraic3⟩

end Cert.Proof

end
